-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Combine [hPre_counts_in_range : Cert.Pre_counts_in_range.Facts] (m : (ℓ : Loc Cert.Combine.nD Cert.Combine.τ Cert.Combine.sig) → Buf (Elt Bits) ℓ) : Prop :=
  ∀ c : Dev Cert.Combine.nD,
    (Cert.Pre_counts_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6))) = (fun _ => 1#1)

def Pre_CombineIdeal [hPre_counts_in_range : Cert.Pre_counts_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_counts_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineIdeal_slots_in_chunk [hPre_slots_in_chunk : Cert.Pre_slots_in_chunk.Facts] (m : (ℓ : Loc Cert.CombineIdeal.nD Cert.CombineIdeal.τ Cert.CombineIdeal.sig) → Buf (Elt Ideal) ℓ) : Prop :=
  ∀ c : Dev Cert.CombineIdeal.nD,
    (Cert.Pre_slots_in_chunk.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_slots_in_chunk [hPre_slots_in_chunk : Cert.Pre_slots_in_chunk.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_slots_in_chunk.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Combine [hCombine : Cert.Combine.Facts] [hPre_counts_in_range : Cert.Pre_counts_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] [hPre_counts_in_range : Cert.Pre_counts_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineIdeal_pre_slots_in_chunk [hCombineIdeal : Cert.CombineIdeal.Facts] [hPre_slots_in_chunk : Cert.Pre_slots_in_chunk.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_slots_in_chunk m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_CombineRefIdeal_pre_slots_in_chunk [hCombineRefIdeal : Cert.CombineRefIdeal.Facts] [hPre_slots_in_chunk : Cert.Pre_slots_in_chunk.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_slots_in_chunk m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Combine_CombineIdeal : Prop :=
  True

def algebraic_CombineIdeal_CombineRefIdeal_pre_slots_in_chunk [hCombineIdeal : Cert.CombineIdeal.Facts] [hCombineRefIdeal : Cert.CombineRefIdeal.Facts] [hPre_slots_in_chunk : Cert.Pre_slots_in_chunk.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_slots_in_chunk m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v19)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v19) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v22) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v11_0)) (v1 : (c : Dev Cert.ProjectIdeal.nD) → Buf (Elt Ideal) ((c.tc : Thread Cert.ProjectIdeal.nD Cert.ProjectIdeal.τ).loc Cert.ProjectIdeal.main_v11_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v11_0) = v0 c
          ∧ r.2.mem ((c.tc : Thread Cert.ProjectIdeal.nD Cert.ProjectIdeal.τ).loc Cert.ProjectIdeal.main_v11_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v49) = v0 c
          ∧ r.2.mem ((c.tc : Thread Cert.ProjectRefIdeal.nD Cert.ProjectRefIdeal.τ).loc Cert.ProjectRefIdeal.main_v50) = v1 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v18_0)) (v1 : (c : Dev Cert.MixIdeal.nD) → Buf (Elt Ideal) ((c.tc : Thread Cert.MixIdeal.nD Cert.MixIdeal.τ).loc Cert.MixIdeal.main_v18_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18_0) = v0 c
          ∧ r.2.mem ((c.tc : Thread Cert.MixIdeal.nD Cert.MixIdeal.τ).loc Cert.MixIdeal.main_v18_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v36) = v0 c
          ∧ r.2.mem ((c.tc : Thread Cert.MixRefIdeal.nD Cert.MixRefIdeal.τ).loc Cert.MixRefIdeal.main_v56) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def Claim : Prop :=
  ∃ (hFfn : Cert.Ffn.Facts) (hFfnIdeal : Cert.FfnIdeal.Facts) (hFfnRefIdeal : Cert.FfnRefIdeal.Facts) (hCombine : Cert.Combine.Facts) (hCombineIdeal : Cert.CombineIdeal.Facts) (hCombineRefIdeal : Cert.CombineRefIdeal.Facts) (hProject : Cert.Project.Facts) (hProjectIdeal : Cert.ProjectIdeal.Facts) (hProjectRefIdeal : Cert.ProjectRefIdeal.Facts) (hMix : Cert.Mix.Facts) (hMixIdeal : Cert.MixIdeal.Facts) (hMixRefIdeal : Cert.MixRefIdeal.Facts) (hPre_counts_in_range : Cert.Pre_counts_in_range.Facts) (hPre_slots_in_chunk : Cert.Pre_slots_in_chunk.Facts),
    quiescent_Ffn (hFfn := hFfn)
    ∧ quiescent_FfnIdeal (hFfnIdeal := hFfnIdeal)
    ∧ quiescent_FfnRefIdeal (hFfnRefIdeal := hFfnRefIdeal)
    ∧ quiescent_Combine (hCombine := hCombine) (hPre_counts_in_range := hPre_counts_in_range)
    ∧ quiescent_CombineIdeal (hCombineIdeal := hCombineIdeal) (hPre_counts_in_range := hPre_counts_in_range)
    ∧ quiescent_CombineIdeal_pre_slots_in_chunk (hCombineIdeal := hCombineIdeal) (hPre_slots_in_chunk := hPre_slots_in_chunk)
    ∧ quiescent_CombineRefIdeal (hCombineRefIdeal := hCombineRefIdeal)
    ∧ quiescent_CombineRefIdeal_pre_slots_in_chunk (hCombineRefIdeal := hCombineRefIdeal) (hPre_slots_in_chunk := hPre_slots_in_chunk)
    ∧ quiescent_Project (hProject := hProject)
    ∧ quiescent_ProjectIdeal (hProjectIdeal := hProjectIdeal)
    ∧ quiescent_ProjectRefIdeal (hProjectRefIdeal := hProjectRefIdeal)
    ∧ quiescent_Mix (hMix := hMix)
    ∧ quiescent_MixIdeal (hMixIdeal := hMixIdeal)
    ∧ quiescent_MixRefIdeal (hMixRefIdeal := hMixRefIdeal)
    ∧ preserves_Ffn_FfnIdeal
    ∧ algebraic_FfnIdeal_FfnRefIdeal (hFfnIdeal := hFfnIdeal) (hFfnRefIdeal := hFfnRefIdeal)
    ∧ preserves_Combine_CombineIdeal
    ∧ algebraic_CombineIdeal_CombineRefIdeal_pre_slots_in_chunk (hCombineIdeal := hCombineIdeal) (hCombineRefIdeal := hCombineRefIdeal) (hPre_slots_in_chunk := hPre_slots_in_chunk)
    ∧ preserves_Project_ProjectIdeal
    ∧ algebraic_ProjectIdeal_ProjectRefIdeal (hProjectIdeal := hProjectIdeal) (hProjectRefIdeal := hProjectRefIdeal)
    ∧ preserves_Mix_MixIdeal
    ∧ algebraic_MixIdeal_MixRefIdeal (hMixIdeal := hMixIdeal) (hMixRefIdeal := hMixRefIdeal)
-- ==== Pre_counts_in_range.lean ====
abbrev S8x4096x16 : Shape := ⟨3, ![8, 4096, 16]⟩
abbrev S8x16x32 : Shape := ⟨3, ![8, 16, 32]⟩
abbrev S16x4096x1024 : Shape := ⟨3, ![16, 4096, 1024]⟩
abbrev S8x4096x1024 : Shape := ⟨3, ![8, 4096, 1024]⟩
abbrev S8x1x1024 : Shape := ⟨3, ![8, 1, 1024]⟩
abbrev S1024 : Shape := ⟨1, ![1024]⟩
abbrev S_ : Shape := ⟨0, ![]⟩

class Facts : Prop where
  bcast_S_S8x16x32 : S_.BroadcastsInDim S8x16x32 (![] : Fin 0 → Fin S8x16x32.rank)

variable [Facts]

def fn {F : FTy → Type} [FloatOps F] (main_arg0 : IVec S8x4096x16 32) (main_arg1 : FVec F S8x4096x16 .f32) (main_arg2 : IVec S8x16x32 32) (main_arg3 : FVec F S16x4096x1024 .bf16) (main_arg4 : FVec F S8x4096x1024 .f32) (main_arg5 : FVec F S8x1x1024 .f32) (main_arg6 : FVec F S1024 .f32) : IVec S8x16x32 1 :=
  let main_c : IVec S_ 32 := constantI S_ 32 0#32
  let main_v0 : IVec S8x16x32 32 := broadcastInDim S8x16x32 ![] bcast_S_S8x16x32 main_c
  let main_v1 : IVec S8x16x32 1 := cmpi .sge main_arg2 main_v0
  let main_c_0 : IVec S_ 32 := constantI S_ 32 512#32
  let main_v2 : IVec S8x16x32 32 := broadcastInDim S8x16x32 ![] bcast_S_S8x16x32 main_c_0
  let main_v3 : IVec S8x16x32 1 := cmpi .sle main_arg2 main_v2
  let main_v4 : IVec S8x16x32 1 := andi main_v1 main_v3
  main_v4
-- ==== Pre_slots_in_chunk.lean ====
abbrev S8x4096x16 : Shape := ⟨3, ![8, 4096, 16]⟩
abbrev S8x16x32 : Shape := ⟨3, ![8, 16, 32]⟩
abbrev S16x4096x1024 : Shape := ⟨3, ![16, 4096, 1024]⟩
abbrev S8x4096x1024 : Shape := ⟨3, ![8, 4096, 1024]⟩
abbrev S8x1x1024 : Shape := ⟨3, ![8, 1, 1024]⟩
abbrev S1024 : Shape := ⟨1, ![1024]⟩
abbrev S8x16x8 : Shape := ⟨3, ![8, 16, 8]⟩
abbrev S8x16x7 : Shape := ⟨3, ![8, 16, 7]⟩
abbrev S8x16x1 : Shape := ⟨3, ![8, 16, 1]⟩
abbrev S_ : Shape := ⟨0, ![]⟩
abbrev S8x8x512x16 : Shape := ⟨4, ![8, 8, 512, 16]⟩
abbrev S8x8x16 : Shape := ⟨3, ![8, 8, 16]⟩
abbrev S8x8x1x16 : Shape := ⟨4, ![8, 8, 1, 16]⟩

class Facts : Prop where
  slicesBy_S8x16x32_S8x16x8_0s1_0s1_0s4 : S8x16x32.SlicesBy (![0, 0, 0] : Fin 3 → Nat) ![1, 1, 4] S8x16x8
  slices_S8x16x8_S8x16x7_0_0_1 : S8x16x8.Slices ![0, 0, 1] S8x16x7
  slices_S8x16x8_S8x16x1_0_0_0 : S8x16x8.Slices ![0, 0, 0] S8x16x1
  bcast_S_S8x16x1 : S_.BroadcastsInDim S8x16x1 (![] : Fin 0 → Fin S8x16x1.rank)
  concatenates_S8x16x7_S8x16x1_S8x16x8_d2 : Shape.Concatenates [S8x16x7, S8x16x1] S8x16x8 2
  shapeCasts_S8x4096x16_S8x8x512x16 : S8x4096x16.ShapeCasts S8x8x512x16
  transposes_S8x16x8_S8x8x16_0_2_1 : S8x16x8.Transposes [0, 2, 1] S8x8x16
  bcast_S8x8x16_S8x8x1x16_0_1_3 : S8x8x16.BroadcastsInDim S8x8x1x16 (![0, 1, 3] : Fin 3 → Fin S8x8x1x16.rank)
  bcast_S_S8x8x1x16 : S_.BroadcastsInDim S8x8x1x16 (![] : Fin 0 → Fin S8x8x1x16.rank)
  bcast_S_S8x8x512x16 : S_.BroadcastsInDim S8x8x512x16 (![] : Fin 0 → Fin S8x8x512x16.rank)
  bcast_S8x8x1x16_S8x8x512x16_0_1_2_3 : S8x8x1x16.BroadcastsInDim S8x8x512x16 (![0, 1, 2, 3] : Fin 4 → Fin S8x8x512x16.rank)

variable [Facts]

def fn_part1 {F : FTy → Type} [FloatOps F] (main_v5 : IVec S8x8x512x16 32) (main_v14 : IVec S8x8x1x16 1) (main_v16 : IVec S8x8x512x16 1) (main_v18 : IVec S8x8x512x16 1) (main_v19 : IVec S8x8x512x16 32) : IVec S8x8x512x16 1 :=
  let main_v20 : IVec S8x8x512x16 1 := cmpi .slt main_v5 main_v19
  let main_v21 : IVec S8x8x512x16 1 := andi main_v18 main_v20
  let main_v22 : IVec S8x8x512x16 1 := ori main_v16 main_v21
  let main_v23 : IVec S8x8x512x16 1 := broadcastInDim S8x8x512x16 ![0, 1, 2, 3] bcast_S8x8x1x16_S8x8x512x16_0_1_2_3 main_v14
  let main_v24 : IVec S8x8x512x16 1 := andi main_v23 main_v22
  main_v24

def fn {F : FTy → Type} [FloatOps F] (main_arg0 : IVec S8x4096x16 32) (main_arg1 : FVec F S8x4096x16 .f32) (main_arg2 : IVec S8x16x32 32) (main_arg3 : FVec F S16x4096x1024 .bf16) (main_arg4 : FVec F S8x4096x1024 .f32) (main_arg5 : FVec F S8x1x1024 .f32) (main_arg6 : FVec F S1024 .f32) : IVec S8x8x512x16 1 :=
  let main_v0 : IVec S8x16x8 32 := (Host.slice S8x16x8 ![0, 0, 0] ![1, 1, 4] · slicesBy_S8x16x32_S8x16x8_0s1_0s1_0s4) main_arg2
  let main_v1 : IVec S8x16x7 32 := (extractStridedSlice S8x16x7 ![0, 0, 1] · slices_S8x16x8_S8x16x7_0_0_1) main_v0
  let main_v2 : IVec S8x16x1 32 := (extractStridedSlice S8x16x1 ![0, 0, 0] · slices_S8x16x8_S8x16x1_0_0_0) main_v0
  let main_c : IVec S_ 32 := constantI S_ 32 512#32
  let main_v3 : IVec S8x16x1 32 := broadcastInDim S8x16x1 ![] bcast_S_S8x16x1 main_c
  let main_v4 : IVec S8x16x8 32 := (fun a b => concatenate S8x16x8 2 [⟨S8x16x7, a⟩, ⟨S8x16x1, b⟩] concatenates_S8x16x7_S8x16x1_S8x16x8_d2) main_v1 main_v3
  let main_v5 : IVec S8x8x512x16 32 := shapeCast S8x8x512x16 main_arg0 shapeCasts_S8x4096x16_S8x8x512x16
  let main_v6 : IVec S8x8x16 32 := (transpose S8x8x16 [0, 2, 1] · transposes_S8x16x8_S8x8x16_0_2_1) main_v0
  let main_v7 : IVec S8x8x1x16 32 := broadcastInDim S8x8x1x16 ![0, 1, 3] bcast_S8x8x16_S8x8x1x16_0_1_3 main_v6
  let main_v8 : IVec S8x8x16 32 := (transpose S8x8x16 [0, 2, 1] · transposes_S8x16x8_S8x8x16_0_2_1) main_v4
  let main_v9 : IVec S8x8x1x16 32 := broadcastInDim S8x8x1x16 ![0, 1, 3] bcast_S8x8x16_S8x8x1x16_0_1_3 main_v8
  let main_c_0 : IVec S_ 32 := constantI S_ 32 0#32
  let main_v10 : IVec S8x8x1x16 32 := broadcastInDim S8x8x1x16 ![] bcast_S_S8x8x1x16 main_c_0
  let main_v11 : IVec S8x8x1x16 1 := cmpi .sge main_v7 main_v10
  let main_c_1 : IVec S_ 32 := constantI S_ 32 512#32
  let main_v12 : IVec S8x8x1x16 32 := broadcastInDim S8x8x1x16 ![] bcast_S_S8x8x1x16 main_c_1
  let main_v13 : IVec S8x8x1x16 1 := cmpi .sle main_v7 main_v12
  let main_v14 : IVec S8x8x1x16 1 := andi main_v11 main_v13
  let main_c_2 : IVec S_ 32 := constantI S_ 32 0#32
  let main_v15 : IVec S8x8x512x16 32 := broadcastInDim S8x8x512x16 ![] bcast_S_S8x8x512x16 main_c_2
  let main_v16 : IVec S8x8x512x16 1 := cmpi .slt main_v5 main_v15
  let main_v17 : IVec S8x8x512x16 32 := broadcastInDim S8x8x512x16 ![0, 1, 2, 3] bcast_S8x8x1x16_S8x8x512x16_0_1_2_3 main_v7
  let main_v18 : IVec S8x8x512x16 1 := cmpi .sle main_v17 main_v5
  let main_v19 : IVec S8x8x512x16 32 := broadcastInDim S8x8x512x16 ![0, 1, 2, 3] bcast_S8x8x1x16_S8x8x512x16_0_1_2_3 main_v9
  fn_part1 (F := F) main_v5 main_v14 main_v16 main_v18 main_v19
-- ==== Ffn.lean ====
abbrev S16x4096x1024 : Shape := ⟨3, ![16, 4096, 1024]⟩
abbrev S16x1024x2816 : Shape := ⟨3, ![16, 1024, 2816]⟩
abbrev S16x2816x1024 : Shape := ⟨3, ![16, 2816, 1024]⟩
abbrev S1x2048x1024 : Shape := ⟨3, ![1, 2048, 1024]⟩
abbrev S1x1024x256 : Shape := ⟨3, ![1, 1024, 256]⟩
abbrev S1x256x1024 : Shape := ⟨3, ![1, 256, 1024]⟩
abbrev S2048x1024 : Shape := ⟨2, ![2048, 1024]⟩
abbrev S1024x256 : Shape := ⟨2, ![1024, 256]⟩
abbrev S256x1024 : Shape := ⟨2, ![256, 1024]⟩
abbrev S1x512x1024 : Shape := ⟨3, ![1, 512, 1024]⟩
abbrev S512x1024 : Shape := ⟨2, ![512, 1024]⟩
abbrev S512x256 : Shape := ⟨2, ![512, 256]⟩

abbrev nBuf : Space → Nat
  | .hbm => 5
  | .vmem => 11
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x2816, .f32⟩
  | .hbm, ⟨2, _⟩ => ⟨S16x1024x2816, .f32⟩
  | .hbm, ⟨3, _⟩ => ⟨S16x2816x1024, .f32⟩
  | .hbm, ⟨4, _⟩ => ⟨S16x4096x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S2048x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v92 : BitVec 1 := Scalar.cmpi .eq arg2 c10_i32
  let v93 : BitVec 32 := Scalar.extui v92
  let c0_i32_57 : BitVec 32 := 0#32
  let v94 : BitVec 1 := Scalar.cmpi .ne v93 c0_i32_57
  v94

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnRefIdeal.lean ====
abbrev S16x4096x1024 : Shape := ⟨3, ![16, 4096, 1024]⟩
abbrev S16x1024x2816 : Shape := ⟨3, ![16, 1024, 2816]⟩
abbrev S16x2816x1024 : Shape := ⟨3, ![16, 2816, 1024]⟩
abbrev S16x4096x2816 : Shape := ⟨3, ![16, 4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x1024x2816, .f32⟩
  | .hbm, ⟨2, _⟩ => ⟨S16x1024x2816, .f32⟩
  | .hbm, ⟨3, _⟩ => ⟨S16x2816x1024, .f32⟩
  | .hbm, ⟨4, _⟩ => ⟨S16x4096x1024, .f32⟩
  | .hbm, ⟨5, _⟩ => ⟨S16x4096x2816, .f32⟩
  | .hbm, ⟨6, _⟩ => ⟨S16x4096x2816, .f32⟩
  | .hbm, ⟨7, _⟩ => ⟨S16x4096x2816, .f32⟩
  | .hbm, ⟨8, _⟩ => ⟨S_, .f32⟩
  | .hbm, ⟨9, _⟩ => ⟨S16x4096x2816, .f32⟩
  | .hbm, ⟨10, _⟩ => ⟨S16x4096x2816, .f32⟩
  | .hbm, ⟨11, _⟩ => ⟨S_, .f32⟩
  | .hbm, ⟨12, _⟩ => ⟨S16x4096x2816, .f32⟩
  | .hbm, ⟨13, _⟩ => ⟨S16x4096x2816, .f32⟩
  | .hbm, ⟨14, _⟩ => ⟨S16x4096x2816, .f32⟩
  | .hbm, ⟨15, _⟩ => ⟨S16x4096x2816, .f32⟩
  | .hbm, ⟨16, _⟩ => ⟨S16x4096x2816, .f32⟩
  | .hbm, ⟨17, _⟩ => ⟨S16x4096x1024, .f32⟩
  | .hbm, ⟨18, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Combine.lean ====
abbrev S8x4096x16 : Shape := ⟨3, ![8, 4096, 16]⟩
abbrev S8x16x32 : Shape := ⟨3, ![8, 16, 32]⟩
abbrev S16x4096x1024 : Shape := ⟨3, ![16, 4096, 1024]⟩
abbrev S8x4096x1024 : Shape := ⟨3, ![8, 4096, 1024]⟩
abbrev S8x1x1024 : Shape := ⟨3, ![8, 1, 1024]⟩
abbrev S1024 : Shape := ⟨1, ![1024]⟩
abbrev S8x16x8 : Shape := ⟨3, ![8, 16, 8]⟩
abbrev S8x16x7 : Shape := ⟨3, ![8, 16, 7]⟩
abbrev S8x16x1 : Shape := ⟨3, ![8, 16, 1]⟩
abbrev S_ : Shape := ⟨0, ![]⟩
abbrev S8x8 : Shape := ⟨2, ![8, 8]⟩
abbrev S8x8x16 : Shape := ⟨3, ![8, 8, 16]⟩
abbrev S64 : Shape := ⟨1, ![64]⟩
abbrev S1x1024 : Shape := ⟨2, ![1, 1024]⟩
abbrev S1x512x16 : Shape := ⟨3, ![1, 512, 16]⟩
abbrev S16x512x1024 : Shape := ⟨3, ![16, 512, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x16 : Shape := ⟨2, ![512, 16]⟩
abbrev S512x128 : Shape := ⟨2, ![512, 128]⟩
abbrev S1 : Shape := ⟨1, ![1]⟩
abbrev S512x1 : Shape := ⟨2, ![512, 1]⟩
abbrev S1x128x1024 : Shape := ⟨3, ![1, 128, 1024]⟩
abbrev S128x1024 : Shape := ⟨2, ![128, 1024]⟩
abbrev S512x256 : Shape := ⟨2, ![512, 256]⟩
abbrev S256x1024 : Shape := ⟨2, ![256, 1024]⟩
abbrev S512 : Shape := ⟨1, ![512]⟩

abbrev nBuf : Space → Nat
  | .hbm => 64
  | .vmem => 14
  | .smem => 2
  | _ => 0

abbrev bufTy : (tb : Table) → Fin (tcTables nBuf tb) → BufTy
  | .hbm, ⟨0, _⟩ => ⟨S8x4096x16, .i32⟩
  | .hbm, ⟨1, _⟩ => ⟨S8x4096x16, .f32⟩
  | .hbm, ⟨2, _⟩ => ⟨S8x16x32, .i32⟩
  | .hbm, ⟨3, _⟩ => ⟨S16x4096x1024, .bf16⟩
  | .hbm, ⟨4, _⟩ => ⟨S8x4096x1024, .f32⟩
  | .hbm, ⟨5, _⟩ => ⟨S8x1x1024, .f32⟩
  | .hbm, ⟨6, _⟩ => ⟨S1024, .f32⟩
  | .hbm, ⟨7, _⟩ => ⟨S8x16x8, .i32⟩
  | .hbm, ⟨8, _⟩ => ⟨S8x16x7, .i32⟩
  | .hbm, ⟨9, _⟩ => ⟨S8x16x1, .i32⟩
  | .hbm, ⟨10, _⟩ => ⟨S_, .i32⟩
  | .hbm, ⟨11, _⟩ => ⟨S8x16x1, .i32⟩
  | .hbm, ⟨12, _⟩ => ⟨S8x16x8, .i32⟩
  | .hbm, ⟨13, _⟩ => ⟨S_, .i32⟩
  | .hbm, ⟨14, _⟩ => ⟨S_, .i32⟩
  | .hbm, ⟨15, _⟩ => ⟨S8x16x8, .i32⟩
  | .hbm, ⟨16, _⟩ => ⟨S8x16x8, .i32⟩
  | .hbm, ⟨17, _⟩ => ⟨S8x16x8, .i32⟩
  | .hbm, ⟨18, _⟩ => ⟨S_, .i32⟩
  | .hbm, ⟨19, _⟩ => ⟨S8x16x8, .i32⟩
  | .hbm, ⟨20, _⟩ => ⟨S8x16x8, .i1⟩
  | .hbm, ⟨21, _⟩ => ⟨S8x16x8, .i32⟩
  | .hbm, ⟨22, _⟩ => ⟨S8x16x8, .i32⟩
  | .hbm, ⟨23, _⟩ => ⟨S_, .i32⟩
  | .hbm, ⟨24, _⟩ => ⟨S8x16x8, .i32⟩
  | .hbm, ⟨25, _⟩ => ⟨S8x16x8, .i1⟩
  | .hbm, ⟨26, _⟩ => ⟨S8x16x8, .i1⟩
  | .hbm, ⟨27, _⟩ => ⟨S_, .i32⟩
  | .hbm, ⟨28, _⟩ => ⟨S8x16x8, .i32⟩
  | .hbm, ⟨29, _⟩ => ⟨S8x16x8, .i32⟩
  | .hbm, ⟨30, _⟩ => ⟨S8x16x8, .i32⟩
  | .hbm, ⟨31, _⟩ => ⟨S_, .i32⟩
  | .hbm, ⟨32, _⟩ => ⟨S8x16x8, .i32⟩
  | .hbm, ⟨33, _⟩ => ⟨S8x16x8, .i32⟩
  | .hbm, ⟨34, _⟩ => ⟨S8x16x8, .i32⟩
  | .hbm, ⟨35, _⟩ => ⟨S_, .i32⟩
  | .hbm, ⟨36, _⟩ => ⟨S8x16x8, .i32⟩
  | .hbm, ⟨37, _⟩ => ⟨S8x16x8, .i32⟩
  | .hbm, ⟨38, _⟩ => ⟨S_, .i32⟩
  | .hbm, ⟨39, _⟩ => ⟨S8x16x8, .i32⟩
  | .hbm, ⟨40, _⟩ => ⟨S8x16x8, .i32⟩
  | .hbm, ⟨41, _⟩ => ⟨S_, .i32⟩
  | .hbm, ⟨42, _⟩ => ⟨S_, .i32⟩
  | .hbm, ⟨43, _⟩ => ⟨S8x16x8, .i32⟩
  | .hbm, ⟨44, _⟩ => ⟨S8x16x8, .i32⟩
  | .hbm, ⟨45, _⟩ => ⟨S8x16x8, .i32⟩
  | .hbm, ⟨46, _⟩ => ⟨S_, .i32⟩
  | .hbm, ⟨47, _⟩ => ⟨S8x16x8, .i32⟩
  | .hbm, ⟨48, _⟩ => ⟨S8x16x8, .i1⟩
  | .hbm, ⟨49, _⟩ => ⟨S8x16x8, .i32⟩
  | .hbm, ⟨50, _⟩ => ⟨S8x16x8, .i32⟩
  | .hbm, ⟨51, _⟩ => ⟨S_, .i32⟩
  | .hbm, ⟨52, _⟩ => ⟨S8x16x8, .i32⟩
  | .hbm, ⟨53, _⟩ => ⟨S8x16x8, .i1⟩
  | .hbm, ⟨54, _⟩ => ⟨S8x16x8, .i1⟩
  | .hbm, ⟨55, _⟩ => ⟨S_, .i32⟩
  | .hbm, ⟨56, _⟩ => ⟨S8x16x8, .i32⟩
  | .hbm, ⟨57, _⟩ => ⟨S8x16x8, .i32⟩
  | .hbm, ⟨58, _⟩ => ⟨S8x16x8, .i32⟩
  | .hbm, ⟨59, _⟩ => ⟨S_, .i32⟩
  | .hbm, ⟨60, _⟩ => ⟨S8x8, .i32⟩
  | .hbm, ⟨61, _⟩ => ⟨S8x8x16, .i32⟩
  | .hbm, ⟨62, _⟩ => ⟨S1x1024, .f32⟩
  | .hbm, ⟨63, _⟩ => ⟨S8x4096x1024, .f32⟩
  | .local _ .vmem, ⟨0, _⟩ => ⟨S1x512x16, .i32⟩
  | .local _ .vmem, ⟨1, _⟩ => ⟨S1x512x16, .i32⟩
  | .local _ .vmem, ⟨2, _⟩ => ⟨S1x512x16, .f32⟩
  | .local _ .vmem, ⟨3, _⟩ => ⟨S1x512x16, .f32⟩
  | .local _ .vmem, ⟨4, _⟩ => ⟨S16x512x1024, .bf16⟩
  | .local _ .vmem, ⟨5, _⟩ => ⟨S16x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x1024, .f32⟩
  | .local _ .smem, ⟨0, _⟩ => ⟨S1024, .i32⟩
  | .local _ .smem, ⟨1, _⟩ => ⟨S64, .i32⟩
  | _, _ => ⟨S8x4096x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v13 : Ref sig .tc := ⟨.hbm, 58, rfl⟩
abbrev main_c_5 : Ref sig .tc := ⟨.hbm, 59, rfl⟩
abbrev main_v14 : Ref sig .tc := ⟨.hbm, 60, rfl⟩
abbrev main_v15 : Ref sig .tc := ⟨.hbm, 61, rfl⟩
abbrev main_v18 : Ref sig .tc := ⟨.hbm, 62, rfl⟩
abbrev main_v19 : Ref sig .tc := ⟨.hbm, 63, rfl⟩
abbrev main_v16 : Ref sig .tc := ⟨.smem, 0, rfl⟩
abbrev main_v17 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

abbrev pre0 : Pipeline.Prefetch sig := ⟨2, ![main_v16.idx, main_v17.idx], fun | 0 => main_v16.names | 1 => main_v17.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v9 : BitVec 32 := Scalar.muli arg0 c8_i32
  let arg1 : BitVec 32 := BitVec.ofNat 32 (i 1).val
  let v10 : BitVec 32 := Scalar.addi v9 arg1
  let v11 : Index := Scalar.indexCast v10
  ![v11.toNat]
@[reducible] def k0_t1_loop (v12 : BitVec 32) : Scf.Loop 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩

def k0_off2 (i : grid0.Coords) : Fin 1 → Nat :=
  let arg0 : BitVec 32 := BitVec.ofNat 32 (i 0).val
  let c8_i32_26 : BitVec 32 := 8#32
  let v43 : BitVec 32 := Scalar.muli arg0 c8_i32_26
  let arg1 : BitVec 32 := BitVec.ofNat 32 (i 1).val
  let v44 : BitVec 32 := Scalar.addi v43 arg1
  let c16_i32 : BitVec 32 := 16#32
  let v45 : BitVec 32 := Scalar.muli v44 c16_i32
  let c0_i32_27 : BitVec 32 := 0#32
  let v46 : BitVec 32 := Scalar.addi v45 c0_i32_27
  let v47 : Index := Scalar.indexCast v46
  ![v47.toNat]
def k0_mult1 (v12 : BitVec 32) (k0_t1 : Fin (k0_t1_loop v12).trips) (v48 : BitVec 32) : BitVec 32 :=
  let c0_i32_7 : BitVec 32 := 0#32
  let c1_i32_8 : BitVec 32 := 1#32
  let arg12 : BitVec 32 := Scf.iv c0_i32_7 c1_i32_8 k0_t1
  let c128_i32 : BitVec 32 := 128#32
  let v49 : BitVec 32 := Scalar.muli arg12 c128_i32
  let v50 : BitVec 32 := Scalar.addi v48 v49
  let c384_i32 : BitVec 32 := 384#32
  let v51 : BitVec 32 := Scalar.minsi v50 c384_i32
  v51

def k0_off3 (v12 : BitVec 32) (k0_t1 : Fin (k0_t1_loop v12).trips) (v48 : BitVec 32) : Fin 3 → Nat :=
  let c0_29 : Index := 0#32
  let c0_i32_7 : BitVec 32 := 0#32
  let c1_i32_8 : BitVec 32 := 1#32
  let arg12 : BitVec 32 := Scf.iv c0_i32_7 c1_i32_8 k0_t1
  let c128_i32 : BitVec 32 := 128#32
  let v49 : BitVec 32 := Scalar.muli arg12 c128_i32
  let v50 : BitVec 32 := Scalar.addi v48 v49
  let c384_i32 : BitVec 32 := 384#32
  let v51 : BitVec 32 := Scalar.minsi v50 c384_i32
  let v52 : BitVec 32 := v51
  let v67 : Index := Scalar.indexCast v52
  let c0_30 : Index := 0#32
  ![0, v67.toNat, 0]

def k0_chk2 (v12 : BitVec 32) (k0_t1 : Fin (k0_t1_loop v12).trips) (v48 : BitVec 32) : Prop :=
  (16 ∣ (k0_mult1 v12 k0_t1 v48).toNat) ∧
  (∀ a, (k0_off3 v12 k0_t1 v48) a + S1x128x1024.size a ≤ S16x512x1024.size a)
theorem k0_mult1_dvd : ∀ (v12 : BitVec 32) (k0_t1 : Fin (k0_t1_loop v12).trips) (v48 : BitVec 32) (k0_hw2 : k0_chk2 v12 k0_t1 v48), 16 ∣ (k0_mult1 v12 k0_t1 v48).toNat := fun v12 k0_t1 v48 k0_hw2 => k0_hw2.1
theorem k0_off3_inb : ∀ (v12 : BitVec 32) (k0_t1 : Fin (k0_t1_loop v12).trips) (v48 : BitVec 32) (k0_hw2 : k0_chk2 v12 k0_t1 v48), ∀ a, (k0_off3 v12 k0_t1 v48) a + S1x128x1024.size a ≤ S16x512x1024.size a := fun v12 k0_t1 v48 k0_hw2 => k0_hw2.2

def k0_off4 (i : grid0.Coords) : Fin 1 → Nat :=
  let arg0 : BitVec 32 := BitVec.ofNat 32 (i 0).val
  let c8_i32_31 : BitVec 32 := 8#32
  let v70 : BitVec 32 := Scalar.muli arg0 c8_i32_31
  let arg1 : BitVec 32 := BitVec.ofNat 32 (i 1).val
  let v71 : BitVec 32 := Scalar.addi v70 arg1
  let c16_i32_32 : BitVec 32 := 16#32
  let v72 : BitVec 32 := Scalar.muli v71 c16_i32_32
  let c1_i32_33 : BitVec 32 := 1#32
  let v73 : BitVec 32 := Scalar.addi v72 c1_i32_33
  let v74 : Index := Scalar.indexCast v73
  ![v74.toNat]
def k0_mult2 (v12 : BitVec 32) (k0_t1 : Fin (k0_t1_loop v12).trips) (v75 : BitVec 32) : BitVec 32 :=
  let c0_i32_7 : BitVec 32 := 0#32
  let c1_i32_8 : BitVec 32 := 1#32
  let arg12 : BitVec 32 := Scf.iv c0_i32_7 c1_i32_8 k0_t1
  let c128_i32_34 : BitVec 32 := 128#32
  let v76 : BitVec 32 := Scalar.muli arg12 c128_i32_34
  let v77 : BitVec 32 := Scalar.addi v75 v76
  let c384_i32_35 : BitVec 32 := 384#32
  let v78 : BitVec 32 := Scalar.minsi v77 c384_i32_35
  v78

def k0_off5 (v12 : BitVec 32) (k0_t1 : Fin (k0_t1_loop v12).trips) (v75 : BitVec 32) : Fin 3 → Nat :=
  let c1 : Index := 1#32
  let c0_i32_7 : BitVec 32 := 0#32
  let c1_i32_8 : BitVec 32 := 1#32
  let arg12 : BitVec 32 := Scf.iv c0_i32_7 c1_i32_8 k0_t1
  let c128_i32_34 : BitVec 32 := 128#32
  let v76 : BitVec 32 := Scalar.muli arg12 c128_i32_34
  let v77 : BitVec 32 := Scalar.addi v75 v76
  let c384_i32_35 : BitVec 32 := 384#32
  let v78 : BitVec 32 := Scalar.minsi v77 c384_i32_35
  let v79 : BitVec 32 := v78
  let v94 : Index := Scalar.indexCast v79
  let c0_37 : Index := 0#32
  ![1, v94.toNat, 0]

def k0_chk3 (v12 : BitVec 32) (k0_t1 : Fin (k0_t1_loop v12).trips) (v75 : BitVec 32) : Prop :=
  (16 ∣ (k0_mult2 v12 k0_t1 v75).toNat) ∧
  (∀ a, (k0_off5 v12 k0_t1 v75) a + S1x128x1024.size a ≤ S16x512x1024.size a)
theorem k0_mult2_dvd : ∀ (v12 : BitVec 32) (k0_t1 : Fin (k0_t1_loop v12).trips) (v75 : BitVec 32) (k0_hw3 : k0_chk3 v12 k0_t1 v75), 16 ∣ (k0_mult2 v12 k0_t1 v75).toNat := fun v12 k0_t1 v75 k0_hw3 => k0_hw3.1
theorem k0_off5_inb : ∀ (v12 : BitVec 32) (k0_t1 : Fin (k0_t1_loop v12).trips) (v75 : BitVec 32) (k0_hw3 : k0_chk3 v12 k0_t1 v75), ∀ a, (k0_off5 v12 k0_t1 v75) a + S1x128x1024.size a ≤ S16x512x1024.size a := fun v12 k0_t1 v75 k0_hw3 => k0_hw3.2

def k0_off6 (i : grid0.Coords) : Fin 1 → Nat :=
  let arg0 : BitVec 32 := BitVec.ofNat 32 (i 0).val
  let c8_i32_39 : BitVec 32 := 8#32
  let v100 : BitVec 32 := Scalar.muli arg0 c8_i32_39
  let arg1 : BitVec 32 := BitVec.ofNat 32 (i 1).val
  let v101 : BitVec 32 := Scalar.addi v100 arg1
  let c16_i32_40 : BitVec 32 := 16#32
  let v102 : BitVec 32 := Scalar.muli v101 c16_i32_40
  let c2_i32 : BitVec 32 := 2#32
  let v103 : BitVec 32 := Scalar.addi v102 c2_i32
  let v104 : Index := Scalar.indexCast v103
  ![v104.toNat]
def k0_mult3 (v12 : BitVec 32) (k0_t1 : Fin (k0_t1_loop v12).trips) (v105 : BitVec 32) : BitVec 32 :=
  let c0_i32_7 : BitVec 32 := 0#32
  let c1_i32_8 : BitVec 32 := 1#32
  let arg12 : BitVec 32 := Scf.iv c0_i32_7 c1_i32_8 k0_t1
  let c128_i32_41 : BitVec 32 := 128#32
  let v106 : BitVec 32 := Scalar.muli arg12 c128_i32_41
  let v107 : BitVec 32 := Scalar.addi v105 v106
  let c384_i32_42 : BitVec 32 := 384#32
  let v108 : BitVec 32 := Scalar.minsi v107 c384_i32_42
  v108

def k0_off7 (v12 : BitVec 32) (k0_t1 : Fin (k0_t1_loop v12).trips) (v105 : BitVec 32) : Fin 3 → Nat :=
  let c2 : Index := 2#32
  let c0_i32_7 : BitVec 32 := 0#32
  let c1_i32_8 : BitVec 32 := 1#32
  let arg12 : BitVec 32 := Scf.iv c0_i32_7 c1_i32_8 k0_t1
  let c128_i32_41 : BitVec 32 := 128#32
  let v106 : BitVec 32 := Scalar.muli arg12 c128_i32_41
  let v107 : BitVec 32 := Scalar.addi v105 v106
  let c384_i32_42 : BitVec 32 := 384#32
  let v108 : BitVec 32 := Scalar.minsi v107 c384_i32_42
  let v109 : BitVec 32 := v108
  let v124 : Index := Scalar.indexCast v109
  let c0_44 : Index := 0#32
  ![2, v124.toNat, 0]

def k0_chk4 (v12 : BitVec 32) (k0_t1 : Fin (k0_t1_loop v12).trips) (v105 : BitVec 32) : Prop :=
  (16 ∣ (k0_mult3 v12 k0_t1 v105).toNat) ∧
  (∀ a, (k0_off7 v12 k0_t1 v105) a + S1x128x1024.size a ≤ S16x512x1024.size a)
theorem k0_mult3_dvd : ∀ (v12 : BitVec 32) (k0_t1 : Fin (k0_t1_loop v12).trips) (v105 : BitVec 32) (k0_hw4 : k0_chk4 v12 k0_t1 v105), 16 ∣ (k0_mult3 v12 k0_t1 v105).toNat := fun v12 k0_t1 v105 k0_hw4 => k0_hw4.1
theorem k0_off7_inb : ∀ (v12 : BitVec 32) (k0_t1 : Fin (k0_t1_loop v12).trips) (v105 : BitVec 32) (k0_hw4 : k0_chk4 v12 k0_t1 v105), ∀ a, (k0_off7 v12 k0_t1 v105) a + S1x128x1024.size a ≤ S16x512x1024.size a := fun v12 k0_t1 v105 k0_hw4 => k0_hw4.2

def k0_off8 (i : grid0.Coords) : Fin 1 → Nat :=
  let arg0 : BitVec 32 := BitVec.ofNat 32 (i 0).val
  let c8_i32_45 : BitVec 32 := 8#32
  let v127 : BitVec 32 := Scalar.muli arg0 c8_i32_45
  let arg1 : BitVec 32 := BitVec.ofNat 32 (i 1).val
  let v128 : BitVec 32 := Scalar.addi v127 arg1
  let c16_i32_46 : BitVec 32 := 16#32
  let v129 : BitVec 32 := Scalar.muli v128 c16_i32_46
  let c3_i32 : BitVec 32 := 3#32
  let v130 : BitVec 32 := Scalar.addi v129 c3_i32
  let v131 : Index := Scalar.indexCast v130
  ![v131.toNat]
def k0_mult4 (v12 : BitVec 32) (k0_t1 : Fin (k0_t1_loop v12).trips) (v132 : BitVec 32) : BitVec 32 :=
  let c0_i32_7 : BitVec 32 := 0#32
  let c1_i32_8 : BitVec 32 := 1#32
  let arg12 : BitVec 32 := Scf.iv c0_i32_7 c1_i32_8 k0_t1
  let c128_i32_47 : BitVec 32 := 128#32
  let v133 : BitVec 32 := Scalar.muli arg12 c128_i32_47
  let v134 : BitVec 32 := Scalar.addi v132 v133
  let c384_i32_48 : BitVec 32 := 384#32
  let v135 : BitVec 32 := Scalar.minsi v134 c384_i32_48
  v135

def k0_off9 (v12 : BitVec 32) (k0_t1 : Fin (k0_t1_loop v12).trips) (v132 : BitVec 32) : Fin 3 → Nat :=
  let c3 : Index := 3#32
  let c0_i32_7 : BitVec 32 := 0#32
  let c1_i32_8 : BitVec 32 := 1#32
  let arg12 : BitVec 32 := Scf.iv c0_i32_7 c1_i32_8 k0_t1
  let c128_i32_47 : BitVec 32 := 128#32
  let v133 : BitVec 32 := Scalar.muli arg12 c128_i32_47
  let v134 : BitVec 32 := Scalar.addi v132 v133
  let c384_i32_48 : BitVec 32 := 384#32
  let v135 : BitVec 32 := Scalar.minsi v134 c384_i32_48
  let v136 : BitVec 32 := v135
  let v151 : Index := Scalar.indexCast v136
  let c0_50 : Index := 0#32
  ![3, v151.toNat, 0]

def k0_chk5 (v12 : BitVec 32) (k0_t1 : Fin (k0_t1_loop v12).trips) (v132 : BitVec 32) : Prop :=
  (16 ∣ (k0_mult4 v12 k0_t1 v132).toNat) ∧
  (∀ a, (k0_off9 v12 k0_t1 v132) a + S1x128x1024.size a ≤ S16x512x1024.size a)
theorem k0_mult4_dvd : ∀ (v12 : BitVec 32) (k0_t1 : Fin (k0_t1_loop v12).trips) (v132 : BitVec 32) (k0_hw5 : k0_chk5 v12 k0_t1 v132), 16 ∣ (k0_mult4 v12 k0_t1 v132).toNat := fun v12 k0_t1 v132 k0_hw5 => k0_hw5.1
theorem k0_off9_inb : ∀ (v12 : BitVec 32) (k0_t1 : Fin (k0_t1_loop v12).trips) (v132 : BitVec 32) (k0_hw5 : k0_chk5 v12 k0_t1 v132), ∀ a, (k0_off9 v12 k0_t1 v132) a + S1x128x1024.size a ≤ S16x512x1024.size a := fun v12 k0_t1 v132 k0_hw5 => k0_hw5.2

def k0_off10 (i : grid0.Coords) : Fin 1 → Nat :=
  let arg0 : BitVec 32 := BitVec.ofNat 32 (i 0).val
  let c8_i32_52 : BitVec 32 := 8#32
  let v158 : BitVec 32 := Scalar.muli arg0 c8_i32_52
  let arg1 : BitVec 32 := BitVec.ofNat 32 (i 1).val
  let v159 : BitVec 32 := Scalar.addi v158 arg1
  let c16_i32_53 : BitVec 32 := 16#32
  let v160 : BitVec 32 := Scalar.muli v159 c16_i32_53
  let c4_i32 : BitVec 32 := 4#32
  let v161 : BitVec 32 := Scalar.addi v160 c4_i32
  let v162 : Index := Scalar.indexCast v161
  ![v162.toNat]
def k0_mult5 (v12 : BitVec 32) (k0_t1 : Fin (k0_t1_loop v12).trips) (v163 : BitVec 32) : BitVec 32 :=
  let c0_i32_7 : BitVec 32 := 0#32
  let c1_i32_8 : BitVec 32 := 1#32
  let arg12 : BitVec 32 := Scf.iv c0_i32_7 c1_i32_8 k0_t1
  let c128_i32_54 : BitVec 32 := 128#32
  let v164 : BitVec 32 := Scalar.muli arg12 c128_i32_54
  let v165 : BitVec 32 := Scalar.addi v163 v164
  let c384_i32_55 : BitVec 32 := 384#32
  let v166 : BitVec 32 := Scalar.minsi v165 c384_i32_55
  v166

def k0_off11 (v12 : BitVec 32) (k0_t1 : Fin (k0_t1_loop v12).trips) (v163 : BitVec 32) : Fin 3 → Nat :=
  let c4 : Index := 4#32
  let c0_i32_7 : BitVec 32 := 0#32
  let c1_i32_8 : BitVec 32 := 1#32
  let arg12 : BitVec 32 := Scf.iv c0_i32_7 c1_i32_8 k0_t1
  let c128_i32_54 : BitVec 32 := 128#32
  let v164 : BitVec 32 := Scalar.muli arg12 c128_i32_54
  let v165 : BitVec 32 := Scalar.addi v163 v164
  let c384_i32_55 : BitVec 32 := 384#32
  let v166 : BitVec 32 := Scalar.minsi v165 c384_i32_55
  let v167 : BitVec 32 := v166
  let v182 : Index := Scalar.indexCast v167
  let c0_57 : Index := 0#32
  ![4, v182.toNat, 0]

def k0_chk6 (v12 : BitVec 32) (k0_t1 : Fin (k0_t1_loop v12).trips) (v163 : BitVec 32) : Prop :=
  (16 ∣ (k0_mult5 v12 k0_t1 v163).toNat) ∧
  (∀ a, (k0_off11 v12 k0_t1 v163) a + S1x128x1024.size a ≤ S16x512x1024.size a)
theorem k0_mult5_dvd : ∀ (v12 : BitVec 32) (k0_t1 : Fin (k0_t1_loop v12).trips) (v163 : BitVec 32) (k0_hw6 : k0_chk6 v12 k0_t1 v163), 16 ∣ (k0_mult5 v12 k0_t1 v163).toNat := fun v12 k0_t1 v163 k0_hw6 => k0_hw6.1
theorem k0_off11_inb : ∀ (v12 : BitVec 32) (k0_t1 : Fin (k0_t1_loop v12).trips) (v163 : BitVec 32) (k0_hw6 : k0_chk6 v12 k0_t1 v163), ∀ a, (k0_off11 v12 k0_t1 v163) a + S1x128x1024.size a ≤ S16x512x1024.size a := fun v12 k0_t1 v163 k0_hw6 => k0_hw6.2

def k0_off12 (i : grid0.Coords) : Fin 1 → Nat :=
  let arg0 : BitVec 32 := BitVec.ofNat 32 (i 0).val
  let c8_i32_58 : BitVec 32 := 8#32
  let v185 : BitVec 32 := Scalar.muli arg0 c8_i32_58
  let arg1 : BitVec 32 := BitVec.ofNat 32 (i 1).val
  let v186 : BitVec 32 := Scalar.addi v185 arg1
  let c16_i32_59 : BitVec 32 := 16#32
  let v187 : BitVec 32 := Scalar.muli v186 c16_i32_59
  let c5_i32 : BitVec 32 := 5#32
  let v188 : BitVec 32 := Scalar.addi v187 c5_i32
  let v189 : Index := Scalar.indexCast v188
  ![v189.toNat]
def k0_mult6 (v12 : BitVec 32) (k0_t1 : Fin (k0_t1_loop v12).trips) (v190 : BitVec 32) : BitVec 32 :=
  let c0_i32_7 : BitVec 32 := 0#32
  let c1_i32_8 : BitVec 32 := 1#32
  let arg12 : BitVec 32 := Scf.iv c0_i32_7 c1_i32_8 k0_t1
  let c128_i32_60 : BitVec 32 := 128#32
  let v191 : BitVec 32 := Scalar.muli arg12 c128_i32_60
  let v192 : BitVec 32 := Scalar.addi v190 v191
  let c384_i32_61 : BitVec 32 := 384#32
  let v193 : BitVec 32 := Scalar.minsi v192 c384_i32_61
  v193

def k0_off13 (v12 : BitVec 32) (k0_t1 : Fin (k0_t1_loop v12).trips) (v190 : BitVec 32) : Fin 3 → Nat :=
  let c5 : Index := 5#32
  let c0_i32_7 : BitVec 32 := 0#32
  let c1_i32_8 : BitVec 32 := 1#32
  let arg12 : BitVec 32 := Scf.iv c0_i32_7 c1_i32_8 k0_t1
  let c128_i32_60 : BitVec 32 := 128#32
  let v191 : BitVec 32 := Scalar.muli arg12 c128_i32_60
  let v192 : BitVec 32 := Scalar.addi v190 v191
  let c384_i32_61 : BitVec 32 := 384#32
  let v193 : BitVec 32 := Scalar.minsi v192 c384_i32_61
  let v194 : BitVec 32 := v193
  let v209 : Index := Scalar.indexCast v194
  let c0_63 : Index := 0#32
  ![5, v209.toNat, 0]

def k0_chk7 (v12 : BitVec 32) (k0_t1 : Fin (k0_t1_loop v12).trips) (v190 : BitVec 32) : Prop :=
  (16 ∣ (k0_mult6 v12 k0_t1 v190).toNat) ∧
  (∀ a, (k0_off13 v12 k0_t1 v190) a + S1x128x1024.size a ≤ S16x512x1024.size a)
theorem k0_mult6_dvd : ∀ (v12 : BitVec 32) (k0_t1 : Fin (k0_t1_loop v12).trips) (v190 : BitVec 32) (k0_hw7 : k0_chk7 v12 k0_t1 v190), 16 ∣ (k0_mult6 v12 k0_t1 v190).toNat := fun v12 k0_t1 v190 k0_hw7 => k0_hw7.1
theorem k0_off13_inb : ∀ (v12 : BitVec 32) (k0_t1 : Fin (k0_t1_loop v12).trips) (v190 : BitVec 32) (k0_hw7 : k0_chk7 v12 k0_t1 v190), ∀ a, (k0_off13 v12 k0_t1 v190) a + S1x128x1024.size a ≤ S16x512x1024.size a := fun v12 k0_t1 v190 k0_hw7 => k0_hw7.2

def k0_off14 (i : grid0.Coords) : Fin 1 → Nat :=
  let arg0 : BitVec 32 := BitVec.ofNat 32 (i 0).val
  let c8_i32_65 : BitVec 32 := 8#32
  let v216 : BitVec 32 := Scalar.muli arg0 c8_i32_65
  let arg1 : BitVec 32 := BitVec.ofNat 32 (i 1).val
  let v217 : BitVec 32 := Scalar.addi v216 arg1
  let c16_i32_66 : BitVec 32 := 16#32
  let v218 : BitVec 32 := Scalar.muli v217 c16_i32_66
  let c6_i32 : BitVec 32 := 6#32
  let v219 : BitVec 32 := Scalar.addi v218 c6_i32
  let v220 : Index := Scalar.indexCast v219
  ![v220.toNat]
def k0_mult7 (v12 : BitVec 32) (k0_t1 : Fin (k0_t1_loop v12).trips) (v221 : BitVec 32) : BitVec 32 :=
  let c0_i32_7 : BitVec 32 := 0#32
  let c1_i32_8 : BitVec 32 := 1#32
  let arg12 : BitVec 32 := Scf.iv c0_i32_7 c1_i32_8 k0_t1
  let c128_i32_67 : BitVec 32 := 128#32
  let v222 : BitVec 32 := Scalar.muli arg12 c128_i32_67
  let v223 : BitVec 32 := Scalar.addi v221 v222
  let c384_i32_68 : BitVec 32 := 384#32
  let v224 : BitVec 32 := Scalar.minsi v223 c384_i32_68
  v224

def k0_off15 (v12 : BitVec 32) (k0_t1 : Fin (k0_t1_loop v12).trips) (v221 : BitVec 32) : Fin 3 → Nat :=
  let c6 : Index := 6#32
  let c0_i32_7 : BitVec 32 := 0#32
  let c1_i32_8 : BitVec 32 := 1#32
  let arg12 : BitVec 32 := Scf.iv c0_i32_7 c1_i32_8 k0_t1
  let c128_i32_67 : BitVec 32 := 128#32
  let v222 : BitVec 32 := Scalar.muli arg12 c128_i32_67
  let v223 : BitVec 32 := Scalar.addi v221 v222
  let c384_i32_68 : BitVec 32 := 384#32
  let v224 : BitVec 32 := Scalar.minsi v223 c384_i32_68
  let v225 : BitVec 32 := v224
  let v240 : Index := Scalar.indexCast v225
  let c0_70 : Index := 0#32
  ![6, v240.toNat, 0]

def k0_chk8 (v12 : BitVec 32) (k0_t1 : Fin (k0_t1_loop v12).trips) (v221 : BitVec 32) : Prop :=
  (16 ∣ (k0_mult7 v12 k0_t1 v221).toNat) ∧
  (∀ a, (k0_off15 v12 k0_t1 v221) a + S1x128x1024.size a ≤ S16x512x1024.size a)
theorem k0_mult7_dvd : ∀ (v12 : BitVec 32) (k0_t1 : Fin (k0_t1_loop v12).trips) (v221 : BitVec 32) (k0_hw8 : k0_chk8 v12 k0_t1 v221), 16 ∣ (k0_mult7 v12 k0_t1 v221).toNat := fun v12 k0_t1 v221 k0_hw8 => k0_hw8.1
theorem k0_off15_inb : ∀ (v12 : BitVec 32) (k0_t1 : Fin (k0_t1_loop v12).trips) (v221 : BitVec 32) (k0_hw8 : k0_chk8 v12 k0_t1 v221), ∀ a, (k0_off15 v12 k0_t1 v221) a + S1x128x1024.size a ≤ S16x512x1024.size a := fun v12 k0_t1 v221 k0_hw8 => k0_hw8.2

def k0_off16 (i : grid0.Coords) : Fin 1 → Nat :=
  let arg0 : BitVec 32 := BitVec.ofNat 32 (i 0).val
  let c8_i32_71 : BitVec 32 := 8#32
  let v243 : BitVec 32 := Scalar.muli arg0 c8_i32_71
  let arg1 : BitVec 32 := BitVec.ofNat 32 (i 1).val
  let v244 : BitVec 32 := Scalar.addi v243 arg1
  let c16_i32_72 : BitVec 32 := 16#32
  let v245 : BitVec 32 := Scalar.muli v244 c16_i32_72
  let c7_i32 : BitVec 32 := 7#32
  let v246 : BitVec 32 := Scalar.addi v245 c7_i32
  let v247 : Index := Scalar.indexCast v246
  ![v247.toNat]
def k0_mult8 (v12 : BitVec 32) (k0_t1 : Fin (k0_t1_loop v12).trips) (v248 : BitVec 32) : BitVec 32 :=
  let c0_i32_7 : BitVec 32 := 0#32
  let c1_i32_8 : BitVec 32 := 1#32
  let arg12 : BitVec 32 := Scf.iv c0_i32_7 c1_i32_8 k0_t1
  let c128_i32_73 : BitVec 32 := 128#32
  let v249 : BitVec 32 := Scalar.muli arg12 c128_i32_73
  let v250 : BitVec 32 := Scalar.addi v248 v249
  let c384_i32_74 : BitVec 32 := 384#32
  let v251 : BitVec 32 := Scalar.minsi v250 c384_i32_74
  v251

def k0_off17 (v12 : BitVec 32) (k0_t1 : Fin (k0_t1_loop v12).trips) (v248 : BitVec 32) : Fin 3 → Nat :=
  let c7 : Index := 7#32
  let c0_i32_7 : BitVec 32 := 0#32
  let c1_i32_8 : BitVec 32 := 1#32
  let arg12 : BitVec 32 := Scf.iv c0_i32_7 c1_i32_8 k0_t1
  let c128_i32_73 : BitVec 32 := 128#32
  let v249 : BitVec 32 := Scalar.muli arg12 c128_i32_73
  let v250 : BitVec 32 := Scalar.addi v248 v249
  let c384_i32_74 : BitVec 32 := 384#32
  let v251 : BitVec 32 := Scalar.minsi v250 c384_i32_74
  let v252 : BitVec 32 := v251
  let v267 : Index := Scalar.indexCast v252
  let c0_76 : Index := 0#32
  ![7, v267.toNat, 0]

def k0_chk9 (v12 : BitVec 32) (k0_t1 : Fin (k0_t1_loop v12).trips) (v248 : BitVec 32) : Prop :=
  (16 ∣ (k0_mult8 v12 k0_t1 v248).toNat) ∧
  (∀ a, (k0_off17 v12 k0_t1 v248) a + S1x128x1024.size a ≤ S16x512x1024.size a)
theorem k0_mult8_dvd : ∀ (v12 : BitVec 32) (k0_t1 : Fin (k0_t1_loop v12).trips) (v248 : BitVec 32) (k0_hw9 : k0_chk9 v12 k0_t1 v248), 16 ∣ (k0_mult8 v12 k0_t1 v248).toNat := fun v12 k0_t1 v248 k0_hw9 => k0_hw9.1
theorem k0_off17_inb : ∀ (v12 : BitVec 32) (k0_t1 : Fin (k0_t1_loop v12).trips) (v248 : BitVec 32) (k0_hw9 : k0_chk9 v12 k0_t1 v248), ∀ a, (k0_off17 v12 k0_t1 v248) a + S1x128x1024.size a ≤ S16x512x1024.size a := fun v12 k0_t1 v248 k0_hw9 => k0_hw9.2

def k0_off18 (i : grid0.Coords) : Fin 1 → Nat :=
  let arg0 : BitVec 32 := BitVec.ofNat 32 (i 0).val
  let c8_i32_78 : BitVec 32 := 8#32
  let v274 : BitVec 32 := Scalar.muli arg0 c8_i32_78
  let arg1 : BitVec 32 := BitVec.ofNat 32 (i 1).val
  let v275 : BitVec 32 := Scalar.addi v274 arg1
  let c16_i32_79 : BitVec 32 := 16#32
  let v276 : BitVec 32 := Scalar.muli v275 c16_i32_79
  let c8_i32_80 : BitVec 32 := 8#32
  let v277 : BitVec 32 := Scalar.addi v276 c8_i32_80
  let v278 : Index := Scalar.indexCast v277
  ![v278.toNat]
def k0_mult9 (v12 : BitVec 32) (k0_t1 : Fin (k0_t1_loop v12).trips) (v279 : BitVec 32) : BitVec 32 :=
  let c0_i32_7 : BitVec 32 := 0#32
  let c1_i32_8 : BitVec 32 := 1#32
  let arg12 : BitVec 32 := Scf.iv c0_i32_7 c1_i32_8 k0_t1
  let c128_i32_81 : BitVec 32 := 128#32
  let v280 : BitVec 32 := Scalar.muli arg12 c128_i32_81
  let v281 : BitVec 32 := Scalar.addi v279 v280
  let c384_i32_82 : BitVec 32 := 384#32
  let v282 : BitVec 32 := Scalar.minsi v281 c384_i32_82
  v282

def k0_off19 (v12 : BitVec 32) (k0_t1 : Fin (k0_t1_loop v12).trips) (v279 : BitVec 32) : Fin 3 → Nat :=
  let c8 : Index := 8#32
  let c0_i32_7 : BitVec 32 := 0#32
  let c1_i32_8 : BitVec 32 := 1#32
  let arg12 : BitVec 32 := Scf.iv c0_i32_7 c1_i32_8 k0_t1
  let c128_i32_81 : BitVec 32 := 128#32
  let v280 : BitVec 32 := Scalar.muli arg12 c128_i32_81
  let v281 : BitVec 32 := Scalar.addi v279 v280
  let c384_i32_82 : BitVec 32 := 384#32
  let v282 : BitVec 32 := Scalar.minsi v281 c384_i32_82
  let v283 : BitVec 32 := v282
  let v298 : Index := Scalar.indexCast v283
  let c0_84 : Index := 0#32
  ![8, v298.toNat, 0]

def k0_chk10 (v12 : BitVec 32) (k0_t1 : Fin (k0_t1_loop v12).trips) (v279 : BitVec 32) : Prop :=
  (16 ∣ (k0_mult9 v12 k0_t1 v279).toNat) ∧
  (∀ a, (k0_off19 v12 k0_t1 v279) a + S1x128x1024.size a ≤ S16x512x1024.size a)
theorem k0_mult9_dvd : ∀ (v12 : BitVec 32) (k0_t1 : Fin (k0_t1_loop v12).trips) (v279 : BitVec 32) (k0_hw10 : k0_chk10 v12 k0_t1 v279), 16 ∣ (k0_mult9 v12 k0_t1 v279).toNat := fun v12 k0_t1 v279 k0_hw10 => k0_hw10.1
theorem k0_off19_inb : ∀ (v12 : BitVec 32) (k0_t1 : Fin (k0_t1_loop v12).trips) (v279 : BitVec 32) (k0_hw10 : k0_chk10 v12 k0_t1 v279), ∀ a, (k0_off19 v12 k0_t1 v279) a + S1x128x1024.size a ≤ S16x512x1024.size a := fun v12 k0_t1 v279 k0_hw10 => k0_hw10.2

def k0_off20 (i : grid0.Coords) : Fin 1 → Nat :=
  let arg0 : BitVec 32 := BitVec.ofNat 32 (i 0).val
  let c8_i32_85 : BitVec 32 := 8#32
  let v301 : BitVec 32 := Scalar.muli arg0 c8_i32_85
  let arg1 : BitVec 32 := BitVec.ofNat 32 (i 1).val
  let v302 : BitVec 32 := Scalar.addi v301 arg1
  let c16_i32_86 : BitVec 32 := 16#32
  let v303 : BitVec 32 := Scalar.muli v302 c16_i32_86
  let c9_i32 : BitVec 32 := 9#32
  let v304 : BitVec 32 := Scalar.addi v303 c9_i32
  let v305 : Index := Scalar.indexCast v304
  ![v305.toNat]
def k0_mult10 (v12 : BitVec 32) (k0_t1 : Fin (k0_t1_loop v12).trips) (v306 : BitVec 32) : BitVec 32 :=
  let c0_i32_7 : BitVec 32 := 0#32
  let c1_i32_8 : BitVec 32 := 1#32
  let arg12 : BitVec 32 := Scf.iv c0_i32_7 c1_i32_8 k0_t1
  let c128_i32_87 : BitVec 32 := 128#32
  let v307 : BitVec 32 := Scalar.muli arg12 c128_i32_87
  let v308 : BitVec 32 := Scalar.addi v306 v307
  let c384_i32_88 : BitVec 32 := 384#32
  let v309 : BitVec 32 := Scalar.minsi v308 c384_i32_88
  v309

def k0_off21 (v12 : BitVec 32) (k0_t1 : Fin (k0_t1_loop v12).trips) (v306 : BitVec 32) : Fin 3 → Nat :=
  let c9 : Index := 9#32
  let c0_i32_7 : BitVec 32 := 0#32
  let c1_i32_8 : BitVec 32 := 1#32
  let arg12 : BitVec 32 := Scf.iv c0_i32_7 c1_i32_8 k0_t1
  let c128_i32_87 : BitVec 32 := 128#32
  let v307 : BitVec 32 := Scalar.muli arg12 c128_i32_87
  let v308 : BitVec 32 := Scalar.addi v306 v307
  let c384_i32_88 : BitVec 32 := 384#32
  let v309 : BitVec 32 := Scalar.minsi v308 c384_i32_88
  let v310 : BitVec 32 := v309
  let v325 : Index := Scalar.indexCast v310
  let c0_90 : Index := 0#32
  ![9, v325.toNat, 0]

def k0_chk11 (v12 : BitVec 32) (k0_t1 : Fin (k0_t1_loop v12).trips) (v306 : BitVec 32) : Prop :=
  (16 ∣ (k0_mult10 v12 k0_t1 v306).toNat) ∧
  (∀ a, (k0_off21 v12 k0_t1 v306) a + S1x128x1024.size a ≤ S16x512x1024.size a)
theorem k0_mult10_dvd : ∀ (v12 : BitVec 32) (k0_t1 : Fin (k0_t1_loop v12).trips) (v306 : BitVec 32) (k0_hw11 : k0_chk11 v12 k0_t1 v306), 16 ∣ (k0_mult10 v12 k0_t1 v306).toNat := fun v12 k0_t1 v306 k0_hw11 => k0_hw11.1
theorem k0_off21_inb : ∀ (v12 : BitVec 32) (k0_t1 : Fin (k0_t1_loop v12).trips) (v306 : BitVec 32) (k0_hw11 : k0_chk11 v12 k0_t1 v306), ∀ a, (k0_off21 v12 k0_t1 v306) a + S1x128x1024.size a ≤ S16x512x1024.size a := fun v12 k0_t1 v306 k0_hw11 => k0_hw11.2

def k0_off22 (i : grid0.Coords) : Fin 1 → Nat :=
  let arg0 : BitVec 32 := BitVec.ofNat 32 (i 0).val
  let c8_i32_92 : BitVec 32 := 8#32
  let v332 : BitVec 32 := Scalar.muli arg0 c8_i32_92
  let arg1 : BitVec 32 := BitVec.ofNat 32 (i 1).val
  let v333 : BitVec 32 := Scalar.addi v332 arg1
  let c16_i32_93 : BitVec 32 := 16#32
  let v334 : BitVec 32 := Scalar.muli v333 c16_i32_93
  let c10_i32 : BitVec 32 := 10#32
  let v335 : BitVec 32 := Scalar.addi v334 c10_i32
  let v336 : Index := Scalar.indexCast v335
  ![v336.toNat]
def k0_mult11 (v12 : BitVec 32) (k0_t1 : Fin (k0_t1_loop v12).trips) (v337 : BitVec 32) : BitVec 32 :=
  let c0_i32_7 : BitVec 32 := 0#32
  let c1_i32_8 : BitVec 32 := 1#32
  let arg12 : BitVec 32 := Scf.iv c0_i32_7 c1_i32_8 k0_t1
  let c128_i32_94 : BitVec 32 := 128#32
  let v338 : BitVec 32 := Scalar.muli arg12 c128_i32_94
  let v339 : BitVec 32 := Scalar.addi v337 v338
  let c384_i32_95 : BitVec 32 := 384#32
  let v340 : BitVec 32 := Scalar.minsi v339 c384_i32_95
  v340

def k0_off23 (v12 : BitVec 32) (k0_t1 : Fin (k0_t1_loop v12).trips) (v337 : BitVec 32) : Fin 3 → Nat :=
  let c10 : Index := 10#32
  let c0_i32_7 : BitVec 32 := 0#32
  let c1_i32_8 : BitVec 32 := 1#32
  let arg12 : BitVec 32 := Scf.iv c0_i32_7 c1_i32_8 k0_t1
  let c128_i32_94 : BitVec 32 := 128#32
  let v338 : BitVec 32 := Scalar.muli arg12 c128_i32_94
  let v339 : BitVec 32 := Scalar.addi v337 v338
  let c384_i32_95 : BitVec 32 := 384#32
  let v340 : BitVec 32 := Scalar.minsi v339 c384_i32_95
  let v341 : BitVec 32 := v340
  let v356 : Index := Scalar.indexCast v341
  let c0_97 : Index := 0#32
  ![10, v356.toNat, 0]

def k0_chk12 (v12 : BitVec 32) (k0_t1 : Fin (k0_t1_loop v12).trips) (v337 : BitVec 32) : Prop :=
  (16 ∣ (k0_mult11 v12 k0_t1 v337).toNat) ∧
  (∀ a, (k0_off23 v12 k0_t1 v337) a + S1x128x1024.size a ≤ S16x512x1024.size a)
theorem k0_mult11_dvd : ∀ (v12 : BitVec 32) (k0_t1 : Fin (k0_t1_loop v12).trips) (v337 : BitVec 32) (k0_hw12 : k0_chk12 v12 k0_t1 v337), 16 ∣ (k0_mult11 v12 k0_t1 v337).toNat := fun v12 k0_t1 v337 k0_hw12 => k0_hw12.1
theorem k0_off23_inb : ∀ (v12 : BitVec 32) (k0_t1 : Fin (k0_t1_loop v12).trips) (v337 : BitVec 32) (k0_hw12 : k0_chk12 v12 k0_t1 v337), ∀ a, (k0_off23 v12 k0_t1 v337) a + S1x128x1024.size a ≤ S16x512x1024.size a := fun v12 k0_t1 v337 k0_hw12 => k0_hw12.2

def k0_off24 (i : grid0.Coords) : Fin 1 → Nat :=
  let arg0 : BitVec 32 := BitVec.ofNat 32 (i 0).val
  let c8_i32_98 : BitVec 32 := 8#32
  let v359 : BitVec 32 := Scalar.muli arg0 c8_i32_98
  let arg1 : BitVec 32 := BitVec.ofNat 32 (i 1).val
  let v360 : BitVec 32 := Scalar.addi v359 arg1
  let c16_i32_99 : BitVec 32 := 16#32
  let v361 : BitVec 32 := Scalar.muli v360 c16_i32_99
  let c11_i32 : BitVec 32 := 11#32
  let v362 : BitVec 32 := Scalar.addi v361 c11_i32
  let v363 : Index := Scalar.indexCast v362
  ![v363.toNat]
def k0_mult12 (v12 : BitVec 32) (k0_t1 : Fin (k0_t1_loop v12).trips) (v364 : BitVec 32) : BitVec 32 :=
  let c0_i32_7 : BitVec 32 := 0#32
  let c1_i32_8 : BitVec 32 := 1#32
  let arg12 : BitVec 32 := Scf.iv c0_i32_7 c1_i32_8 k0_t1
  let c128_i32_100 : BitVec 32 := 128#32
  let v365 : BitVec 32 := Scalar.muli arg12 c128_i32_100
  let v366 : BitVec 32 := Scalar.addi v364 v365
  let c384_i32_101 : BitVec 32 := 384#32
  let v367 : BitVec 32 := Scalar.minsi v366 c384_i32_101
  v367

def k0_off25 (v12 : BitVec 32) (k0_t1 : Fin (k0_t1_loop v12).trips) (v364 : BitVec 32) : Fin 3 → Nat :=
  let c11 : Index := 11#32
  let c0_i32_7 : BitVec 32 := 0#32
  let c1_i32_8 : BitVec 32 := 1#32
  let arg12 : BitVec 32 := Scf.iv c0_i32_7 c1_i32_8 k0_t1
  let c128_i32_100 : BitVec 32 := 128#32
  let v365 : BitVec 32 := Scalar.muli arg12 c128_i32_100
  let v366 : BitVec 32 := Scalar.addi v364 v365
  let c384_i32_101 : BitVec 32 := 384#32
  let v367 : BitVec 32 := Scalar.minsi v366 c384_i32_101
  let v368 : BitVec 32 := v367
  let v383 : Index := Scalar.indexCast v368
  let c0_103 : Index := 0#32
  ![11, v383.toNat, 0]

def k0_chk13 (v12 : BitVec 32) (k0_t1 : Fin (k0_t1_loop v12).trips) (v364 : BitVec 32) : Prop :=
  (16 ∣ (k0_mult12 v12 k0_t1 v364).toNat) ∧
  (∀ a, (k0_off25 v12 k0_t1 v364) a + S1x128x1024.size a ≤ S16x512x1024.size a)
theorem k0_mult12_dvd : ∀ (v12 : BitVec 32) (k0_t1 : Fin (k0_t1_loop v12).trips) (v364 : BitVec 32) (k0_hw13 : k0_chk13 v12 k0_t1 v364), 16 ∣ (k0_mult12 v12 k0_t1 v364).toNat := fun v12 k0_t1 v364 k0_hw13 => k0_hw13.1
theorem k0_off25_inb : ∀ (v12 : BitVec 32) (k0_t1 : Fin (k0_t1_loop v12).trips) (v364 : BitVec 32) (k0_hw13 : k0_chk13 v12 k0_t1 v364), ∀ a, (k0_off25 v12 k0_t1 v364) a + S1x128x1024.size a ≤ S16x512x1024.size a := fun v12 k0_t1 v364 k0_hw13 => k0_hw13.2

def k0_off26 (i : grid0.Coords) : Fin 1 → Nat :=
  let arg0 : BitVec 32 := BitVec.ofNat 32 (i 0).val
  let c8_i32_105 : BitVec 32 := 8#32
  let v390 : BitVec 32 := Scalar.muli arg0 c8_i32_105
  let arg1 : BitVec 32 := BitVec.ofNat 32 (i 1).val
  let v391 : BitVec 32 := Scalar.addi v390 arg1
  let c16_i32_106 : BitVec 32 := 16#32
  let v392 : BitVec 32 := Scalar.muli v391 c16_i32_106
  let c12_i32 : BitVec 32 := 12#32
  let v393 : BitVec 32 := Scalar.addi v392 c12_i32
  let v394 : Index := Scalar.indexCast v393
  ![v394.toNat]
def k0_mult13 (v12 : BitVec 32) (k0_t1 : Fin (k0_t1_loop v12).trips) (v395 : BitVec 32) : BitVec 32 :=
  let c0_i32_7 : BitVec 32 := 0#32
  let c1_i32_8 : BitVec 32 := 1#32
  let arg12 : BitVec 32 := Scf.iv c0_i32_7 c1_i32_8 k0_t1
  let c128_i32_107 : BitVec 32 := 128#32
  let v396 : BitVec 32 := Scalar.muli arg12 c128_i32_107
  let v397 : BitVec 32 := Scalar.addi v395 v396
  let c384_i32_108 : BitVec 32 := 384#32
  let v398 : BitVec 32 := Scalar.minsi v397 c384_i32_108
  v398

def k0_off27 (v12 : BitVec 32) (k0_t1 : Fin (k0_t1_loop v12).trips) (v395 : BitVec 32) : Fin 3 → Nat :=
  let c12 : Index := 12#32
  let c0_i32_7 : BitVec 32 := 0#32
  let c1_i32_8 : BitVec 32 := 1#32
  let arg12 : BitVec 32 := Scf.iv c0_i32_7 c1_i32_8 k0_t1
  let c128_i32_107 : BitVec 32 := 128#32
  let v396 : BitVec 32 := Scalar.muli arg12 c128_i32_107
  let v397 : BitVec 32 := Scalar.addi v395 v396
  let c384_i32_108 : BitVec 32 := 384#32
  let v398 : BitVec 32 := Scalar.minsi v397 c384_i32_108
  let v399 : BitVec 32 := v398
  let v414 : Index := Scalar.indexCast v399
  let c0_110 : Index := 0#32
  ![12, v414.toNat, 0]

def k0_chk14 (v12 : BitVec 32) (k0_t1 : Fin (k0_t1_loop v12).trips) (v395 : BitVec 32) : Prop :=
  (16 ∣ (k0_mult13 v12 k0_t1 v395).toNat) ∧
  (∀ a, (k0_off27 v12 k0_t1 v395) a + S1x128x1024.size a ≤ S16x512x1024.size a)
theorem k0_mult13_dvd : ∀ (v12 : BitVec 32) (k0_t1 : Fin (k0_t1_loop v12).trips) (v395 : BitVec 32) (k0_hw14 : k0_chk14 v12 k0_t1 v395), 16 ∣ (k0_mult13 v12 k0_t1 v395).toNat := fun v12 k0_t1 v395 k0_hw14 => k0_hw14.1
theorem k0_off27_inb : ∀ (v12 : BitVec 32) (k0_t1 : Fin (k0_t1_loop v12).trips) (v395 : BitVec 32) (k0_hw14 : k0_chk14 v12 k0_t1 v395), ∀ a, (k0_off27 v12 k0_t1 v395) a + S1x128x1024.size a ≤ S16x512x1024.size a := fun v12 k0_t1 v395 k0_hw14 => k0_hw14.2

def k0_off28 (i : grid0.Coords) : Fin 1 → Nat :=
  let arg0 : BitVec 32 := BitVec.ofNat 32 (i 0).val
  let c8_i32_111 : BitVec 32 := 8#32
  let v417 : BitVec 32 := Scalar.muli arg0 c8_i32_111
  let arg1 : BitVec 32 := BitVec.ofNat 32 (i 1).val
  let v418 : BitVec 32 := Scalar.addi v417 arg1
  let c16_i32_112 : BitVec 32 := 16#32
  let v419 : BitVec 32 := Scalar.muli v418 c16_i32_112
  let c13_i32 : BitVec 32 := 13#32
  let v420 : BitVec 32 := Scalar.addi v419 c13_i32
  let v421 : Index := Scalar.indexCast v420
  ![v421.toNat]
def k0_mult14 (v12 : BitVec 32) (k0_t1 : Fin (k0_t1_loop v12).trips) (v422 : BitVec 32) : BitVec 32 :=
  let c0_i32_7 : BitVec 32 := 0#32
  let c1_i32_8 : BitVec 32 := 1#32
  let arg12 : BitVec 32 := Scf.iv c0_i32_7 c1_i32_8 k0_t1
  let c128_i32_113 : BitVec 32 := 128#32
  let v423 : BitVec 32 := Scalar.muli arg12 c128_i32_113
  let v424 : BitVec 32 := Scalar.addi v422 v423
  let c384_i32_114 : BitVec 32 := 384#32
  let v425 : BitVec 32 := Scalar.minsi v424 c384_i32_114
  v425

def k0_off29 (v12 : BitVec 32) (k0_t1 : Fin (k0_t1_loop v12).trips) (v422 : BitVec 32) : Fin 3 → Nat :=
  let c13 : Index := 13#32
  let c0_i32_7 : BitVec 32 := 0#32
  let c1_i32_8 : BitVec 32 := 1#32
  let arg12 : BitVec 32 := Scf.iv c0_i32_7 c1_i32_8 k0_t1
  let c128_i32_113 : BitVec 32 := 128#32
  let v423 : BitVec 32 := Scalar.muli arg12 c128_i32_113
  let v424 : BitVec 32 := Scalar.addi v422 v423
  let c384_i32_114 : BitVec 32 := 384#32
  let v425 : BitVec 32 := Scalar.minsi v424 c384_i32_114
  let v426 : BitVec 32 := v425
  let v441 : Index := Scalar.indexCast v426
  let c0_116 : Index := 0#32
  ![13, v441.toNat, 0]

def k0_chk15 (v12 : BitVec 32) (k0_t1 : Fin (k0_t1_loop v12).trips) (v422 : BitVec 32) : Prop :=
  (16 ∣ (k0_mult14 v12 k0_t1 v422).toNat) ∧
  (∀ a, (k0_off29 v12 k0_t1 v422) a + S1x128x1024.size a ≤ S16x512x1024.size a)
theorem k0_mult14_dvd : ∀ (v12 : BitVec 32) (k0_t1 : Fin (k0_t1_loop v12).trips) (v422 : BitVec 32) (k0_hw15 : k0_chk15 v12 k0_t1 v422), 16 ∣ (k0_mult14 v12 k0_t1 v422).toNat := fun v12 k0_t1 v422 k0_hw15 => k0_hw15.1
theorem k0_off29_inb : ∀ (v12 : BitVec 32) (k0_t1 : Fin (k0_t1_loop v12).trips) (v422 : BitVec 32) (k0_hw15 : k0_chk15 v12 k0_t1 v422), ∀ a, (k0_off29 v12 k0_t1 v422) a + S1x128x1024.size a ≤ S16x512x1024.size a := fun v12 k0_t1 v422 k0_hw15 => k0_hw15.2

def k0_off30 (i : grid0.Coords) : Fin 1 → Nat :=
  let arg0 : BitVec 32 := BitVec.ofNat 32 (i 0).val
  let c8_i32_118 : BitVec 32 := 8#32
  let v448 : BitVec 32 := Scalar.muli arg0 c8_i32_118
  let arg1 : BitVec 32 := BitVec.ofNat 32 (i 1).val
  let v449 : BitVec 32 := Scalar.addi v448 arg1
  let c16_i32_119 : BitVec 32 := 16#32
  let v450 : BitVec 32 := Scalar.muli v449 c16_i32_119
  let c14_i32 : BitVec 32 := 14#32
  let v451 : BitVec 32 := Scalar.addi v450 c14_i32
  let v452 : Index := Scalar.indexCast v451
  ![v452.toNat]
def k0_mult15 (v12 : BitVec 32) (k0_t1 : Fin (k0_t1_loop v12).trips) (v453 : BitVec 32) : BitVec 32 :=
  let c0_i32_7 : BitVec 32 := 0#32
  let c1_i32_8 : BitVec 32 := 1#32
  let arg12 : BitVec 32 := Scf.iv c0_i32_7 c1_i32_8 k0_t1
  let c128_i32_120 : BitVec 32 := 128#32
  let v454 : BitVec 32 := Scalar.muli arg12 c128_i32_120
  let v455 : BitVec 32 := Scalar.addi v453 v454
  let c384_i32_121 : BitVec 32 := 384#32
  let v456 : BitVec 32 := Scalar.minsi v455 c384_i32_121
  v456

def k0_off31 (v12 : BitVec 32) (k0_t1 : Fin (k0_t1_loop v12).trips) (v453 : BitVec 32) : Fin 3 → Nat :=
  let c14 : Index := 14#32
  let c0_i32_7 : BitVec 32 := 0#32
  let c1_i32_8 : BitVec 32 := 1#32
  let arg12 : BitVec 32 := Scf.iv c0_i32_7 c1_i32_8 k0_t1
  let c128_i32_120 : BitVec 32 := 128#32
  let v454 : BitVec 32 := Scalar.muli arg12 c128_i32_120
  let v455 : BitVec 32 := Scalar.addi v453 v454
  let c384_i32_121 : BitVec 32 := 384#32
  let v456 : BitVec 32 := Scalar.minsi v455 c384_i32_121
  let v457 : BitVec 32 := v456
  let v472 : Index := Scalar.indexCast v457
  let c0_123 : Index := 0#32
  ![14, v472.toNat, 0]

def k0_chk16 (v12 : BitVec 32) (k0_t1 : Fin (k0_t1_loop v12).trips) (v453 : BitVec 32) : Prop :=
  (16 ∣ (k0_mult15 v12 k0_t1 v453).toNat) ∧
  (∀ a, (k0_off31 v12 k0_t1 v453) a + S1x128x1024.size a ≤ S16x512x1024.size a)
theorem k0_mult15_dvd : ∀ (v12 : BitVec 32) (k0_t1 : Fin (k0_t1_loop v12).trips) (v453 : BitVec 32) (k0_hw16 : k0_chk16 v12 k0_t1 v453), 16 ∣ (k0_mult15 v12 k0_t1 v453).toNat := fun v12 k0_t1 v453 k0_hw16 => k0_hw16.1
theorem k0_off31_inb : ∀ (v12 : BitVec 32) (k0_t1 : Fin (k0_t1_loop v12).trips) (v453 : BitVec 32) (k0_hw16 : k0_chk16 v12 k0_t1 v453), ∀ a, (k0_off31 v12 k0_t1 v453) a + S1x128x1024.size a ≤ S16x512x1024.size a := fun v12 k0_t1 v453 k0_hw16 => k0_hw16.2

def k0_off32 (i : grid0.Coords) : Fin 1 → Nat :=
  let arg0 : BitVec 32 := BitVec.ofNat 32 (i 0).val
  let c8_i32_124 : BitVec 32 := 8#32
  let v475 : BitVec 32 := Scalar.muli arg0 c8_i32_124
  let arg1 : BitVec 32 := BitVec.ofNat 32 (i 1).val
  let v476 : BitVec 32 := Scalar.addi v475 arg1
  let c16_i32_125 : BitVec 32 := 16#32
  let v477 : BitVec 32 := Scalar.muli v476 c16_i32_125
  let c15_i32 : BitVec 32 := 15#32
  let v478 : BitVec 32 := Scalar.addi v477 c15_i32
  let v479 : Index := Scalar.indexCast v478
  ![v479.toNat]
def k0_mult16 (v12 : BitVec 32) (k0_t1 : Fin (k0_t1_loop v12).trips) (v480 : BitVec 32) : BitVec 32 :=
  let c0_i32_7 : BitVec 32 := 0#32
  let c1_i32_8 : BitVec 32 := 1#32
  let arg12 : BitVec 32 := Scf.iv c0_i32_7 c1_i32_8 k0_t1
  let c128_i32_126 : BitVec 32 := 128#32
  let v481 : BitVec 32 := Scalar.muli arg12 c128_i32_126
  let v482 : BitVec 32 := Scalar.addi v480 v481
  let c384_i32_127 : BitVec 32 := 384#32
  let v483 : BitVec 32 := Scalar.minsi v482 c384_i32_127
  v483

def k0_off33 (v12 : BitVec 32) (k0_t1 : Fin (k0_t1_loop v12).trips) (v480 : BitVec 32) : Fin 3 → Nat :=
  let c15 : Index := 15#32
  let c0_i32_7 : BitVec 32 := 0#32
  let c1_i32_8 : BitVec 32 := 1#32
  let arg12 : BitVec 32 := Scf.iv c0_i32_7 c1_i32_8 k0_t1
  let c128_i32_126 : BitVec 32 := 128#32
  let v481 : BitVec 32 := Scalar.muli arg12 c128_i32_126
  let v482 : BitVec 32 := Scalar.addi v480 v481
  let c384_i32_127 : BitVec 32 := 384#32
  let v483 : BitVec 32 := Scalar.minsi v482 c384_i32_127
  let v484 : BitVec 32 := v483
  let v499 : Index := Scalar.indexCast v484
  let c0_129 : Index := 0#32
  ![15, v499.toNat, 0]

def k0_chk17 (v12 : BitVec 32) (k0_t1 : Fin (k0_t1_loop v12).trips) (v480 : BitVec 32) : Prop :=
  (16 ∣ (k0_mult16 v12 k0_t1 v480).toNat) ∧
  (∀ a, (k0_off33 v12 k0_t1 v480) a + S1x128x1024.size a ≤ S16x512x1024.size a)
theorem k0_mult16_dvd : ∀ (v12 : BitVec 32) (k0_t1 : Fin (k0_t1_loop v12).trips) (v480 : BitVec 32) (k0_hw17 : k0_chk17 v12 k0_t1 v480), 16 ∣ (k0_mult16 v12 k0_t1 v480).toNat := fun v12 k0_t1 v480 k0_hw17 => k0_hw17.1
theorem k0_off33_inb : ∀ (v12 : BitVec 32) (k0_t1 : Fin (k0_t1_loop v12).trips) (v480 : BitVec 32) (k0_hw17 : k0_chk17 v12 k0_t1 v480), ∀ a, (k0_off33 v12 k0_t1 v480) a + S1x128x1024.size a ≤ S16x512x1024.size a := fun v12 k0_t1 v480 k0_hw17 => k0_hw17.2

@[reducible] def k0_t2_loop (v12 : BitVec 32) : Scf.Loop 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩

def k0_chk1 (v12 : BitVec 32) : Prop :=
  ((k0_t1_loop v12).OK) ∧
  ((k0_t2_loop v12).OK)
theorem k0_t1_ok : ∀ (v12 : BitVec 32) (k0_hw1 : k0_chk1 v12), (k0_t1_loop v12).OK := fun v12 k0_hw1 => k0_hw1.1
theorem k0_t2_ok : ∀ (v12 : BitVec 32) (k0_hw1 : k0_chk1 v12), (k0_t2_loop v12).OK := fun v12 k0_hw1 => k0_hw1.2

def k0_off34 (i : grid0.Coords) : Fin 1 → Nat :=
  let arg0 : BitVec 32 := BitVec.ofNat 32 (i 0).val
  let c8_i32_26 : BitVec 32 := 8#32
  let v43 : BitVec 32 := Scalar.muli arg0 c8_i32_26
  let arg1 : BitVec 32 := BitVec.ofNat 32 (i 1).val
  let v44 : BitVec 32 := Scalar.addi v43 arg1
  let c16_i32 : BitVec 32 := 16#32
  let v45 : BitVec 32 := Scalar.muli v44 c16_i32
  let c0_i32_27 : BitVec 32 := 0#32
  let v46 : BitVec 32 := Scalar.addi v45 c0_i32_27
  let v47 : Index := Scalar.indexCast v46
  ![v47.toNat]
def k0_mult17 (v12 : BitVec 32) (k0_t2 : Fin (k0_t2_loop v12).trips) (v48 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32 : BitVec 32 := 128#32
  let v49 : BitVec 32 := Scalar.muli arg12 c128_i32
  let v50 : BitVec 32 := Scalar.addi v48 v49
  let c384_i32 : BitVec 32 := 384#32
  let v51 : BitVec 32 := Scalar.minsi v50 c384_i32
  v51

def k0_off35 (v12 : BitVec 32) (k0_t2 : Fin (k0_t2_loop v12).trips) (v48 : BitVec 32) : Fin 3 → Nat :=
  let c0_29 : Index := 0#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32 : BitVec 32 := 128#32
  let v49 : BitVec 32 := Scalar.muli arg12 c128_i32
  let v50 : BitVec 32 := Scalar.addi v48 v49
  let c384_i32 : BitVec 32 := 384#32
  let v51 : BitVec 32 := Scalar.minsi v50 c384_i32
  let v52 : BitVec 32 := v51
  let v67 : Index := Scalar.indexCast v52
  let c0_30 : Index := 0#32
  ![0, v67.toNat, 0]

def k0_chk18 (v12 : BitVec 32) (k0_t2 : Fin (k0_t2_loop v12).trips) (v48 : BitVec 32) : Prop :=
  (16 ∣ (k0_mult17 v12 k0_t2 v48).toNat) ∧
  (∀ a, (k0_off35 v12 k0_t2 v48) a + S1x128x1024.size a ≤ S16x512x1024.size a)
theorem k0_mult17_dvd : ∀ (v12 : BitVec 32) (k0_t2 : Fin (k0_t2_loop v12).trips) (v48 : BitVec 32) (k0_hw18 : k0_chk18 v12 k0_t2 v48), 16 ∣ (k0_mult17 v12 k0_t2 v48).toNat := fun v12 k0_t2 v48 k0_hw18 => k0_hw18.1
theorem k0_off35_inb : ∀ (v12 : BitVec 32) (k0_t2 : Fin (k0_t2_loop v12).trips) (v48 : BitVec 32) (k0_hw18 : k0_chk18 v12 k0_t2 v48), ∀ a, (k0_off35 v12 k0_t2 v48) a + S1x128x1024.size a ≤ S16x512x1024.size a := fun v12 k0_t2 v48 k0_hw18 => k0_hw18.2

def k0_off36 (i : grid0.Coords) : Fin 1 → Nat :=
  let arg0 : BitVec 32 := BitVec.ofNat 32 (i 0).val
  let c8_i32_31 : BitVec 32 := 8#32
  let v70 : BitVec 32 := Scalar.muli arg0 c8_i32_31
  let arg1 : BitVec 32 := BitVec.ofNat 32 (i 1).val
  let v71 : BitVec 32 := Scalar.addi v70 arg1
  let c16_i32_32 : BitVec 32 := 16#32
  let v72 : BitVec 32 := Scalar.muli v71 c16_i32_32
  let c1_i32_33 : BitVec 32 := 1#32
  let v73 : BitVec 32 := Scalar.addi v72 c1_i32_33
  let v74 : Index := Scalar.indexCast v73
  ![v74.toNat]
def k0_mult18 (v12 : BitVec 32) (k0_t2 : Fin (k0_t2_loop v12).trips) (v75 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_34 : BitVec 32 := 128#32
  let v76 : BitVec 32 := Scalar.muli arg12 c128_i32_34
  let v77 : BitVec 32 := Scalar.addi v75 v76
  let c384_i32_35 : BitVec 32 := 384#32
  let v78 : BitVec 32 := Scalar.minsi v77 c384_i32_35
  v78

def k0_off37 (v12 : BitVec 32) (k0_t2 : Fin (k0_t2_loop v12).trips) (v75 : BitVec 32) : Fin 3 → Nat :=
  let c1 : Index := 1#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_34 : BitVec 32 := 128#32
  let v76 : BitVec 32 := Scalar.muli arg12 c128_i32_34
  let v77 : BitVec 32 := Scalar.addi v75 v76
  let c384_i32_35 : BitVec 32 := 384#32
  let v78 : BitVec 32 := Scalar.minsi v77 c384_i32_35
  let v79 : BitVec 32 := v78
  let v94 : Index := Scalar.indexCast v79
  let c0_37 : Index := 0#32
  ![1, v94.toNat, 0]

def k0_chk19 (v12 : BitVec 32) (k0_t2 : Fin (k0_t2_loop v12).trips) (v75 : BitVec 32) : Prop :=
  (16 ∣ (k0_mult18 v12 k0_t2 v75).toNat) ∧
  (∀ a, (k0_off37 v12 k0_t2 v75) a + S1x128x1024.size a ≤ S16x512x1024.size a)
theorem k0_mult18_dvd : ∀ (v12 : BitVec 32) (k0_t2 : Fin (k0_t2_loop v12).trips) (v75 : BitVec 32) (k0_hw19 : k0_chk19 v12 k0_t2 v75), 16 ∣ (k0_mult18 v12 k0_t2 v75).toNat := fun v12 k0_t2 v75 k0_hw19 => k0_hw19.1
theorem k0_off37_inb : ∀ (v12 : BitVec 32) (k0_t2 : Fin (k0_t2_loop v12).trips) (v75 : BitVec 32) (k0_hw19 : k0_chk19 v12 k0_t2 v75), ∀ a, (k0_off37 v12 k0_t2 v75) a + S1x128x1024.size a ≤ S16x512x1024.size a := fun v12 k0_t2 v75 k0_hw19 => k0_hw19.2

def k0_off38 (i : grid0.Coords) : Fin 1 → Nat :=
  let arg0 : BitVec 32 := BitVec.ofNat 32 (i 0).val
  let c8_i32_39 : BitVec 32 := 8#32
  let v100 : BitVec 32 := Scalar.muli arg0 c8_i32_39
  let arg1 : BitVec 32 := BitVec.ofNat 32 (i 1).val
  let v101 : BitVec 32 := Scalar.addi v100 arg1
  let c16_i32_40 : BitVec 32 := 16#32
  let v102 : BitVec 32 := Scalar.muli v101 c16_i32_40
  let c2_i32 : BitVec 32 := 2#32
  let v103 : BitVec 32 := Scalar.addi v102 c2_i32
  let v104 : Index := Scalar.indexCast v103
  ![v104.toNat]
def k0_mult19 (v12 : BitVec 32) (k0_t2 : Fin (k0_t2_loop v12).trips) (v105 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_41 : BitVec 32 := 128#32
  let v106 : BitVec 32 := Scalar.muli arg12 c128_i32_41
  let v107 : BitVec 32 := Scalar.addi v105 v106
  let c384_i32_42 : BitVec 32 := 384#32
  let v108 : BitVec 32 := Scalar.minsi v107 c384_i32_42
  v108

def k0_off39 (v12 : BitVec 32) (k0_t2 : Fin (k0_t2_loop v12).trips) (v105 : BitVec 32) : Fin 3 → Nat :=
  let c2 : Index := 2#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_41 : BitVec 32 := 128#32
  let v106 : BitVec 32 := Scalar.muli arg12 c128_i32_41
  let v107 : BitVec 32 := Scalar.addi v105 v106
  let c384_i32_42 : BitVec 32 := 384#32
  let v108 : BitVec 32 := Scalar.minsi v107 c384_i32_42
  let v109 : BitVec 32 := v108
  let v124 : Index := Scalar.indexCast v109
  let c0_44 : Index := 0#32
  ![2, v124.toNat, 0]

def k0_chk20 (v12 : BitVec 32) (k0_t2 : Fin (k0_t2_loop v12).trips) (v105 : BitVec 32) : Prop :=
  (16 ∣ (k0_mult19 v12 k0_t2 v105).toNat) ∧
  (∀ a, (k0_off39 v12 k0_t2 v105) a + S1x128x1024.size a ≤ S16x512x1024.size a)
theorem k0_mult19_dvd : ∀ (v12 : BitVec 32) (k0_t2 : Fin (k0_t2_loop v12).trips) (v105 : BitVec 32) (k0_hw20 : k0_chk20 v12 k0_t2 v105), 16 ∣ (k0_mult19 v12 k0_t2 v105).toNat := fun v12 k0_t2 v105 k0_hw20 => k0_hw20.1
theorem k0_off39_inb : ∀ (v12 : BitVec 32) (k0_t2 : Fin (k0_t2_loop v12).trips) (v105 : BitVec 32) (k0_hw20 : k0_chk20 v12 k0_t2 v105), ∀ a, (k0_off39 v12 k0_t2 v105) a + S1x128x1024.size a ≤ S16x512x1024.size a := fun v12 k0_t2 v105 k0_hw20 => k0_hw20.2

def k0_off40 (i : grid0.Coords) : Fin 1 → Nat :=
  let arg0 : BitVec 32 := BitVec.ofNat 32 (i 0).val
  let c8_i32_45 : BitVec 32 := 8#32
  let v127 : BitVec 32 := Scalar.muli arg0 c8_i32_45
  let arg1 : BitVec 32 := BitVec.ofNat 32 (i 1).val
  let v128 : BitVec 32 := Scalar.addi v127 arg1
  let c16_i32_46 : BitVec 32 := 16#32
  let v129 : BitVec 32 := Scalar.muli v128 c16_i32_46
  let c3_i32 : BitVec 32 := 3#32
  let v130 : BitVec 32 := Scalar.addi v129 c3_i32
  let v131 : Index := Scalar.indexCast v130
  ![v131.toNat]
def k0_mult20 (v12 : BitVec 32) (k0_t2 : Fin (k0_t2_loop v12).trips) (v132 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_47 : BitVec 32 := 128#32
  let v133 : BitVec 32 := Scalar.muli arg12 c128_i32_47
  let v134 : BitVec 32 := Scalar.addi v132 v133
  let c384_i32_48 : BitVec 32 := 384#32
  let v135 : BitVec 32 := Scalar.minsi v134 c384_i32_48
  v135

def k0_off41 (v12 : BitVec 32) (k0_t2 : Fin (k0_t2_loop v12).trips) (v132 : BitVec 32) : Fin 3 → Nat :=
  let c3 : Index := 3#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_47 : BitVec 32 := 128#32
  let v133 : BitVec 32 := Scalar.muli arg12 c128_i32_47
  let v134 : BitVec 32 := Scalar.addi v132 v133
  let c384_i32_48 : BitVec 32 := 384#32
  let v135 : BitVec 32 := Scalar.minsi v134 c384_i32_48
  let v136 : BitVec 32 := v135
  let v151 : Index := Scalar.indexCast v136
  let c0_50 : Index := 0#32
  ![3, v151.toNat, 0]

def k0_chk21 (v12 : BitVec 32) (k0_t2 : Fin (k0_t2_loop v12).trips) (v132 : BitVec 32) : Prop :=
  (16 ∣ (k0_mult20 v12 k0_t2 v132).toNat) ∧
  (∀ a, (k0_off41 v12 k0_t2 v132) a + S1x128x1024.size a ≤ S16x512x1024.size a)
theorem k0_mult20_dvd : ∀ (v12 : BitVec 32) (k0_t2 : Fin (k0_t2_loop v12).trips) (v132 : BitVec 32) (k0_hw21 : k0_chk21 v12 k0_t2 v132), 16 ∣ (k0_mult20 v12 k0_t2 v132).toNat := fun v12 k0_t2 v132 k0_hw21 => k0_hw21.1
theorem k0_off41_inb : ∀ (v12 : BitVec 32) (k0_t2 : Fin (k0_t2_loop v12).trips) (v132 : BitVec 32) (k0_hw21 : k0_chk21 v12 k0_t2 v132), ∀ a, (k0_off41 v12 k0_t2 v132) a + S1x128x1024.size a ≤ S16x512x1024.size a := fun v12 k0_t2 v132 k0_hw21 => k0_hw21.2

def k0_off42 (i : grid0.Coords) : Fin 1 → Nat :=
  let arg0 : BitVec 32 := BitVec.ofNat 32 (i 0).val
  let c8_i32_52 : BitVec 32 := 8#32
  let v158 : BitVec 32 := Scalar.muli arg0 c8_i32_52
  let arg1 : BitVec 32 := BitVec.ofNat 32 (i 1).val
  let v159 : BitVec 32 := Scalar.addi v158 arg1
  let c16_i32_53 : BitVec 32 := 16#32
  let v160 : BitVec 32 := Scalar.muli v159 c16_i32_53
  let c4_i32 : BitVec 32 := 4#32
  let v161 : BitVec 32 := Scalar.addi v160 c4_i32
  let v162 : Index := Scalar.indexCast v161
  ![v162.toNat]
def k0_mult21 (v12 : BitVec 32) (k0_t2 : Fin (k0_t2_loop v12).trips) (v163 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_54 : BitVec 32 := 128#32
  let v164 : BitVec 32 := Scalar.muli arg12 c128_i32_54
  let v165 : BitVec 32 := Scalar.addi v163 v164
  let c384_i32_55 : BitVec 32 := 384#32
  let v166 : BitVec 32 := Scalar.minsi v165 c384_i32_55
  v166

def k0_off43 (v12 : BitVec 32) (k0_t2 : Fin (k0_t2_loop v12).trips) (v163 : BitVec 32) : Fin 3 → Nat :=
  let c4 : Index := 4#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_54 : BitVec 32 := 128#32
  let v164 : BitVec 32 := Scalar.muli arg12 c128_i32_54
  let v165 : BitVec 32 := Scalar.addi v163 v164
  let c384_i32_55 : BitVec 32 := 384#32
  let v166 : BitVec 32 := Scalar.minsi v165 c384_i32_55
  let v167 : BitVec 32 := v166
  let v182 : Index := Scalar.indexCast v167
  let c0_57 : Index := 0#32
  ![4, v182.toNat, 0]

def k0_chk22 (v12 : BitVec 32) (k0_t2 : Fin (k0_t2_loop v12).trips) (v163 : BitVec 32) : Prop :=
  (16 ∣ (k0_mult21 v12 k0_t2 v163).toNat) ∧
  (∀ a, (k0_off43 v12 k0_t2 v163) a + S1x128x1024.size a ≤ S16x512x1024.size a)
theorem k0_mult21_dvd : ∀ (v12 : BitVec 32) (k0_t2 : Fin (k0_t2_loop v12).trips) (v163 : BitVec 32) (k0_hw22 : k0_chk22 v12 k0_t2 v163), 16 ∣ (k0_mult21 v12 k0_t2 v163).toNat := fun v12 k0_t2 v163 k0_hw22 => k0_hw22.1
theorem k0_off43_inb : ∀ (v12 : BitVec 32) (k0_t2 : Fin (k0_t2_loop v12).trips) (v163 : BitVec 32) (k0_hw22 : k0_chk22 v12 k0_t2 v163), ∀ a, (k0_off43 v12 k0_t2 v163) a + S1x128x1024.size a ≤ S16x512x1024.size a := fun v12 k0_t2 v163 k0_hw22 => k0_hw22.2

def k0_off44 (i : grid0.Coords) : Fin 1 → Nat :=
  let arg0 : BitVec 32 := BitVec.ofNat 32 (i 0).val
  let c8_i32_58 : BitVec 32 := 8#32
  let v185 : BitVec 32 := Scalar.muli arg0 c8_i32_58
  let arg1 : BitVec 32 := BitVec.ofNat 32 (i 1).val
  let v186 : BitVec 32 := Scalar.addi v185 arg1
  let c16_i32_59 : BitVec 32 := 16#32
  let v187 : BitVec 32 := Scalar.muli v186 c16_i32_59
  let c5_i32 : BitVec 32 := 5#32
  let v188 : BitVec 32 := Scalar.addi v187 c5_i32
  let v189 : Index := Scalar.indexCast v188
  ![v189.toNat]
def k0_mult22 (v12 : BitVec 32) (k0_t2 : Fin (k0_t2_loop v12).trips) (v190 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_60 : BitVec 32 := 128#32
  let v191 : BitVec 32 := Scalar.muli arg12 c128_i32_60
  let v192 : BitVec 32 := Scalar.addi v190 v191
  let c384_i32_61 : BitVec 32 := 384#32
  let v193 : BitVec 32 := Scalar.minsi v192 c384_i32_61
  v193

def k0_off45 (v12 : BitVec 32) (k0_t2 : Fin (k0_t2_loop v12).trips) (v190 : BitVec 32) : Fin 3 → Nat :=
  let c5 : Index := 5#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_60 : BitVec 32 := 128#32
  let v191 : BitVec 32 := Scalar.muli arg12 c128_i32_60
  let v192 : BitVec 32 := Scalar.addi v190 v191
  let c384_i32_61 : BitVec 32 := 384#32
  let v193 : BitVec 32 := Scalar.minsi v192 c384_i32_61
  let v194 : BitVec 32 := v193
  let v209 : Index := Scalar.indexCast v194
  let c0_63 : Index := 0#32
  ![5, v209.toNat, 0]

def k0_chk23 (v12 : BitVec 32) (k0_t2 : Fin (k0_t2_loop v12).trips) (v190 : BitVec 32) : Prop :=
  (16 ∣ (k0_mult22 v12 k0_t2 v190).toNat) ∧
  (∀ a, (k0_off45 v12 k0_t2 v190) a + S1x128x1024.size a ≤ S16x512x1024.size a)
theorem k0_mult22_dvd : ∀ (v12 : BitVec 32) (k0_t2 : Fin (k0_t2_loop v12).trips) (v190 : BitVec 32) (k0_hw23 : k0_chk23 v12 k0_t2 v190), 16 ∣ (k0_mult22 v12 k0_t2 v190).toNat := fun v12 k0_t2 v190 k0_hw23 => k0_hw23.1
theorem k0_off45_inb : ∀ (v12 : BitVec 32) (k0_t2 : Fin (k0_t2_loop v12).trips) (v190 : BitVec 32) (k0_hw23 : k0_chk23 v12 k0_t2 v190), ∀ a, (k0_off45 v12 k0_t2 v190) a + S1x128x1024.size a ≤ S16x512x1024.size a := fun v12 k0_t2 v190 k0_hw23 => k0_hw23.2

def k0_off46 (i : grid0.Coords) : Fin 1 → Nat :=
  let arg0 : BitVec 32 := BitVec.ofNat 32 (i 0).val
  let c8_i32_65 : BitVec 32 := 8#32
  let v216 : BitVec 32 := Scalar.muli arg0 c8_i32_65
  let arg1 : BitVec 32 := BitVec.ofNat 32 (i 1).val
  let v217 : BitVec 32 := Scalar.addi v216 arg1
  let c16_i32_66 : BitVec 32 := 16#32
  let v218 : BitVec 32 := Scalar.muli v217 c16_i32_66
  let c6_i32 : BitVec 32 := 6#32
  let v219 : BitVec 32 := Scalar.addi v218 c6_i32
  let v220 : Index := Scalar.indexCast v219
  ![v220.toNat]
def k0_mult23 (v12 : BitVec 32) (k0_t2 : Fin (k0_t2_loop v12).trips) (v221 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_67 : BitVec 32 := 128#32
  let v222 : BitVec 32 := Scalar.muli arg12 c128_i32_67
  let v223 : BitVec 32 := Scalar.addi v221 v222
  let c384_i32_68 : BitVec 32 := 384#32
  let v224 : BitVec 32 := Scalar.minsi v223 c384_i32_68
  v224

def k0_off47 (v12 : BitVec 32) (k0_t2 : Fin (k0_t2_loop v12).trips) (v221 : BitVec 32) : Fin 3 → Nat :=
  let c6 : Index := 6#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_67 : BitVec 32 := 128#32
  let v222 : BitVec 32 := Scalar.muli arg12 c128_i32_67
  let v223 : BitVec 32 := Scalar.addi v221 v222
  let c384_i32_68 : BitVec 32 := 384#32
  let v224 : BitVec 32 := Scalar.minsi v223 c384_i32_68
  let v225 : BitVec 32 := v224
  let v240 : Index := Scalar.indexCast v225
  let c0_70 : Index := 0#32
  ![6, v240.toNat, 0]

def k0_chk24 (v12 : BitVec 32) (k0_t2 : Fin (k0_t2_loop v12).trips) (v221 : BitVec 32) : Prop :=
  (16 ∣ (k0_mult23 v12 k0_t2 v221).toNat) ∧
  (∀ a, (k0_off47 v12 k0_t2 v221) a + S1x128x1024.size a ≤ S16x512x1024.size a)
theorem k0_mult23_dvd : ∀ (v12 : BitVec 32) (k0_t2 : Fin (k0_t2_loop v12).trips) (v221 : BitVec 32) (k0_hw24 : k0_chk24 v12 k0_t2 v221), 16 ∣ (k0_mult23 v12 k0_t2 v221).toNat := fun v12 k0_t2 v221 k0_hw24 => k0_hw24.1
theorem k0_off47_inb : ∀ (v12 : BitVec 32) (k0_t2 : Fin (k0_t2_loop v12).trips) (v221 : BitVec 32) (k0_hw24 : k0_chk24 v12 k0_t2 v221), ∀ a, (k0_off47 v12 k0_t2 v221) a + S1x128x1024.size a ≤ S16x512x1024.size a := fun v12 k0_t2 v221 k0_hw24 => k0_hw24.2

def k0_off48 (i : grid0.Coords) : Fin 1 → Nat :=
  let arg0 : BitVec 32 := BitVec.ofNat 32 (i 0).val
  let c8_i32_71 : BitVec 32 := 8#32
  let v243 : BitVec 32 := Scalar.muli arg0 c8_i32_71
  let arg1 : BitVec 32 := BitVec.ofNat 32 (i 1).val
  let v244 : BitVec 32 := Scalar.addi v243 arg1
  let c16_i32_72 : BitVec 32 := 16#32
  let v245 : BitVec 32 := Scalar.muli v244 c16_i32_72
  let c7_i32 : BitVec 32 := 7#32
  let v246 : BitVec 32 := Scalar.addi v245 c7_i32
  let v247 : Index := Scalar.indexCast v246
  ![v247.toNat]
def k0_mult24 (v12 : BitVec 32) (k0_t2 : Fin (k0_t2_loop v12).trips) (v248 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_73 : BitVec 32 := 128#32
  let v249 : BitVec 32 := Scalar.muli arg12 c128_i32_73
  let v250 : BitVec 32 := Scalar.addi v248 v249
  let c384_i32_74 : BitVec 32 := 384#32
  let v251 : BitVec 32 := Scalar.minsi v250 c384_i32_74
  v251

def k0_off49 (v12 : BitVec 32) (k0_t2 : Fin (k0_t2_loop v12).trips) (v248 : BitVec 32) : Fin 3 → Nat :=
  let c7 : Index := 7#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_73 : BitVec 32 := 128#32
  let v249 : BitVec 32 := Scalar.muli arg12 c128_i32_73
  let v250 : BitVec 32 := Scalar.addi v248 v249
  let c384_i32_74 : BitVec 32 := 384#32
  let v251 : BitVec 32 := Scalar.minsi v250 c384_i32_74
  let v252 : BitVec 32 := v251
  let v267 : Index := Scalar.indexCast v252
  let c0_76 : Index := 0#32
  ![7, v267.toNat, 0]

def k0_chk25 (v12 : BitVec 32) (k0_t2 : Fin (k0_t2_loop v12).trips) (v248 : BitVec 32) : Prop :=
  (16 ∣ (k0_mult24 v12 k0_t2 v248).toNat) ∧
  (∀ a, (k0_off49 v12 k0_t2 v248) a + S1x128x1024.size a ≤ S16x512x1024.size a)
theorem k0_mult24_dvd : ∀ (v12 : BitVec 32) (k0_t2 : Fin (k0_t2_loop v12).trips) (v248 : BitVec 32) (k0_hw25 : k0_chk25 v12 k0_t2 v248), 16 ∣ (k0_mult24 v12 k0_t2 v248).toNat := fun v12 k0_t2 v248 k0_hw25 => k0_hw25.1
theorem k0_off49_inb : ∀ (v12 : BitVec 32) (k0_t2 : Fin (k0_t2_loop v12).trips) (v248 : BitVec 32) (k0_hw25 : k0_chk25 v12 k0_t2 v248), ∀ a, (k0_off49 v12 k0_t2 v248) a + S1x128x1024.size a ≤ S16x512x1024.size a := fun v12 k0_t2 v248 k0_hw25 => k0_hw25.2

def k0_off50 (i : grid0.Coords) : Fin 1 → Nat :=
  let arg0 : BitVec 32 := BitVec.ofNat 32 (i 0).val
  let c8_i32_78 : BitVec 32 := 8#32
  let v274 : BitVec 32 := Scalar.muli arg0 c8_i32_78
  let arg1 : BitVec 32 := BitVec.ofNat 32 (i 1).val
  let v275 : BitVec 32 := Scalar.addi v274 arg1
  let c16_i32_79 : BitVec 32 := 16#32
  let v276 : BitVec 32 := Scalar.muli v275 c16_i32_79
  let c8_i32_80 : BitVec 32 := 8#32
  let v277 : BitVec 32 := Scalar.addi v276 c8_i32_80
  let v278 : Index := Scalar.indexCast v277
  ![v278.toNat]
def k0_mult25 (v12 : BitVec 32) (k0_t2 : Fin (k0_t2_loop v12).trips) (v279 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_81 : BitVec 32 := 128#32
  let v280 : BitVec 32 := Scalar.muli arg12 c128_i32_81
  let v281 : BitVec 32 := Scalar.addi v279 v280
  let c384_i32_82 : BitVec 32 := 384#32
  let v282 : BitVec 32 := Scalar.minsi v281 c384_i32_82
  v282

def k0_off51 (v12 : BitVec 32) (k0_t2 : Fin (k0_t2_loop v12).trips) (v279 : BitVec 32) : Fin 3 → Nat :=
  let c8 : Index := 8#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_81 : BitVec 32 := 128#32
  let v280 : BitVec 32 := Scalar.muli arg12 c128_i32_81
  let v281 : BitVec 32 := Scalar.addi v279 v280
  let c384_i32_82 : BitVec 32 := 384#32
  let v282 : BitVec 32 := Scalar.minsi v281 c384_i32_82
  let v283 : BitVec 32 := v282
  let v298 : Index := Scalar.indexCast v283
  let c0_84 : Index := 0#32
  ![8, v298.toNat, 0]

def k0_chk26 (v12 : BitVec 32) (k0_t2 : Fin (k0_t2_loop v12).trips) (v279 : BitVec 32) : Prop :=
  (16 ∣ (k0_mult25 v12 k0_t2 v279).toNat) ∧
  (∀ a, (k0_off51 v12 k0_t2 v279) a + S1x128x1024.size a ≤ S16x512x1024.size a)
theorem k0_mult25_dvd : ∀ (v12 : BitVec 32) (k0_t2 : Fin (k0_t2_loop v12).trips) (v279 : BitVec 32) (k0_hw26 : k0_chk26 v12 k0_t2 v279), 16 ∣ (k0_mult25 v12 k0_t2 v279).toNat := fun v12 k0_t2 v279 k0_hw26 => k0_hw26.1
theorem k0_off51_inb : ∀ (v12 : BitVec 32) (k0_t2 : Fin (k0_t2_loop v12).trips) (v279 : BitVec 32) (k0_hw26 : k0_chk26 v12 k0_t2 v279), ∀ a, (k0_off51 v12 k0_t2 v279) a + S1x128x1024.size a ≤ S16x512x1024.size a := fun v12 k0_t2 v279 k0_hw26 => k0_hw26.2

def k0_off52 (i : grid0.Coords) : Fin 1 → Nat :=
  let arg0 : BitVec 32 := BitVec.ofNat 32 (i 0).val
  let c8_i32_85 : BitVec 32 := 8#32
  let v301 : BitVec 32 := Scalar.muli arg0 c8_i32_85
  let arg1 : BitVec 32 := BitVec.ofNat 32 (i 1).val
  let v302 : BitVec 32 := Scalar.addi v301 arg1
  let c16_i32_86 : BitVec 32 := 16#32
  let v303 : BitVec 32 := Scalar.muli v302 c16_i32_86
  let c9_i32 : BitVec 32 := 9#32
  let v304 : BitVec 32 := Scalar.addi v303 c9_i32
  let v305 : Index := Scalar.indexCast v304
  ![v305.toNat]
def k0_mult26 (v12 : BitVec 32) (k0_t2 : Fin (k0_t2_loop v12).trips) (v306 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_87 : BitVec 32 := 128#32
  let v307 : BitVec 32 := Scalar.muli arg12 c128_i32_87
  let v308 : BitVec 32 := Scalar.addi v306 v307
  let c384_i32_88 : BitVec 32 := 384#32
  let v309 : BitVec 32 := Scalar.minsi v308 c384_i32_88
  v309

def k0_off53 (v12 : BitVec 32) (k0_t2 : Fin (k0_t2_loop v12).trips) (v306 : BitVec 32) : Fin 3 → Nat :=
  let c9 : Index := 9#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_87 : BitVec 32 := 128#32
  let v307 : BitVec 32 := Scalar.muli arg12 c128_i32_87
  let v308 : BitVec 32 := Scalar.addi v306 v307
  let c384_i32_88 : BitVec 32 := 384#32
  let v309 : BitVec 32 := Scalar.minsi v308 c384_i32_88
  let v310 : BitVec 32 := v309
  let v325 : Index := Scalar.indexCast v310
  let c0_90 : Index := 0#32
  ![9, v325.toNat, 0]

def k0_chk27 (v12 : BitVec 32) (k0_t2 : Fin (k0_t2_loop v12).trips) (v306 : BitVec 32) : Prop :=
  (16 ∣ (k0_mult26 v12 k0_t2 v306).toNat) ∧
  (∀ a, (k0_off53 v12 k0_t2 v306) a + S1x128x1024.size a ≤ S16x512x1024.size a)
theorem k0_mult26_dvd : ∀ (v12 : BitVec 32) (k0_t2 : Fin (k0_t2_loop v12).trips) (v306 : BitVec 32) (k0_hw27 : k0_chk27 v12 k0_t2 v306), 16 ∣ (k0_mult26 v12 k0_t2 v306).toNat := fun v12 k0_t2 v306 k0_hw27 => k0_hw27.1
theorem k0_off53_inb : ∀ (v12 : BitVec 32) (k0_t2 : Fin (k0_t2_loop v12).trips) (v306 : BitVec 32) (k0_hw27 : k0_chk27 v12 k0_t2 v306), ∀ a, (k0_off53 v12 k0_t2 v306) a + S1x128x1024.size a ≤ S16x512x1024.size a := fun v12 k0_t2 v306 k0_hw27 => k0_hw27.2

def k0_off54 (i : grid0.Coords) : Fin 1 → Nat :=
  let arg0 : BitVec 32 := BitVec.ofNat 32 (i 0).val
  let c8_i32_92 : BitVec 32 := 8#32
  let v332 : BitVec 32 := Scalar.muli arg0 c8_i32_92
  let arg1 : BitVec 32 := BitVec.ofNat 32 (i 1).val
  let v333 : BitVec 32 := Scalar.addi v332 arg1
  let c16_i32_93 : BitVec 32 := 16#32
  let v334 : BitVec 32 := Scalar.muli v333 c16_i32_93
  let c10_i32 : BitVec 32 := 10#32
  let v335 : BitVec 32 := Scalar.addi v334 c10_i32
  let v336 : Index := Scalar.indexCast v335
  ![v336.toNat]
def k0_mult27 (v12 : BitVec 32) (k0_t2 : Fin (k0_t2_loop v12).trips) (v337 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_94 : BitVec 32 := 128#32
  let v338 : BitVec 32 := Scalar.muli arg12 c128_i32_94
  let v339 : BitVec 32 := Scalar.addi v337 v338
  let c384_i32_95 : BitVec 32 := 384#32
  let v340 : BitVec 32 := Scalar.minsi v339 c384_i32_95
  v340

def k0_off55 (v12 : BitVec 32) (k0_t2 : Fin (k0_t2_loop v12).trips) (v337 : BitVec 32) : Fin 3 → Nat :=
  let c10 : Index := 10#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_94 : BitVec 32 := 128#32
  let v338 : BitVec 32 := Scalar.muli arg12 c128_i32_94
  let v339 : BitVec 32 := Scalar.addi v337 v338
  let c384_i32_95 : BitVec 32 := 384#32
  let v340 : BitVec 32 := Scalar.minsi v339 c384_i32_95
  let v341 : BitVec 32 := v340
  let v356 : Index := Scalar.indexCast v341
  let c0_97 : Index := 0#32
  ![10, v356.toNat, 0]

def k0_chk28 (v12 : BitVec 32) (k0_t2 : Fin (k0_t2_loop v12).trips) (v337 : BitVec 32) : Prop :=
  (16 ∣ (k0_mult27 v12 k0_t2 v337).toNat) ∧
  (∀ a, (k0_off55 v12 k0_t2 v337) a + S1x128x1024.size a ≤ S16x512x1024.size a)
theorem k0_mult27_dvd : ∀ (v12 : BitVec 32) (k0_t2 : Fin (k0_t2_loop v12).trips) (v337 : BitVec 32) (k0_hw28 : k0_chk28 v12 k0_t2 v337), 16 ∣ (k0_mult27 v12 k0_t2 v337).toNat := fun v12 k0_t2 v337 k0_hw28 => k0_hw28.1
theorem k0_off55_inb : ∀ (v12 : BitVec 32) (k0_t2 : Fin (k0_t2_loop v12).trips) (v337 : BitVec 32) (k0_hw28 : k0_chk28 v12 k0_t2 v337), ∀ a, (k0_off55 v12 k0_t2 v337) a + S1x128x1024.size a ≤ S16x512x1024.size a := fun v12 k0_t2 v337 k0_hw28 => k0_hw28.2

def k0_off56 (i : grid0.Coords) : Fin 1 → Nat :=
  let arg0 : BitVec 32 := BitVec.ofNat 32 (i 0).val
  let c8_i32_98 : BitVec 32 := 8#32
  let v359 : BitVec 32 := Scalar.muli arg0 c8_i32_98
  let arg1 : BitVec 32 := BitVec.ofNat 32 (i 1).val
  let v360 : BitVec 32 := Scalar.addi v359 arg1
  let c16_i32_99 : BitVec 32 := 16#32
  let v361 : BitVec 32 := Scalar.muli v360 c16_i32_99
  let c11_i32 : BitVec 32 := 11#32
  let v362 : BitVec 32 := Scalar.addi v361 c11_i32
  let v363 : Index := Scalar.indexCast v362
  ![v363.toNat]
def k0_mult28 (v12 : BitVec 32) (k0_t2 : Fin (k0_t2_loop v12).trips) (v364 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_100 : BitVec 32 := 128#32
  let v365 : BitVec 32 := Scalar.muli arg12 c128_i32_100
  let v366 : BitVec 32 := Scalar.addi v364 v365
  let c384_i32_101 : BitVec 32 := 384#32
  let v367 : BitVec 32 := Scalar.minsi v366 c384_i32_101
  v367

def k0_off57 (v12 : BitVec 32) (k0_t2 : Fin (k0_t2_loop v12).trips) (v364 : BitVec 32) : Fin 3 → Nat :=
  let c11 : Index := 11#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_100 : BitVec 32 := 128#32
  let v365 : BitVec 32 := Scalar.muli arg12 c128_i32_100
  let v366 : BitVec 32 := Scalar.addi v364 v365
  let c384_i32_101 : BitVec 32 := 384#32
  let v367 : BitVec 32 := Scalar.minsi v366 c384_i32_101
  let v368 : BitVec 32 := v367
  let v383 : Index := Scalar.indexCast v368
  let c0_103 : Index := 0#32
  ![11, v383.toNat, 0]

def k0_chk29 (v12 : BitVec 32) (k0_t2 : Fin (k0_t2_loop v12).trips) (v364 : BitVec 32) : Prop :=
  (16 ∣ (k0_mult28 v12 k0_t2 v364).toNat) ∧
  (∀ a, (k0_off57 v12 k0_t2 v364) a + S1x128x1024.size a ≤ S16x512x1024.size a)
theorem k0_mult28_dvd : ∀ (v12 : BitVec 32) (k0_t2 : Fin (k0_t2_loop v12).trips) (v364 : BitVec 32) (k0_hw29 : k0_chk29 v12 k0_t2 v364), 16 ∣ (k0_mult28 v12 k0_t2 v364).toNat := fun v12 k0_t2 v364 k0_hw29 => k0_hw29.1
theorem k0_off57_inb : ∀ (v12 : BitVec 32) (k0_t2 : Fin (k0_t2_loop v12).trips) (v364 : BitVec 32) (k0_hw29 : k0_chk29 v12 k0_t2 v364), ∀ a, (k0_off57 v12 k0_t2 v364) a + S1x128x1024.size a ≤ S16x512x1024.size a := fun v12 k0_t2 v364 k0_hw29 => k0_hw29.2

def k0_off58 (i : grid0.Coords) : Fin 1 → Nat :=
  let arg0 : BitVec 32 := BitVec.ofNat 32 (i 0).val
  let c8_i32_105 : BitVec 32 := 8#32
  let v390 : BitVec 32 := Scalar.muli arg0 c8_i32_105
  let arg1 : BitVec 32 := BitVec.ofNat 32 (i 1).val
  let v391 : BitVec 32 := Scalar.addi v390 arg1
  let c16_i32_106 : BitVec 32 := 16#32
  let v392 : BitVec 32 := Scalar.muli v391 c16_i32_106
  let c12_i32 : BitVec 32 := 12#32
  let v393 : BitVec 32 := Scalar.addi v392 c12_i32
  let v394 : Index := Scalar.indexCast v393
  ![v394.toNat]
def k0_mult29 (v12 : BitVec 32) (k0_t2 : Fin (k0_t2_loop v12).trips) (v395 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_107 : BitVec 32 := 128#32
  let v396 : BitVec 32 := Scalar.muli arg12 c128_i32_107
  let v397 : BitVec 32 := Scalar.addi v395 v396
  let c384_i32_108 : BitVec 32 := 384#32
  let v398 : BitVec 32 := Scalar.minsi v397 c384_i32_108
  v398

def k0_off59 (v12 : BitVec 32) (k0_t2 : Fin (k0_t2_loop v12).trips) (v395 : BitVec 32) : Fin 3 → Nat :=
  let c12 : Index := 12#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_107 : BitVec 32 := 128#32
  let v396 : BitVec 32 := Scalar.muli arg12 c128_i32_107
  let v397 : BitVec 32 := Scalar.addi v395 v396
  let c384_i32_108 : BitVec 32 := 384#32
  let v398 : BitVec 32 := Scalar.minsi v397 c384_i32_108
  let v399 : BitVec 32 := v398
  let v414 : Index := Scalar.indexCast v399
  let c0_110 : Index := 0#32
  ![12, v414.toNat, 0]

def k0_chk30 (v12 : BitVec 32) (k0_t2 : Fin (k0_t2_loop v12).trips) (v395 : BitVec 32) : Prop :=
  (16 ∣ (k0_mult29 v12 k0_t2 v395).toNat) ∧
  (∀ a, (k0_off59 v12 k0_t2 v395) a + S1x128x1024.size a ≤ S16x512x1024.size a)
theorem k0_mult29_dvd : ∀ (v12 : BitVec 32) (k0_t2 : Fin (k0_t2_loop v12).trips) (v395 : BitVec 32) (k0_hw30 : k0_chk30 v12 k0_t2 v395), 16 ∣ (k0_mult29 v12 k0_t2 v395).toNat := fun v12 k0_t2 v395 k0_hw30 => k0_hw30.1
theorem k0_off59_inb : ∀ (v12 : BitVec 32) (k0_t2 : Fin (k0_t2_loop v12).trips) (v395 : BitVec 32) (k0_hw30 : k0_chk30 v12 k0_t2 v395), ∀ a, (k0_off59 v12 k0_t2 v395) a + S1x128x1024.size a ≤ S16x512x1024.size a := fun v12 k0_t2 v395 k0_hw30 => k0_hw30.2

def k0_off60 (i : grid0.Coords) : Fin 1 → Nat :=
  let arg0 : BitVec 32 := BitVec.ofNat 32 (i 0).val
  let c8_i32_111 : BitVec 32 := 8#32
  let v417 : BitVec 32 := Scalar.muli arg0 c8_i32_111
  let arg1 : BitVec 32 := BitVec.ofNat 32 (i 1).val
  let v418 : BitVec 32 := Scalar.addi v417 arg1
  let c16_i32_112 : BitVec 32 := 16#32
  let v419 : BitVec 32 := Scalar.muli v418 c16_i32_112
  let c13_i32 : BitVec 32 := 13#32
  let v420 : BitVec 32 := Scalar.addi v419 c13_i32
  let v421 : Index := Scalar.indexCast v420
  ![v421.toNat]
def k0_mult30 (v12 : BitVec 32) (k0_t2 : Fin (k0_t2_loop v12).trips) (v422 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_113 : BitVec 32 := 128#32
  let v423 : BitVec 32 := Scalar.muli arg12 c128_i32_113
  let v424 : BitVec 32 := Scalar.addi v422 v423
  let c384_i32_114 : BitVec 32 := 384#32
  let v425 : BitVec 32 := Scalar.minsi v424 c384_i32_114
  v425

def k0_off61 (v12 : BitVec 32) (k0_t2 : Fin (k0_t2_loop v12).trips) (v422 : BitVec 32) : Fin 3 → Nat :=
  let c13 : Index := 13#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_113 : BitVec 32 := 128#32
  let v423 : BitVec 32 := Scalar.muli arg12 c128_i32_113
  let v424 : BitVec 32 := Scalar.addi v422 v423
  let c384_i32_114 : BitVec 32 := 384#32
  let v425 : BitVec 32 := Scalar.minsi v424 c384_i32_114
  let v426 : BitVec 32 := v425
  let v441 : Index := Scalar.indexCast v426
  let c0_116 : Index := 0#32
  ![13, v441.toNat, 0]

def k0_chk31 (v12 : BitVec 32) (k0_t2 : Fin (k0_t2_loop v12).trips) (v422 : BitVec 32) : Prop :=
  (16 ∣ (k0_mult30 v12 k0_t2 v422).toNat) ∧
  (∀ a, (k0_off61 v12 k0_t2 v422) a + S1x128x1024.size a ≤ S16x512x1024.size a)
theorem k0_mult30_dvd : ∀ (v12 : BitVec 32) (k0_t2 : Fin (k0_t2_loop v12).trips) (v422 : BitVec 32) (k0_hw31 : k0_chk31 v12 k0_t2 v422), 16 ∣ (k0_mult30 v12 k0_t2 v422).toNat := fun v12 k0_t2 v422 k0_hw31 => k0_hw31.1
theorem k0_off61_inb : ∀ (v12 : BitVec 32) (k0_t2 : Fin (k0_t2_loop v12).trips) (v422 : BitVec 32) (k0_hw31 : k0_chk31 v12 k0_t2 v422), ∀ a, (k0_off61 v12 k0_t2 v422) a + S1x128x1024.size a ≤ S16x512x1024.size a := fun v12 k0_t2 v422 k0_hw31 => k0_hw31.2

def k0_off62 (i : grid0.Coords) : Fin 1 → Nat :=
  let arg0 : BitVec 32 := BitVec.ofNat 32 (i 0).val
  let c8_i32_118 : BitVec 32 := 8#32
  let v448 : BitVec 32 := Scalar.muli arg0 c8_i32_118
  let arg1 : BitVec 32 := BitVec.ofNat 32 (i 1).val
  let v449 : BitVec 32 := Scalar.addi v448 arg1
  let c16_i32_119 : BitVec 32 := 16#32
  let v450 : BitVec 32 := Scalar.muli v449 c16_i32_119
  let c14_i32 : BitVec 32 := 14#32
  let v451 : BitVec 32 := Scalar.addi v450 c14_i32
  let v452 : Index := Scalar.indexCast v451
  ![v452.toNat]
def k0_mult31 (v12 : BitVec 32) (k0_t2 : Fin (k0_t2_loop v12).trips) (v453 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_120 : BitVec 32 := 128#32
  let v454 : BitVec 32 := Scalar.muli arg12 c128_i32_120
  let v455 : BitVec 32 := Scalar.addi v453 v454
  let c384_i32_121 : BitVec 32 := 384#32
  let v456 : BitVec 32 := Scalar.minsi v455 c384_i32_121
  v456

def k0_off63 (v12 : BitVec 32) (k0_t2 : Fin (k0_t2_loop v12).trips) (v453 : BitVec 32) : Fin 3 → Nat :=
  let c14 : Index := 14#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_120 : BitVec 32 := 128#32
  let v454 : BitVec 32 := Scalar.muli arg12 c128_i32_120
  let v455 : BitVec 32 := Scalar.addi v453 v454
  let c384_i32_121 : BitVec 32 := 384#32
  let v456 : BitVec 32 := Scalar.minsi v455 c384_i32_121
  let v457 : BitVec 32 := v456
  let v472 : Index := Scalar.indexCast v457
  let c0_123 : Index := 0#32
  ![14, v472.toNat, 0]

def k0_chk32 (v12 : BitVec 32) (k0_t2 : Fin (k0_t2_loop v12).trips) (v453 : BitVec 32) : Prop :=
  (16 ∣ (k0_mult31 v12 k0_t2 v453).toNat) ∧
  (∀ a, (k0_off63 v12 k0_t2 v453) a + S1x128x1024.size a ≤ S16x512x1024.size a)
theorem k0_mult31_dvd : ∀ (v12 : BitVec 32) (k0_t2 : Fin (k0_t2_loop v12).trips) (v453 : BitVec 32) (k0_hw32 : k0_chk32 v12 k0_t2 v453), 16 ∣ (k0_mult31 v12 k0_t2 v453).toNat := fun v12 k0_t2 v453 k0_hw32 => k0_hw32.1
theorem k0_off63_inb : ∀ (v12 : BitVec 32) (k0_t2 : Fin (k0_t2_loop v12).trips) (v453 : BitVec 32) (k0_hw32 : k0_chk32 v12 k0_t2 v453), ∀ a, (k0_off63 v12 k0_t2 v453) a + S1x128x1024.size a ≤ S16x512x1024.size a := fun v12 k0_t2 v453 k0_hw32 => k0_hw32.2

def k0_off64 (i : grid0.Coords) : Fin 1 → Nat :=
  let arg0 : BitVec 32 := BitVec.ofNat 32 (i 0).val
  let c8_i32_124 : BitVec 32 := 8#32
  let v475 : BitVec 32 := Scalar.muli arg0 c8_i32_124
  let arg1 : BitVec 32 := BitVec.ofNat 32 (i 1).val
  let v476 : BitVec 32 := Scalar.addi v475 arg1
  let c16_i32_125 : BitVec 32 := 16#32
  let v477 : BitVec 32 := Scalar.muli v476 c16_i32_125
  let c15_i32 : BitVec 32 := 15#32
  let v478 : BitVec 32 := Scalar.addi v477 c15_i32
  let v479 : Index := Scalar.indexCast v478
  ![v479.toNat]
def k0_mult32 (v12 : BitVec 32) (k0_t2 : Fin (k0_t2_loop v12).trips) (v480 : BitVec 32) : BitVec 32 :=
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_126 : BitVec 32 := 128#32
  let v481 : BitVec 32 := Scalar.muli arg12 c128_i32_126
  let v482 : BitVec 32 := Scalar.addi v480 v481
  let c384_i32_127 : BitVec 32 := 384#32
  let v483 : BitVec 32 := Scalar.minsi v482 c384_i32_127
  v483

def k0_off65 (v12 : BitVec 32) (k0_t2 : Fin (k0_t2_loop v12).trips) (v480 : BitVec 32) : Fin 3 → Nat :=
  let c15 : Index := 15#32
  let c0_i32_7 : BitVec 32 := 0#32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg12 : BitVec 32 := Scf.iv v17 c1_i32_9 k0_t2
  let c128_i32_126 : BitVec 32 := 128#32
  let v481 : BitVec 32 := Scalar.muli arg12 c128_i32_126
  let v482 : BitVec 32 := Scalar.addi v480 v481
  let c384_i32_127 : BitVec 32 := 384#32
  let v483 : BitVec 32 := Scalar.minsi v482 c384_i32_127
  let v484 : BitVec 32 := v483
  let v499 : Index := Scalar.indexCast v484
  let c0_129 : Index := 0#32
  ![15, v499.toNat, 0]

def k0_chk33 (v12 : BitVec 32) (k0_t2 : Fin (k0_t2_loop v12).trips) (v480 : BitVec 32) : Prop :=
  (16 ∣ (k0_mult32 v12 k0_t2 v480).toNat) ∧
  (∀ a, (k0_off65 v12 k0_t2 v480) a + S1x128x1024.size a ≤ S16x512x1024.size a)
theorem k0_mult32_dvd : ∀ (v12 : BitVec 32) (k0_t2 : Fin (k0_t2_loop v12).trips) (v480 : BitVec 32) (k0_hw33 : k0_chk33 v12 k0_t2 v480), 16 ∣ (k0_mult32 v12 k0_t2 v480).toNat := fun v12 k0_t2 v480 k0_hw33 => k0_hw33.1
theorem k0_off65_inb : ∀ (v12 : BitVec 32) (k0_t2 : Fin (k0_t2_loop v12).trips) (v480 : BitVec 32) (k0_hw33 : k0_chk33 v12 k0_t2 v480), ∀ a, (k0_off65 v12 k0_t2 v480) a + S1x128x1024.size a ≤ S16x512x1024.size a := fun v12 k0_t2 v480 k0_hw33 => k0_hw33.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CombineRefIdeal.lean ====
abbrev S8x4096x16 : Shape := ⟨3, ![8, 4096, 16]⟩
abbrev S8x16x32 : Shape := ⟨3, ![8, 16, 32]⟩
abbrev S16x4096x1024 : Shape := ⟨3, ![16, 4096, 1024]⟩
abbrev S8x4096x1024 : Shape := ⟨3, ![8, 4096, 1024]⟩
abbrev S8x1x1024 : Shape := ⟨3, ![8, 1, 1024]⟩
abbrev S1024 : Shape := ⟨1, ![1024]⟩
abbrev S8x4096x16x1 : Shape := ⟨4, ![8, 4096, 16, 1]⟩
abbrev S1x1x1x512 : Shape := ⟨4, ![1, 1, 1, 512]⟩
abbrev S8x4096x16x512 : Shape := ⟨4, ![8, 4096, 16, 512]⟩
abbrev S16x8x512x1024 : Shape := ⟨4, ![16, 8, 512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x16, .i32⟩
  | .hbm, ⟨1, _⟩ => ⟨S8x4096x16, .f32⟩
  | .hbm, ⟨2, _⟩ => ⟨S8x16x32, .i32⟩
  | .hbm, ⟨3, _⟩ => ⟨S16x4096x1024, .bf16⟩
  | .hbm, ⟨4, _⟩ => ⟨S8x4096x1024, .f32⟩
  | .hbm, ⟨5, _⟩ => ⟨S8x1x1024, .f32⟩
  | .hbm, ⟨6, _⟩ => ⟨S1024, .f32⟩
  | .hbm, ⟨7, _⟩ => ⟨S8x4096x16x1, .i32⟩
  | .hbm, ⟨8, _⟩ => ⟨S1x1x1x512, .i32⟩
  | .hbm, ⟨9, _⟩ => ⟨S8x4096x16x512, .i32⟩
  | .hbm, ⟨10, _⟩ => ⟨S8x4096x16x512, .i32⟩
  | .hbm, ⟨11, _⟩ => ⟨S8x4096x16x512, .i1⟩
  | .hbm, ⟨12, _⟩ => ⟨S8x4096x16x512, .f32⟩
  | .hbm, ⟨13, _⟩ => ⟨S8x4096x16x1, .f32⟩
  | .hbm, ⟨14, _⟩ => ⟨S8x4096x16x512, .f32⟩
  | .hbm, ⟨15, _⟩ => ⟨S8x4096x16x512, .f32⟩
  | .hbm, ⟨16, _⟩ => ⟨S16x8x512x1024, .bf16⟩
  | .hbm, ⟨17, _⟩ => ⟨S16x8x512x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | _, _ => ⟨S8x4096x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Project.lean ====
abbrev S8x4096x1024 : Shape := ⟨3, ![8, 4096, 1024]⟩
abbrev S1024 : Shape := ⟨1, ![1024]⟩
abbrev S8x1x1024 : Shape := ⟨3, ![8, 1, 1024]⟩
abbrev S1024x2048 : Shape := ⟨2, ![1024, 2048]⟩
abbrev S3x1536 : Shape := ⟨2, ![3, 1536]⟩
abbrev S1536 : Shape := ⟨1, ![1536]⟩
abbrev S512x512 : Shape := ⟨2, ![512, 512]⟩
abbrev S8x64x512 : Shape := ⟨3, ![8, 64, 512]⟩
abbrev S64x8x512 : Shape := ⟨3, ![64, 8, 512]⟩
abbrev S1x1024 : Shape := ⟨2, ![1, 1024]⟩
abbrev S1x1536 : Shape := ⟨2, ![1, 1536]⟩
abbrev S8x4096x1536 : Shape := ⟨3, ![8, 4096, 1536]⟩
abbrev S32768x512 : Shape := ⟨2, ![32768, 512]⟩
abbrev S8x64x1024 : Shape := ⟨3, ![8, 64, 1024]⟩
abbrev S8x64x1536 : Shape := ⟨3, ![8, 64, 1536]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩
abbrev S512x2048 : Shape := ⟨2, ![512, 2048]⟩
abbrev S512x1536 : Shape := ⟨2, ![512, 1536]⟩
abbrev S512x1 : Shape := ⟨2, ![512, 1]⟩

abbrev nBuf : Space → Nat
  | .hbm => 20
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S3x1536, .f32⟩
  | .hbm, ⟨6, _⟩ => ⟨S1536, .f32⟩
  | .hbm, ⟨7, _⟩ => ⟨S1024x2048, .bf16⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S8x64x512, .f32⟩
  | .hbm, ⟨13, _⟩ => ⟨S64x8x512, .f32⟩
  | .hbm, ⟨14, _⟩ => ⟨S512x512, .f32⟩
  | .hbm, ⟨15, _⟩ => ⟨S512x512, .bf16⟩
  | .hbm, ⟨16, _⟩ => ⟨S1x1024, .f32⟩
  | .hbm, ⟨17, _⟩ => ⟨S1x1536, .f32⟩
  | .hbm, ⟨18, _⟩ => ⟨S8x4096x1536, .f32⟩
  | .hbm, ⟨19, _⟩ => ⟨S32768x512, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1x1024, .f32⟩
  | .local _ .vmem, ⟨4, _⟩ => ⟨S8x1x1024, .f32⟩
  | .local _ .vmem, ⟨5, _⟩ => ⟨S1024x2048, .bf16⟩
  | .local _ .vmem, ⟨6, _⟩ => ⟨S512x512, .bf16⟩
  | .local _ .vmem, ⟨7, _⟩ => ⟨S3x1536, .f32⟩
  | .local _ .vmem, ⟨8, _⟩ => ⟨S1x1536, .f32⟩
  | .local _ .vmem, ⟨9, _⟩ => ⟨S8x64x1536, .f32⟩
  | .local _ .vmem, ⟨10, _⟩ => ⟨S8x64x1536, .f32⟩
  | .local _ .vmem, ⟨11, _⟩ => ⟨S512x512, .bf16⟩
  | .local _ .vmem, ⟨12, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectRefIdeal.lean ====
abbrev S8x4096x1024 : Shape := ⟨3, ![8, 4096, 1024]⟩
abbrev S1024 : Shape := ⟨1, ![1024]⟩
abbrev S8x1x1024 : Shape := ⟨3, ![8, 1, 1024]⟩
abbrev S1024x2048 : Shape := ⟨2, ![1024, 2048]⟩
abbrev S3x1536 : Shape := ⟨2, ![3, 1536]⟩
abbrev S1536 : Shape := ⟨1, ![1536]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S8x4096x1536 : Shape := ⟨3, ![8, 4096, 1536]⟩
abbrev S8x64x64x1536 : Shape := ⟨4, ![8, 64, 64, 1536]⟩
abbrev S8x64x66x1536 : Shape := ⟨4, ![8, 64, 66, 1536]⟩
abbrev S1x1536 : Shape := ⟨2, ![1, 1536]⟩
abbrev S1x1x1x1536 : Shape := ⟨4, ![1, 1, 1, 1536]⟩
abbrev S8x4096x512 : Shape := ⟨3, ![8, 4096, 512]⟩
abbrev S4096x8x512 : Shape := ⟨3, ![4096, 8, 512]⟩
abbrev S32768x512 : Shape := ⟨2, ![32768, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2048, .f32⟩
  | .hbm, ⟨5, _⟩ => ⟨S3x1536, .f32⟩
  | .hbm, ⟨6, _⟩ => ⟨S1536, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x2048, .f32⟩
  | .hbm, ⟨31, _⟩ => ⟨S8x4096x1536, .f32⟩
  | .hbm, ⟨32, _⟩ => ⟨S8x64x64x1536, .f32⟩
  | .hbm, ⟨33, _⟩ => ⟨S_, .i32⟩
  | .hbm, ⟨34, _⟩ => ⟨S_, .f32⟩
  | .hbm, ⟨35, _⟩ => ⟨S8x64x66x1536, .f32⟩
  | .hbm, ⟨36, _⟩ => ⟨S8x64x64x1536, .f32⟩
  | .hbm, ⟨37, _⟩ => ⟨S1x1536, .f32⟩
  | .hbm, ⟨38, _⟩ => ⟨S1536, .f32⟩
  | .hbm, ⟨39, _⟩ => ⟨S1x1x1x1536, .f32⟩
  | .hbm, ⟨40, _⟩ => ⟨S8x64x64x1536, .f32⟩
  | .hbm, ⟨41, _⟩ => ⟨S8x64x64x1536, .f32⟩
  | .hbm, ⟨42, _⟩ => ⟨S8x64x64x1536, .f32⟩
  | .hbm, ⟨43, _⟩ => ⟨S1x1536, .f32⟩
  | .hbm, ⟨44, _⟩ => ⟨S1536, .f32⟩
  | .hbm, ⟨45, _⟩ => ⟨S1x1x1x1536, .f32⟩
  | .hbm, ⟨46, _⟩ => ⟨S8x64x64x1536, .f32⟩
  | .hbm, ⟨47, _⟩ => ⟨S8x64x64x1536, .f32⟩
  | .hbm, ⟨48, _⟩ => ⟨S8x64x64x1536, .f32⟩
  | .hbm, ⟨49, _⟩ => ⟨S8x64x64x1536, .f32⟩
  | .hbm, ⟨50, _⟩ => ⟨S1x1536, .f32⟩
  | .hbm, ⟨51, _⟩ => ⟨S1536, .f32⟩
  | .hbm, ⟨52, _⟩ => ⟨S1x1x1x1536, .f32⟩
  | .hbm, ⟨53, _⟩ => ⟨S8x64x64x1536, .f32⟩
  | .hbm, ⟨54, _⟩ => ⟨S8x64x64x1536, .f32⟩
  | .hbm, ⟨55, _⟩ => ⟨S8x64x64x1536, .f32⟩
  | .hbm, ⟨56, _⟩ => ⟨S1x1x1x1536, .f32⟩
  | .hbm, ⟨57, _⟩ => ⟨S8x64x64x1536, .f32⟩
  | .hbm, ⟨58, _⟩ => ⟨S8x64x64x1536, .f32⟩
  | .hbm, ⟨59, _⟩ => ⟨S8x4096x512, .f32⟩
  | .hbm, ⟨60, _⟩ => ⟨S4096x8x512, .f32⟩
  | .hbm, ⟨61, _⟩ => ⟨S32768x512, .f32⟩
  | .hbm, ⟨62, _⟩ => ⟨S8x4096x1536, .f32⟩
  | .hbm, ⟨63, _⟩ => ⟨S32768x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Mix.lean ====
abbrev S8x4096x1024 : Shape := ⟨3, ![8, 4096, 1024]⟩
abbrev S8x4096x512 : Shape := ⟨3, ![8, 4096, 512]⟩
abbrev S32768x512 : Shape := ⟨2, ![32768, 512]⟩
abbrev S512 : Shape := ⟨1, ![512]⟩
abbrev S512x512 : Shape := ⟨2, ![512, 512]⟩
abbrev S1024x1024 : Shape := ⟨2, ![1024, 1024]⟩
abbrev S8x1x1024 : Shape := ⟨3, ![8, 1, 1024]⟩
abbrev S1024 : Shape := ⟨1, ![1024]⟩
abbrev S1024x16 : Shape := ⟨2, ![1024, 16]⟩
abbrev S8x64x512 : Shape := ⟨3, ![8, 64, 512]⟩
abbrev S64x8x512 : Shape := ⟨3, ![64, 8, 512]⟩
abbrev S1x512 : Shape := ⟨2, ![1, 512]⟩
abbrev S512x1024 : Shape := ⟨2, ![512, 1024]⟩
abbrev S1x1024 : Shape := ⟨2, ![1, 1024]⟩
abbrev S16x1024 : Shape := ⟨2, ![16, 1024]⟩
abbrev S8x16x4096 : Shape := ⟨3, ![8, 16, 4096]⟩
abbrev S8x128x1024 : Shape := ⟨3, ![8, 128, 1024]⟩
abbrev S8x128x512 : Shape := ⟨3, ![8, 128, 512]⟩
abbrev S1024x512 : Shape := ⟨2, ![1024, 512]⟩
abbrev S8x16x128 : Shape := ⟨3, ![8, 16, 128]⟩
abbrev S64x512 : Shape := ⟨2, ![64, 512]⟩
abbrev S8x128 : Shape := ⟨2, ![8, 128]⟩
abbrev S8x128x1 : Shape := ⟨3, ![8, 128, 1]⟩
abbrev S1x1x1024 : Shape := ⟨3, ![1, 1, 1024]⟩
abbrev S16x128 : Shape := ⟨2, ![16, 128]⟩
abbrev S1x16x128 : Shape := ⟨3, ![1, 16, 128]⟩

abbrev nBuf : Space → Nat
  | .hbm => 35
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S32768x512, .f32⟩
  | .hbm, ⟨3, _⟩ => ⟨S32768x512, .f32⟩
  | .hbm, ⟨4, _⟩ => ⟨S32768x512, .bf16⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S8x1x1024, .f32⟩
  | .hbm, ⟨10, _⟩ => ⟨S1024, .f32⟩
  | .hbm, ⟨11, _⟩ => ⟨S8x1x1024, .f32⟩
  | .hbm, ⟨12, _⟩ => ⟨S8x1x1024, .f32⟩
  | .hbm, ⟨13, _⟩ => ⟨S1024x16, .f32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S8x64x512, .f32⟩
  | .hbm, ⟨19, _⟩ => ⟨S64x8x512, .f32⟩
  | .hbm, ⟨20, _⟩ => ⟨S512x512, .f32⟩
  | .hbm, ⟨21, _⟩ => ⟨S512x512, .bf16⟩
  | .hbm, ⟨22, _⟩ => ⟨S512x512, .bf16⟩
  | .hbm, ⟨23, _⟩ => ⟨S1x512, .f32⟩
  | .hbm, ⟨24, _⟩ => ⟨S512x512, .bf16⟩
  | .hbm, ⟨25, _⟩ => ⟨S1x512, .f32⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S1x1024, .f32⟩
  | .hbm, ⟨31, _⟩ => ⟨S16x1024, .f32⟩
  | .hbm, ⟨32, _⟩ => ⟨S8x4096x1024, .f32⟩
  | .hbm, ⟨33, _⟩ => ⟨S8x4096x1024, .bf16⟩
  | .hbm, ⟨34, _⟩ => ⟨S8x16x4096, .f32⟩
  | .local _ .vmem, ⟨0, _⟩ => ⟨S8x128x1024, .f32⟩
  | .local _ .vmem, ⟨1, _⟩ => ⟨S8x128x1024, .f32⟩
  | .local _ .vmem, ⟨2, _⟩ => ⟨S8x128x512, .f32⟩
  | .local _ .vmem, ⟨3, _⟩ => ⟨S8x128x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S512x512, .bf16⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S8x1x1024, .f32⟩
  | .local _ .vmem, ⟨16, _⟩ => ⟨S1x1024, .f32⟩
  | .local _ .vmem, ⟨17, _⟩ => ⟨S8x1x1024, .f32⟩
  | .local _ .vmem, ⟨18, _⟩ => ⟨S8x1x1024, .f32⟩
  | .local _ .vmem, ⟨19, _⟩ => ⟨S16x1024, .f32⟩
  | .local _ .vmem, ⟨20, _⟩ => ⟨S512x512, .bf16⟩
  | .local _ .vmem, ⟨21, _⟩ => ⟨S8x128x1024, .f32⟩
  | .local _ .vmem, ⟨22, _⟩ => ⟨S8x128x1024, .f32⟩
  | .local _ .vmem, ⟨23, _⟩ => ⟨S8x128x1024, .bf16⟩
  | .local _ .vmem, ⟨24, _⟩ => ⟨S8x128x1024, .bf16⟩
  | .local _ .vmem, ⟨25, _⟩ => ⟨S8x16x128, .f32⟩
  | .local _ .vmem, ⟨26, _⟩ => ⟨S8x16x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixRefIdeal.lean ====
abbrev S8x4096x1024 : Shape := ⟨3, ![8, 4096, 1024]⟩
abbrev S8x4096x512 : Shape := ⟨3, ![8, 4096, 512]⟩
abbrev S32768x512 : Shape := ⟨2, ![32768, 512]⟩
abbrev S512 : Shape := ⟨1, ![512]⟩
abbrev S512x512 : Shape := ⟨2, ![512, 512]⟩
abbrev S1024x1024 : Shape := ⟨2, ![1024, 1024]⟩
abbrev S8x1x1024 : Shape := ⟨3, ![8, 1, 1024]⟩
abbrev S1024 : Shape := ⟨1, ![1024]⟩
abbrev S1024x16 : Shape := ⟨2, ![1024, 16]⟩
abbrev S1x512 : Shape := ⟨2, ![1, 512]⟩
abbrev S_ : Shape := ⟨0, ![]⟩
abbrev S4096x8x512 : Shape := ⟨3, ![4096, 8, 512]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S32768x512, .f32⟩
  | .hbm, ⟨3, _⟩ => ⟨S32768x512, .f32⟩
  | .hbm, ⟨4, _⟩ => ⟨S32768x512, .bf16⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x1024, .f32⟩
  | .hbm, ⟨9, _⟩ => ⟨S8x1x1024, .f32⟩
  | .hbm, ⟨10, _⟩ => ⟨S1024, .f32⟩
  | .hbm, ⟨11, _⟩ => ⟨S8x1x1024, .f32⟩
  | .hbm, ⟨12, _⟩ => ⟨S8x1x1024, .f32⟩
  | .hbm, ⟨13, _⟩ => ⟨S1024x16, .f32⟩
  | .hbm, ⟨14, _⟩ => ⟨S32768x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S4096x8x512, .f32⟩
  | .hbm, ⟨51, _⟩ => ⟨S8x4096x512, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.FfnBlock.lean ====
/-
  One grid point of the expert feed-forward, as values. The kernel works on a block of 2048 token rows in four sub-blocks of 512
  and adds, for the 256 hidden units of the point, their contribution to an accumulator that is carried between points. Here the
  four stores are read back as ONE function of the accumulator's index (`stepAt`): the three cases of the grid (the first point of
  a run, which starts from zero, the middle ones, and the last one, which also writes the result) all leave it.
-/
module

public import proofs.«01_k».proof.Proof.Gen.FfnIdeal.Value
public import Idealize.ShloMosaic.Lib.ValueIdx
public import Idealize.ShloMosaic.Lib.Pointwise
public import Idealize.ShloMosaic.Lib.Pipeline.ValueKit
public import Idealize.ShloMosaic.Lib.Pipeline.ReadBack
public import Idealize.ShloMosaic.Lib.Pipeline.CanonAppend

@[expose] public section

set_option maxRecDepth 16384

noncomputable section

namespace Cert.FfnIdeal.Hand

open Idealize.ShloMosaic Idealize.ShloMosaic.TcCoe Idealize.ShloMosaic.Tactic
open Cert.FfnIdeal.Gen Idealize.ShloMosaic.Pipeline
open scoped BigOperators

/-- The gated hidden value `silu(g) · u` of two pre-activations. -/
def gated (g u : EReal) : EReal := g * Ideal.div 1 (1 + Ideal.exp (0 - g)) * u

/-- What one point adds at row `r`, column `q`: the sum over the point's 256 hidden units. -/
def addend (x0 : Vec Ideal S1x2048x1024 .bf16) (x1 x2 : Vec Ideal S1x1024x256 .f32) (x3 : Vec Ideal S1x256x1024 .f32)
    (r : Fin 2048) (q : Fin 1024) : EReal :=
  ∑ k : Fin 256, gated (∑ d : Fin 1024, x0 (ix3 0 r d) * x1 (ix3 0 d k)) (∑ d : Fin 1024, x0 (ix3 0 r d) * x2 (ix3 0 d k)) *
    x3 (ix3 0 k q)

/-- The accumulator after one point, from the accumulator before it. -/
def stepAt (x0 : Vec Ideal S1x2048x1024 .bf16) (x1 x2 : Vec Ideal S1x1024x256 .f32) (x3 : Vec Ideal S1x256x1024 .f32)
    (xs : Vec Ideal S2048x1024 .f32) : Vec Ideal S2048x1024 .f32 :=
  fun y => xs y + addend x0 x1 x2 x3 (y 0) (y 1)

/-- One sub-block's payload at an index: the accumulator there plus the sum over the hidden units. -/
theorem sub_apply (x1 x2 : Vec Ideal S1x1024x256 .f32) (x3 : Vec Ideal S1x256x1024 .f32) (X : Vec Ideal S1x512x1024 .bf16)
    (acc : Vec Ideal S512x1024 .f32) (j : S512x1024.Idx) :
    k0_pay2 (k0_pay5 x1) (k0_pay6 x2) (k0_pay7 x3) X acc j = acc j +
      ∑ k : Fin 256, gated (∑ d : Fin 1024, X (ix3 0 (j 0) d) * x1 (ix3 0 d k)) (∑ d : Fin 1024, X (ix3 0 (j 0) d) * x2 (ix3 0 d k)) *
        x3 (ix3 0 k (j 1)) := by
  pointwise [k0_pay2, k0_pay5, k0_pay6, k0_pay7]
  rfl

/-- The store of the sub-block of rows `o … o + 511` is the part of `stepAt` under its rectangle. -/
theorem piece_apply (o : Nat) (inb : ∀ a : Fin 2, ![o, 0] a + ![512, 1024] a ≤ S2048x1024.size a)
    (inb3 : ∀ a : Fin 3, ![0, o, 0] a + ![1, 512, 1024] a ≤ S1x2048x1024.size a)
    (x0 : Vec Ideal S1x2048x1024 .bf16) (x1 x2 : Vec Ideal S1x1024x256 .f32) (x3 : Vec Ideal S1x256x1024 .f32)
    (xs : Vec Ideal S2048x1024 .f32) (j : S512x1024.Idx) :
    k0_pay2 (k0_pay5 x1) (k0_pay6 x2) (k0_pay7 x3) (View.ld x0 (Rect.unit ![0, o, 0] ![1, 512, 1024] inb3))
      (View.ld xs (Rect.unit ![o, 0] ![512, 1024] inb)) j
      = stepAt x0 x1 x2 x3 xs ((Rect.unit (s := S2048x1024) ![o, 0] ![512, 1024] inb).emb j) := by
  rw [sub_apply]
  have hx : ∀ d : Fin 1024, View.ld x0 (Rect.unit ![0, o, 0] ![1, 512, 1024] inb3) (ix3 0 (j 0) d)
      = x0 (ix3 0 ((Rect.unit (s := S2048x1024) ![o, 0] ![512, 1024] inb).emb j 0) d) := fun d => congrArg x0 (by
    funext a
    apply Fin.ext
    match a with
    | ⟨0, _⟩ => rfl
    | ⟨1, _⟩ => rfl
    | ⟨2, _⟩ => show 0 + 1 * d.val = d.val; omega)
  have hj : j 1 = (Rect.unit (s := S2048x1024) ![o, 0] ![512, 1024] inb).emb j 1 := Fin.ext (by
    show (j 1).val = 0 + 1 * (j 1).val; omega)
  simp only [hx]
  show _ = xs _ + addend x0 x1 x2 x3 _ _
  unfold addend
  rw [← hj]
  rfl

/-- The four stores of a point, last first. -/
abbrev stores (x0 : Vec Ideal S1x2048x1024 .bf16) (x1 x2 : Vec Ideal S1x1024x256 .f32) (x3 : Vec Ideal S1x256x1024 .f32)
    (xs : Vec Ideal S2048x1024 .f32) : List (View.Piece (Elt Ideal) S2048x1024 .f32) :=
  [⟨Rect.unit ![1536, 0] ![512, 1024] inb_S2048x1024_S512x1024_1536_0,
      k0_pay2 (k0_pay5 x1) (k0_pay6 x2) (k0_pay7 x3)
        (View.ld x0 (Rect.unit ![0, 1536, 0] ![1, 512, 1024] inb_S1x2048x1024_S1x512x1024_0_1536_0))
        (View.ld xs (Rect.unit ![1536, 0] ![512, 1024] inb_S2048x1024_S512x1024_1536_0))⟩,
    ⟨Rect.unit ![1024, 0] ![512, 1024] inb_S2048x1024_S512x1024_1024_0,
      k0_pay1 (k0_pay7 x3)
        (k0_pay10 (k0_pay5 x1) (k0_pay6 x2)
          (View.ld x0 (Rect.unit ![0, 1024, 0] ![1, 512, 1024] inb_S1x2048x1024_S1x512x1024_0_1024_0)))
        (View.ld xs (Rect.unit ![1024, 0] ![512, 1024] inb_S2048x1024_S512x1024_1024_0))⟩,
    ⟨Rect.unit ![512, 0] ![512, 1024] inb_S2048x1024_S512x1024_512_0,
      k0_pay9 (k0_pay5 x1) (k0_pay6 x2) (k0_pay7 x3)
        (View.ld x0 (Rect.unit ![0, 512, 0] ![1, 512, 1024] inb_S1x2048x1024_S1x512x1024_0_512_0))
        (View.ld xs (Rect.unit ![512, 0] ![512, 1024] inb_S2048x1024_S512x1024_512_0))⟩,
    ⟨Rect.unit ![0, 0] ![512, 1024] inb_S2048x1024_S512x1024_0_0,
      k0_pay8 x1 x2 x3 (View.ld x0 (Rect.unit ![0, 0, 0] ![1, 512, 1024] inb_S1x2048x1024_S1x512x1024_0_0_0))
        (View.ld xs (Rect.unit ![0, 0] ![512, 1024] inb_S2048x1024_S512x1024_0_0))⟩]

/-- Every index of the accumulator lies under one of the four stores. -/
theorem stores_cover (x0 : Vec Ideal S1x2048x1024 .bf16) (x1 x2 : Vec Ideal S1x1024x256 .f32) (x3 : Vec Ideal S1x256x1024 .f32)
    (xs : Vec Ideal S2048x1024 .f32) (y : S2048x1024.Idx) : ∃ p ∈ stores x0 x1 x2 x3 xs, y ∈ p.1.set :=
  View.cover_of_tiledL (stores x0 x1 x2 x3 xs) S512x1024.size (by sl_kernel_rfl) y

/-- The four stores, whatever was stored before them, leave the accumulator after the point. -/
theorem canon_stores (x0 : Vec Ideal S1x2048x1024 .bf16) (x1 x2 : Vec Ideal S1x1024x256 .f32) (x3 : Vec Ideal S1x256x1024 .f32)
    (xs : Vec Ideal S2048x1024 .f32) (L : List (View.Piece (Elt Ideal) S2048x1024 .f32)) :
    View.canon (stores x0 x1 x2 x3 xs ++ L) = stepAt x0 x1 x2 x3 xs := by
  funext y
  refine View.canon_append_of_pieces (stepAt x0 x1 x2 x3 xs) L _ (fun p hp x => ?_) y (stores_cover x0 x1 x2 x3 xs y)
  simp only [stores, List.mem_cons, List.not_mem_nil, or_false] at hp
  rcases hp with rfl | rfl | rfl | rfl
  · exact piece_apply 1536 _ _ x0 x1 x2 x3 xs x
  · exact piece_apply 1024 _ _ x0 x1 x2 x3 xs x
  · exact piece_apply 512 _ _ x0 x1 x2 x3 xs x
  · exact piece_apply 0 _ _ x0 x1 x2 x3 xs x

/-- A middle point leaves the accumulator after its step. -/
theorem sout_B_0_eq (c : Dev nD) (i : grid0.Coords) (arg3 : Memref sig .tc .vmem S1x2048x1024 .bf16) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S1x2048x1024 .bf16) (harg7 : arg7.IsWhole)
    (arg8 : Memref sig .tc .vmem S2048x1024 .f32) (harg8 : arg8.IsWhole) (hc0 : ¬cond0_0 i) (hc1 : ¬cond0_1 i)
    (x0 : Vec Ideal S1x2048x1024 .bf16) (x1 x2 : Vec Ideal S1x1024x256 .f32) (x3 : Vec Ideal S1x256x1024 .f32) (xs : Vec Ideal S2048x1024 .f32) :
    sout0_B_0 c i arg3 harg3 arg4 harg4 arg5 harg5 arg6 harg6 arg7 harg7 arg8 harg8 hc0 hc1 x0 x1 x2 x3 xs = stepAt x0 x1 x2 x3 xs := by
  frame_out
  exact (congrArg View.canon (List.append_nil _).symm).trans (canon_stores x0 x1 x2 x3 xs [])

/-- The first point of a run leaves the step from the zero block. -/
theorem sout_A_0_eq (c : Dev nD) (i : grid0.Coords) (arg3 : Memref sig .tc .vmem S1x2048x1024 .bf16) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S1x2048x1024 .bf16) (harg7 : arg7.IsWhole)
    (arg8 : Memref sig .tc .vmem S2048x1024 .f32) (harg8 : arg8.IsWhole) (hc0 : cond0_0 i) (hc1 : ¬cond0_1 i)
    (x0 : Vec Ideal S1x2048x1024 .bf16) (x1 x2 : Vec Ideal S1x1024x256 .f32) (x3 : Vec Ideal S1x256x1024 .f32) :
    sout0_A_0 c i arg3 harg3 arg4 harg4 arg5 harg5 arg6 harg6 arg7 harg7 arg8 harg8 hc0 hc1 x0 x1 x2 x3 = stepAt x0 x1 x2 x3 (k0_pay4 (F := Ideal)) := by
  frame_open
  simp (disch := decide) only [↓ View.readCov_skip, ↓ View.readCov_cons_toLoadRect, ↓ View.readCov_fill]
  frame_out
  have h := canon_stores x0 x1 x2 x3 (k0_pay4 (F := Ideal)) [⟨Rect.unit ![0, 0] ![2048, 1024] inb_S2048x1024_S2048x1024_0_0, k0_pay4 (F := Ideal)⟩]
  simp only [stores, List.cons_append, List.nil_append] at h
  exact h

/-- The last point of a run leaves the accumulator after its step … -/
theorem sout_C_0_eq (c : Dev nD) (i : grid0.Coords) (arg3 : Memref sig .tc .vmem S1x2048x1024 .bf16) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S1x2048x1024 .bf16) (harg7 : arg7.IsWhole)
    (arg8 : Memref sig .tc .vmem S2048x1024 .f32) (harg8 : arg8.IsWhole) (hc0 : ¬cond0_0 i) (hc1 : cond0_1 i)
    (x0 : Vec Ideal S1x2048x1024 .bf16) (x1 x2 : Vec Ideal S1x1024x256 .f32) (x3 : Vec Ideal S1x256x1024 .f32) (xs : Vec Ideal S2048x1024 .f32) :
    sout0_C_0 c i arg3 harg3 arg4 harg4 arg5 harg5 arg6 harg6 arg7 harg7 arg8 harg8 hc0 hc1 x0 x1 x2 x3 xs = stepAt x0 x1 x2 x3 xs := by
  frame_out
  exact (congrArg View.canon (List.append_nil _).symm).trans (canon_stores x0 x1 x2 x3 xs [])

/-- … and writes that accumulator as the block of the result. -/
theorem out_C_4_eq (c : Dev nD) (i : grid0.Coords) (arg3 : Memref sig .tc .vmem S1x2048x1024 .bf16) (harg3 : arg3.IsWhole)
    (arg4 : Memref sig .tc .vmem S1x1024x256 .f32) (harg4 : arg4.IsWhole) (arg5 : Memref sig .tc .vmem S1x1024x256 .f32) (harg5 : arg5.IsWhole)
    (arg6 : Memref sig .tc .vmem S1x256x1024 .f32) (harg6 : arg6.IsWhole) (arg7 : Memref sig .tc .vmem S1x2048x1024 .bf16) (harg7 : arg7.IsWhole)
    (arg8 : Memref sig .tc .vmem S2048x1024 .f32) (harg8 : arg8.IsWhole) (hc0 : ¬cond0_0 i) (hc1 : cond0_1 i)
    (x0 : Vec Ideal S1x2048x1024 .bf16) (x1 x2 : Vec Ideal S1x1024x256 .f32) (x3 : Vec Ideal S1x256x1024 .f32) (xs : Vec Ideal S2048x1024 .f32) :
    out0_C_4 c i arg3 harg3 arg4 harg4 arg5 harg5 arg6 harg6 arg7 harg7 arg8 harg8 hc0 hc1 x0 x1 x2 x3 xs = k0_pay3 (stepAt x0 x1 x2 x3 xs) := by
  frame_out
  rw [View.readCov_eq_canon_ld arg8.view (stores x0 x1 x2 x3 xs) _ (stores_cover x0 x1 x2 x3 xs)]
  rw [View.ld_unit_zero (S := S2048x1024) (by decide)]
  exact congrArg k0_pay3 ((congrArg View.canon (List.append_nil _).symm).trans (canon_stores x0 x1 x2 x3 xs []))

end Cert.FfnIdeal.Hand

end
-- ==== Proof.FfnArray.lean ====
/-
  The expert feed-forward's result array, at an index. The grid walks, for each expert and each half of its 4096 rows, over eleven
  blocks of 256 hidden units; the accumulator at the end of such a run of eleven points is the sum of the points' addends
  (`acc_last`), each addend reads its blocks of the token and weight arrays (`blk0` … `blk3`), and the last point writes the
  accumulator back (`array_apply`).
-/
module

public import proofs.«01_k».proof.Proof.FfnBlock

@[expose] public section

set_option maxRecDepth 16384

noncomputable section

namespace Cert.FfnIdeal.Hand

open Idealize.ShloMosaic Idealize.ShloMosaic.TcCoe Idealize.ShloMosaic.Tactic
open Cert.FfnIdeal Cert.FfnIdeal.Gen Cert.FfnIdeal.Value Idealize.ShloMosaic.Pipeline
open scoped BigOperators

variable (m : (ℓ : Loc nD τ sig) → Buf (Elt Ideal) ℓ)

/-- The zero block reads zero. -/
theorem zero_apply (y : S2048x1024.Idx) : (k0_pay4 (F := Ideal)) y = 0 := by pointwise [k0_pay4]

/-- What point `n` adds to the accumulator at `y` (nothing past the grid). -/
def pointAddend (c : Dev nD) (n : Nat) (y : S2048x1024.Idx) : EReal :=
  if h : n < cfg0.N then addend (iblk m c 0 ⟨n, h⟩) (iblk m c 1 ⟨n, h⟩) (iblk m c 2 ⟨n, h⟩) (iblk m c 3 ⟨n, h⟩) (y 0) (y 1) else 0

/-- A point that is not the first of its run adds its addend to the accumulator. -/
theorem step_apply (c : Dev nD) (n : Nat) (h : n < cfg0.N) (acc : Vec Ideal S2048x1024 .f32) (y : S2048x1024.Idx) (h0 : ¬n % 11 = 0) :
    scAt0_0 m c n h acc y = acc y + pointAddend m c n y := by
  unfold scAt0_0 pointAddend
  rw [dif_neg h0, dif_pos h]
  by_cases h1 : n % 11 = 10
  · rw [dif_pos h1, sout_C_0_eq]; rfl
  · rw [dif_neg h1, sout_B_0_eq]; rfl

/-- The first point of a run leaves its addend over zero. -/
theorem reset_apply (c : Dev nD) (n : Nat) (h : n < cfg0.N) (acc : Vec Ideal S2048x1024 .f32) (y : S2048x1024.Idx) (h0 : n % 11 = 0) :
    scAt0_0 m c n h acc y = 0 + pointAddend m c n y := by
  unfold scAt0_0 pointAddend
  rw [dif_pos h0, dif_pos h, dif_neg (by omega), sout_A_0_eq]
  show k0_pay4 (F := Ideal) y + _ = _
  rw [zero_apply]

/-- The accumulator at the last point of run `q`: the eleven addends' sum. -/
theorem acc_last (c : Dev nD) (q : Nat) (hq : 11 * q + 10 < cfg0.N) (y : S2048x1024.Idx) :
    (outsAt0 m c (11 * q + 10) hq).2 y = ∑ s ∈ Finset.range 11, pointAddend m c (11 * q + s) y := by
  have e := soutsAt0_0_eq m c ⟨11 * q + 10, hq⟩
  have hd : (11 * q + 10) / 11 = q := by omega
  have hm : (11 * q + 10) % 11 = 10 := by omega
  simp only [hd, hm] at e
  rw [e, accAt_add_apply _ _ (fun _ => 0) (pointAddend m c) (11 * q) 10
    (fun h i => reset_apply m c (11 * q) h _ i (by omega))
    (fun n h acc i hb he => step_apply m c n h acc i (by omega)) 10 (le_refl _), zero_add]

/-- The last point of a run writes the accumulator it leaves. -/
theorem out_last (c : Dev nD) (t : Fin cfg0.N) (ht : t.val % 11 = 10) :
    (outsAt0 m c t.val t.isLt).1 = k0_pay3 (outsAt0 m c t.val t.isLt).2 := by
  rw [outsAt0_C m c t (by omega) ht]
  dsimp only
  rw [out_C_4_eq, sout_C_0_eq]

/-- The written block is the accumulator. -/
theorem pay3_apply (v : Vec Ideal S2048x1024 .f32) (z : S1x2048x1024.Idx) : k0_pay3 v z = v (ix2 (z 1) (z 2)) := by
  pointwise [k0_pay3]

/-- The printed index maps over the grid: point `11·(2·e + b) + s` works on expert `e`, row half `b`, hidden block `s`. -/
theorem idx0 : ∀ t : Fin cfg0.N, win0_0.index t 0 = t.val / 22 ∧ win0_0.index t 1 = t.val / 11 % 2 ∧ win0_0.index t 2 = 0 :=
  (by decide +kernel : ∀ t : Fin grid0.N, _)
theorem idx1 : ∀ t : Fin cfg0.N, win0_1.index t 0 = t.val / 22 ∧ win0_1.index t 1 = 0 ∧ win0_1.index t 2 = t.val % 11 :=
  (by decide +kernel : ∀ t : Fin grid0.N, _)
theorem idx2 : ∀ t : Fin cfg0.N, win0_2.index t 0 = t.val / 22 ∧ win0_2.index t 1 = 0 ∧ win0_2.index t 2 = t.val % 11 :=
  (by decide +kernel : ∀ t : Fin grid0.N, _)
theorem idx3 : ∀ t : Fin cfg0.N, win0_3.index t 0 = t.val / 22 ∧ win0_3.index t 1 = t.val % 11 ∧ win0_3.index t 2 = 0 :=
  (by decide +kernel : ∀ t : Fin grid0.N, _)

/-- The token block: 2048 rows of the expert's 4096. -/
theorem blk0 (c : Dev nD) (t : Fin cfg0.N) (r : Fin 2048) (d : Fin 1024) (e : Fin 16) (R : Fin 4096)
    (he : e.val = t.val / 22) (hR : R.val = 2048 * (t.val / 11 % 2) + r.val) :
    iblk m c 0 t (ix3 0 r d) = m ((c : Thread nD τ).loc main_arg0) (ix3 e R d) := by
  obtain ⟨h0, h1, h2⟩ := idx0 t
  blk_simp [iblk]
  refine congrArg (m ((c : Thread nD τ).loc main_arg0)) (funext fun a => Fin.ext ?_)
  match a with
  | ⟨0, _⟩ => show win0_0.index t 0 * 1 + 1 * 0 = e.val; omega
  | ⟨1, _⟩ => show win0_0.index t 1 * 2048 + 1 * r.val = R.val; omega
  | ⟨2, _⟩ => show win0_0.index t 2 * 1024 + 1 * d.val = d.val; omega

/-- The first weight block: 256 hidden units. -/
theorem blk1 (c : Dev nD) (t : Fin cfg0.N) (d : Fin 1024) (k : Fin 256) (e : Fin 16) (f : Fin 2816)
    (he : e.val = t.val / 22) (hf : f.val = 256 * (t.val % 11) + k.val) :
    iblk m c 1 t (ix3 0 d k) = m ((c : Thread nD τ).loc main_arg1) (ix3 e d f) := by
  obtain ⟨h0, h1, h2⟩ := idx1 t
  blk_simp [iblk]
  refine congrArg (m ((c : Thread nD τ).loc main_arg1)) (funext fun a => Fin.ext ?_)
  match a with
  | ⟨0, _⟩ => show win0_1.index t 0 * 1 + 1 * 0 = e.val; omega
  | ⟨1, _⟩ => show win0_1.index t 1 * 1024 + 1 * d.val = d.val; omega
  | ⟨2, _⟩ => show win0_1.index t 2 * 256 + 1 * k.val = f.val; omega

/-- The second weight block: the same units. -/
theorem blk2 (c : Dev nD) (t : Fin cfg0.N) (d : Fin 1024) (k : Fin 256) (e : Fin 16) (f : Fin 2816)
    (he : e.val = t.val / 22) (hf : f.val = 256 * (t.val % 11) + k.val) :
    iblk m c 2 t (ix3 0 d k) = m ((c : Thread nD τ).loc main_arg2) (ix3 e d f) := by
  obtain ⟨h0, h1, h2⟩ := idx2 t
  blk_simp [iblk]
  refine congrArg (m ((c : Thread nD τ).loc main_arg2)) (funext fun a => Fin.ext ?_)
  match a with
  | ⟨0, _⟩ => show win0_2.index t 0 * 1 + 1 * 0 = e.val; omega
  | ⟨1, _⟩ => show win0_2.index t 1 * 1024 + 1 * d.val = d.val; omega
  | ⟨2, _⟩ => show win0_2.index t 2 * 256 + 1 * k.val = f.val; omega

/-- The third weight block: the rows of the same units. -/
theorem blk3 (c : Dev nD) (t : Fin cfg0.N) (k : Fin 256) (q : Fin 1024) (e : Fin 16) (f : Fin 2816)
    (he : e.val = t.val / 22) (hf : f.val = 256 * (t.val % 11) + k.val) :
    iblk m c 3 t (ix3 0 k q) = m ((c : Thread nD τ).loc main_arg3) (ix3 e f q) := by
  obtain ⟨h0, h1, h2⟩ := idx3 t
  blk_simp [iblk]
  refine congrArg (m ((c : Thread nD τ).loc main_arg3)) (funext fun a => Fin.ext ?_)
  match a with
  | ⟨0, _⟩ => show win0_3.index t 0 * 1 + 1 * 0 = e.val; omega
  | ⟨1, _⟩ => show win0_3.index t 1 * 256 + 1 * k.val = f.val; omega
  | ⟨2, _⟩ => show win0_3.index t 2 * 1024 + 1 * q.val = q.val; omega

/-- One hidden unit's term of the feed-forward: expert `e`, token row `R`, unit `f`, output column `q`. -/
def unit (X : S16x4096x1024.Idx → EReal) (G U : S16x1024x2816.Idx → EReal) (D : S16x2816x1024.Idx → EReal)
    (e : Fin 16) (R : Fin 4096) (q : Fin 1024) (f : Fin 2816) : EReal :=
  gated (∑ d : Fin 1024, X (ix3 e R d) * G (ix3 e d f)) (∑ d : Fin 1024, X (ix3 e R d) * U (ix3 e d f)) * D (ix3 e f q)

/-- A point's addend, over the argument arrays. -/
theorem addend_eq (c : Dev nD) (t : Fin cfg0.N) (r : Fin 2048) (q : Fin 1024) (e : Fin 16) (R : Fin 4096) (s : Fin 11)
    (he : e.val = t.val / 22) (hR : R.val = 2048 * (t.val / 11 % 2) + r.val) (hs : s.val = t.val % 11) :
    addend (iblk m c 0 t) (iblk m c 1 t) (iblk m c 2 t) (iblk m c 3 t) r q
      = ∑ k : Fin 256, unit (m ((c : Thread nD τ).loc main_arg0)) (m ((c : Thread nD τ).loc main_arg1)) (m ((c : Thread nD τ).loc main_arg2))
          (m ((c : Thread nD τ).loc main_arg3)) e R q (finProdFinEquiv (m := 11) (n := 256) (s, k)) := by
  unfold addend unit
  refine Finset.sum_congr rfl fun k _ => ?_
  have hf : (finProdFinEquiv (m := 11) (n := 256) (s, k)).val = 256 * (t.val % 11) + k.val := by
    show k.val + 256 * s.val = _; omega
  rw [blk3 m c t k q e (finProdFinEquiv (m := 11) (n := 256) (s, k)) he hf]
  refine congrArg (· * _) (congrArg₂ gated ?_ ?_) <;> refine Finset.sum_congr rfl fun d _ => ?_
  · rw [blk0 m c t r d e R he hR, blk1 m c t d k e (finProdFinEquiv (m := 11) (n := 256) (s, k)) he hf]
  · rw [blk0 m c t r d e R he hR, blk2 m c t d k e (finProdFinEquiv (m := 11) (n := 256) (s, k)) he hf]

/-- A sum over the hidden units, block by block. -/
theorem sum_blocks (F : Fin 2816 → EReal) :
    ∑ f : Fin 2816, F f = ∑ s : Fin 11, ∑ k : Fin 256, F (finProdFinEquiv (m := 11) (n := 256) (s, k)) :=
  (Equiv.sum_comp (finProdFinEquiv (m := 11) (n := 256)) F).symm.trans (Fintype.sum_prod_type _)

/-- THE RESULT ARRAY at expert `e`, row `R`, column `q`: the sum over all hidden units. -/
theorem array_apply (c : Dev nD) (e : Fin 16) (R : Fin 4096) (q : Fin 1024) :
    G4 m c (ix3 e R q) = ∑ f : Fin 2816, unit (m ((c : Thread nD τ).loc main_arg0)) (m ((c : Thread nD τ).loc main_arg1))
      (m ((c : Thread nD τ).loc main_arg2)) (m ((c : Thread nD τ).loc main_arg3)) e R q f := by
  have hN : cfg0.N = 352 := N_0
  have hp : pt4Of (ix3 e R q : S16x4096x1024.Idx) = 11 * (2 * e.val + R.val / 2048) + 10 := by
    show 11 * (2 * (e.val / 1 - 0) + 1 * (R.val / 2048 - 0) + 1 * (q.val / 1024 - 0)) + 10 = _
    have := q.isLt
    omega
  have hlt : 11 * (2 * e.val + R.val / 2048) + 10 < cfg0.N := by
    have := e.isLt; have := R.isLt; omega
  have hG : G4 m c (ix3 e R q) = (outsAt0 m c (11 * (2 * e.val + R.val / 2048) + 10) hlt).1 (loc4Of (ix3 e R q)) := by
    unfold G4
    rw [dif_pos (by rw [hp]; exact hlt), outsAt0_sweep, fold0_congr m c _ _ _ (by omega) hp]
  have hout : (outsAt0 m c (11 * (2 * e.val + R.val / 2048) + 10) hlt).1
      = k0_pay3 (outsAt0 m c (11 * (2 * e.val + R.val / 2048) + 10) hlt).2 :=
    out_last m c ⟨11 * (2 * e.val + R.val / 2048) + 10, hlt⟩ (by show (11 * (2 * e.val + R.val / 2048) + 10) % 11 = 10; omega)
  rw [hG, hout, pay3_apply, acc_last, Finset.sum_range]
  change @Eq EReal _ _
  refine Eq.trans (Finset.sum_congr rfl fun s _ => ?_) (sum_blocks _).symm
  have hs : 11 * (2 * e.val + R.val / 2048) + s.val < cfg0.N := by have := s.isLt; omega
  rw [pointAddend, dif_pos hs]
  have hsl := s.isLt
  have hRl := R.isLt
  refine (addend_eq m c ⟨11 * (2 * e.val + R.val / 2048) + s.val, hs⟩ ⟨R.val % 2048, Nat.mod_lt _ (by decide)⟩
    ⟨q.val % 1024, Nat.mod_lt _ (by decide)⟩ e R s
    (by show e.val = (11 * (2 * e.val + R.val / 2048) + s.val) / 22; omega)
    (by show R.val = 2048 * ((11 * (2 * e.val + R.val / 2048) + s.val) / 11 % 2) + R.val % 2048; omega)
    (by show s.val = (11 * (2 * e.val + R.val / 2048) + s.val) % 11; omega)).trans ?_
  have hq : (⟨q.val % 1024, Nat.mod_lt _ (by decide)⟩ : Fin 1024) = q := Fin.ext (Nat.mod_eq_of_lt q.isLt)
  exact Finset.sum_congr rfl fun k _ => congrArg (fun z => unit (m ((c : Thread nD τ).loc main_arg0)) (m ((c : Thread nD τ).loc main_arg1))
    (m ((c : Thread nD τ).loc main_arg2)) (m ((c : Thread nD τ).loc main_arg3)) e R z (finProdFinEquiv (m := 11) (n := 256) (s, k))) hq

end Cert.FfnIdeal.Hand

end
-- ==== Proof.FfnRef.lean ====
/-
  The feed-forward's reference at an index: the sum over the 2816 hidden units of the gated value times the third weight. The
  reference writes the sigmoid's denominator with a negation where the kernel subtracts from zero; the two are one value.
-/
module

public import proofs.«01_k».proof.Proof.FfnArray
public import proofs.«01_k».proof.Proof.Gen.FfnRefIdeal.Run

@[expose] public section

set_option maxRecDepth 16384

noncomputable section

namespace Cert.FfnRefIdeal.Hand

open Idealize.ShloMosaic Idealize.ShloMosaic.TcCoe Idealize.ShloMosaic.Tactic
open Cert.FfnRefIdeal Cert.FfnRefIdeal.Gen Idealize.ShloMosaic.Pipeline
open scoped BigOperators

/-- The reference's term at an index. -/
theorem ref_apply (X : FVec Ideal S16x4096x1024 .bf16) (G U : FVec Ideal S16x1024x2816 .f32) (D : FVec Ideal S16x2816x1024 .f32)
    (e : Fin 16) (R : Fin 4096) (q : Fin 1024) :
    (truncf .bf16 (Host.dotGeneral dot_S16x4096x2816_S16x2816x1024_S16x4096x1024_2_1_1_2_0_0 none
      (mulf (mulf (Host.dotGeneral dot_S16x4096x1024_S16x1024x2816_S16x4096x2816_2_1_1_2_0_0 none (extf .f32 X bitsLt_bf16_f32) G)
        (Host.divf (broadcastInDim S16x4096x2816 ![] bcast_S_S16x4096x2816 (constant S_ .f32 0x3F800000#32))
          (addf (broadcastInDim S16x4096x2816 ![] bcast_S_S16x4096x2816 (constant S_ .f32 0x3F800000#32))
            (Host.exp (Host.negf (Host.dotGeneral dot_S16x4096x1024_S16x1024x2816_S16x4096x2816_2_1_1_2_0_0 none
              (extf .f32 X bitsLt_bf16_f32) G))))))
        (Host.dotGeneral dot_S16x4096x1024_S16x1024x2816_S16x4096x2816_2_1_1_2_0_0 none (extf .f32 X bitsLt_bf16_f32) U)) D)
      bitsLt_bf16_f32 : FVec Ideal S16x4096x1024 .bf16) (ix3 e R q)
      = ∑ f : Fin 2816, Cert.FfnIdeal.Hand.unit X G U D e R q f := by
  pointwise
  refine Finset.sum_congr rfl fun f _ => ?_
  unfold Cert.FfnIdeal.Hand.unit Cert.FfnIdeal.Hand.gated
  simp only [zero_sub]

end Cert.FfnRefIdeal.Hand

end
-- ==== Proof.CombineWords.lean ====
/-
  The host's words for the combine kernel, one word at a time: the floor division its integer lines spell, the first slot a pair's
  windows start at (`startOf`, a multiple of 16 at or below the pair's lowest slot) and the number of 128-slot windows that reach the
  pair's end (`windowsOf`), with the ranges and the covering fact the kernel needs of them.
-/
module

public import Idealize.ShloMosaic.PureOps
public import Idealize.ShloMosaic.Lib.Scf
public import Idealize.ShloMosaic.Lib.SortNet.Extract

@[expose] public section

set_option maxRecDepth 16384

namespace Cert.CombineWords

open Idealize.ShloMosaic

/-- A word's sign. -/
def sgn (x : BitVec 32) : BitVec 32 := if x = 0 then 0 else if x.msb then -1 else 1

/-- The quotient rounded toward zero, one less where the signs differ and a remainder is left: the host's floor division. -/
def floorDiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The slot a pair's windows start at. -/
def startOf (lo : BitVec 32) : BitVec 32 := IntOp.muli (floorDiv lo 16#32) 16#32

/-- How many windows of 128 slots from the start reach the pair's end. -/
def windowsOf (lo hi : BitVec 32) : BitVec 32 :=
  floorDiv (IntOp.subi (IntOp.addi (IntOp.subi hi (startOf lo)) 128#32) 1#32) 128#32

theorem startOf_ofNat : ∀ n : Fin 513, (startOf (BitVec.ofNat 32 n.val)).toNat = n.val / 16 * 16 := by decide +kernel

theorem startOf_toNat (lo : BitVec 32) (h : lo.toNat ≤ 512) : (startOf lo).toNat = lo.toNat / 16 * 16 := by
  have := startOf_ofNat ⟨lo.toNat, by omega⟩
  simpa using this

theorem floorDiv_shifted : ∀ n : Fin 1025, (floorDiv (BitVec.ofNat 32 n.val - 385#32) 128#32).toInt = ((n.val : Int) - 385) / 128 := by
  decide +kernel

/-- The windows' number, as the floor of its own formula. -/
theorem windowsOf_toInt (lo hi : BitVec 32) (hlo : lo.toNat ≤ 512) (hhi : hi.toNat ≤ 512) :
    (windowsOf lo hi).toInt = ((hi.toNat : Int) - (startOf lo).toNat + 127) / 128 := by
  have hs := startOf_toNat lo hlo
  have e : IntOp.subi (IntOp.addi (IntOp.subi hi (startOf lo)) 128#32) 1#32 = BitVec.ofNat 32 (hi.toNat + 512 - (startOf lo).toNat) - 385#32 := by
    apply BitVec.eq_of_toNat_eq
    simp only [IntOp.subi, IntOp.addi, BitVec.toNat_sub, BitVec.toNat_add, BitVec.toNat_ofNat]
    omega
  unfold windowsOf
  rw [e, floorDiv_shifted ⟨hi.toNat + 512 - (startOf lo).toNat, by omega⟩]
  have : (startOf lo).toNat ≤ 512 := by omega
  congr 1
  push_cast [Nat.sub_le]
  omega

theorem windowsOf_le (lo hi : BitVec 32) (hlo : lo.toNat ≤ 512) (hhi : hi.toNat ≤ 512) : (windowsOf lo hi).toInt ≤ 4 := by
  rw [windowsOf_toInt lo hi hlo hhi]; omega

/-- The windows reach the pair's end. -/
theorem le_windowsOf (lo hi : BitVec 32) (hlo : lo.toNat ≤ 512) (hhi : hi.toNat ≤ 512) :
    hi.toNat ≤ (startOf lo).toNat + 128 * (windowsOf lo hi).toInt.toNat := by
  have := windowsOf_toInt lo hi hlo hhi
  omega

/-- A one-step loop from zero to a word makes that many trips. -/
theorem trips_eq (w : BitVec 32) : Scf.trips 0#32 (IntOp.addi 0#32 (IntOp.muli (IntOp.divsi .scalar (IntOp.subi w 0#32) 1#32) 1#32)) 1#32 = w.toInt.toNat := by
  have e : IntOp.addi 0#32 (IntOp.muli (IntOp.divsi .scalar (IntOp.subi w 0#32) 1#32) 1#32) = w := by
    unfold IntOp.divsi
    rw [if_neg (by simp [IntOp.SDivCorner])]
    simp [IntOp.addi, IntOp.muli, IntOp.subi]
  rw [e]; unfold Scf.trips
  simp

end Cert.CombineWords
-- ==== Proof.CombineIdealTrip.lean ====
/-
  Hand-written. The combine kernel's body at one grid point: one window of the loop run at a symbolic trip, the loop over the windows by
  its invariant, and the body around it. The side conditions the body assumes of each start word it reads — the first slot of the window
  is a multiple of 16 and the 128 rows from it lie inside the block — follow from the word being a multiple of 16 and at most 512.
-/
module

public import proofs.«01_k».proof.Proof.Gen.CombineIdeal.Launch
public import proofs.«01_k».proof.Proof.Gen.CombineIdeal.Skeleton
public import proofs.«01_k».proof.Proof.Gen.CombineIdeal.Loops
public import Idealize.ShloMosaic.Lib.Pipeline.Frame
public import Idealize.ShloMosaic.Lib.Tactic
public import Idealize.ShloMosaic.Lib.WordArith
public import Idealize.ShloMosaic.Lib.VecWindow

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The start words -/

/-- A start word the kernel may be handed: a multiple of 16, at most the 512 slots of a chunk. -/
def StartWord (w : BitVec 32) : Prop := 16 ∣ w.toNat ∧ w.toNat ≤ 512

/-- The first slot of window `k` from the start word `w`, as the kernel clamps it. -/
def firstWord (k : ℕ) (w : BitVec 32) : BitVec 32 := Scalar.minsi (Scalar.addi w (Scalar.muli (Scf.iv 0#32 1#32 k) 128#32)) 384#32

theorem firstWord_toNat (k : ℕ) (hk : k < 4) (w : BitVec 32) (hw : StartWord w) : (firstWord k w).toNat = min (w.toNat + 128 * k) 384 := by
  obtain ⟨-, h512⟩ := hw
  have hiv : Scalar.muli (Scf.iv 0#32 1#32 k) 128#32 = BitVec.ofNat 32 (128 * k) := by
    match k, hk with
    | 0, _ => decide
    | 1, _ => decide
    | 2, _ => decide
    | 3, _ => decide
    | n + 4, h => omega
  have hsum : (Scalar.addi w (BitVec.ofNat 32 (128 * k))).toNat = w.toNat + 128 * k := by
    show (w + BitVec.ofNat 32 (128 * k)).toNat = _
    rw [BitVec.toNat_add, BitVec.toNat_ofNat]; omega
  unfold firstWord
  rw [hiv]; refine (WordArith.toNat_minsi_of_lt _ _ (by rw [hsum]; omega) (by decide)).trans ?_; rw [hsum]
  rfl

theorem first_dvd (k : ℕ) (hk : k < 4) (w : BitVec 32) (hw : StartWord w) : 16 ∣ (firstWord k w).toNat := by
  rw [firstWord_toNat k hk w hw]
  have := hw.1
  omega

theorem block_inside (e : ℕ) (he : e < 16) (k : ℕ) (hk : k < 4) (w : BitVec 32) (hw : StartWord w) :
    ∀ a, (![e, (firstWord k w).toNat, 0] : Fin 3 → ℕ) a + S1x128x1024.size a ≤ S16x512x1024.size a := by
  have hf := firstWord_toNat k hk w hw
  intro a
  match a with
  | 0 => show e + 1 ≤ 16; omega
  | 1 => show (firstWord k w).toNat + 128 ≤ 512; omega
  | 2 => show 0 + 1024 ≤ 1024; omega

theorem chk2_of (v : BitVec 32) (k : Fin (k0_t1_loop v).trips) (w : BitVec 32) (hk : k.val < 4) (hw : StartWord w) :
    k0_chk2 v k w :=
  ⟨first_dvd k.val hk w hw, block_inside 0 (by decide) k.val hk w hw⟩
theorem chk3_of (v : BitVec 32) (k : Fin (k0_t1_loop v).trips) (w : BitVec 32) (hk : k.val < 4) (hw : StartWord w) :
    k0_chk3 v k w :=
  ⟨first_dvd k.val hk w hw, block_inside 1 (by decide) k.val hk w hw⟩
theorem chk4_of (v : BitVec 32) (k : Fin (k0_t1_loop v).trips) (w : BitVec 32) (hk : k.val < 4) (hw : StartWord w) :
    k0_chk4 v k w :=
  ⟨first_dvd k.val hk w hw, block_inside 2 (by decide) k.val hk w hw⟩
theorem chk5_of (v : BitVec 32) (k : Fin (k0_t1_loop v).trips) (w : BitVec 32) (hk : k.val < 4) (hw : StartWord w) :
    k0_chk5 v k w :=
  ⟨first_dvd k.val hk w hw, block_inside 3 (by decide) k.val hk w hw⟩
theorem chk6_of (v : BitVec 32) (k : Fin (k0_t1_loop v).trips) (w : BitVec 32) (hk : k.val < 4) (hw : StartWord w) :
    k0_chk6 v k w :=
  ⟨first_dvd k.val hk w hw, block_inside 4 (by decide) k.val hk w hw⟩
theorem chk7_of (v : BitVec 32) (k : Fin (k0_t1_loop v).trips) (w : BitVec 32) (hk : k.val < 4) (hw : StartWord w) :
    k0_chk7 v k w :=
  ⟨first_dvd k.val hk w hw, block_inside 5 (by decide) k.val hk w hw⟩
theorem chk8_of (v : BitVec 32) (k : Fin (k0_t1_loop v).trips) (w : BitVec 32) (hk : k.val < 4) (hw : StartWord w) :
    k0_chk8 v k w :=
  ⟨first_dvd k.val hk w hw, block_inside 6 (by decide) k.val hk w hw⟩
theorem chk9_of (v : BitVec 32) (k : Fin (k0_t1_loop v).trips) (w : BitVec 32) (hk : k.val < 4) (hw : StartWord w) :
    k0_chk9 v k w :=
  ⟨first_dvd k.val hk w hw, block_inside 7 (by decide) k.val hk w hw⟩
theorem chk10_of (v : BitVec 32) (k : Fin (k0_t1_loop v).trips) (w : BitVec 32) (hk : k.val < 4) (hw : StartWord w) :
    k0_chk10 v k w :=
  ⟨first_dvd k.val hk w hw, block_inside 8 (by decide) k.val hk w hw⟩
theorem chk11_of (v : BitVec 32) (k : Fin (k0_t1_loop v).trips) (w : BitVec 32) (hk : k.val < 4) (hw : StartWord w) :
    k0_chk11 v k w :=
  ⟨first_dvd k.val hk w hw, block_inside 9 (by decide) k.val hk w hw⟩
theorem chk12_of (v : BitVec 32) (k : Fin (k0_t1_loop v).trips) (w : BitVec 32) (hk : k.val < 4) (hw : StartWord w) :
    k0_chk12 v k w :=
  ⟨first_dvd k.val hk w hw, block_inside 10 (by decide) k.val hk w hw⟩
theorem chk13_of (v : BitVec 32) (k : Fin (k0_t1_loop v).trips) (w : BitVec 32) (hk : k.val < 4) (hw : StartWord w) :
    k0_chk13 v k w :=
  ⟨first_dvd k.val hk w hw, block_inside 11 (by decide) k.val hk w hw⟩
theorem chk14_of (v : BitVec 32) (k : Fin (k0_t1_loop v).trips) (w : BitVec 32) (hk : k.val < 4) (hw : StartWord w) :
    k0_chk14 v k w :=
  ⟨first_dvd k.val hk w hw, block_inside 12 (by decide) k.val hk w hw⟩
theorem chk15_of (v : BitVec 32) (k : Fin (k0_t1_loop v).trips) (w : BitVec 32) (hk : k.val < 4) (hw : StartWord w) :
    k0_chk15 v k w :=
  ⟨first_dvd k.val hk w hw, block_inside 13 (by decide) k.val hk w hw⟩
theorem chk16_of (v : BitVec 32) (k : Fin (k0_t1_loop v).trips) (w : BitVec 32) (hk : k.val < 4) (hw : StartWord w) :
    k0_chk16 v k w :=
  ⟨first_dvd k.val hk w hw, block_inside 14 (by decide) k.val hk w hw⟩
theorem chk17_of (v : BitVec 32) (k : Fin (k0_t1_loop v).trips) (w : BitVec 32) (hk : k.val < 4) (hw : StartWord w) :
    k0_chk17 v k w :=
  ⟨first_dvd k.val hk w hw, block_inside 15 (by decide) k.val hk w hw⟩

/-! ## One window -/

section Trip

variable (c : Dev nD) (i : grid0.Coords) (arg2 : Memref sig .tc .smem S1024 .i32) (harg2 : arg2.IsWhole) (arg3 : Memref sig .tc .smem S64 .i32) (harg3 : arg3.IsWhole) (arg4 : Memref sig .tc .vmem S1x512x16 .i32) (harg4 : arg4.IsWhole) (arg5 : Memref sig .tc .vmem S1x512x16 .f32) (harg5 : arg5.IsWhole) (arg6 : Memref sig .tc .vmem S16x512x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .f32) (harg11 : arg11.IsWhole)
  (arg0 arg1 : BitVec 32) (v4 : Vec F S1x512x16 .i32) (v6 : Vec F S1x512x16 .f32) (v8 : IVec S512x128 32) (v12 : Elt F .i32) (k0_hw1 : k0_chk1 v12)
  (q : PosShare TreeShare) (T : Vec F S1024 .i32) (xs : Vec F S16x512x1024 .bf16)

abbrev R00 : Rect S512x1024 := Rect.unit (s := S512x1024) ![0, 0] S512x1024.size inb_S512x1024_S512x1024_0_0

/-- What the window runs on: the start words and the expert rows as given, the accumulator's buffer at `g`. -/
abbrev resAt (g : Buf (Elt F) (arg11.view.loc (c : Thread nD τ))) : sProp 𝕄 :=
  iprop((arg2.view.loc (c : Thread nD τ) ↦[arg2.view.set]{q} harg2.unread T)
    ∗ (arg6.view.loc (c : Thread nD τ) ↦[arg6.view.set]{fullShare} harg6.unread xs)
    ∗ (arg11.view.loc (c : Thread nD τ) ↦[arg11.view.set]{fullShare} g))

/-- Every word the kernel can read of the table is a start word. -/
def Starts : Prop := ∀ (r : LoadRect S1024) (j : r.shape.Idx), StartWord (arg2.view.readAt (Elt F) r (harg2.unread T) j)

theorem starts_of (hT : ∀ j, StartWord (T j)) : Starts arg2 harg2 T := fun r j => by
  rw [View.readAt_apply, harg2.read_unread]; exact hT _

set_option backward.proofsInPublic true in
/-- What window `k` leaves in the accumulator found holding `g`, with the run that leaves it: the start words and the expert rows
    are read and handed back. -/
def tripRun (hT : Starts arg2 harg2 T) (k : Fin (k0_t1_loop v12).trips) (hk : k.val < 4) (g : Buf (Elt F) (arg11.view.loc (c : Thread nD τ))) :
    { w : Vec F S512x1024 .f32 //
      resAt c arg2 harg2 arg6 harg6 arg11 q T xs g
        ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg0 arg1 v4 v6 v8 v12 k0_hw1 k ())
          (fun _ => resAt c arg2 harg2 arg6 harg6 arg11 q T xs (arg11.view.writes (Elt F) g [⟨R00, w⟩])) } := by
  refine ⟨?_, ?run⟩
  case run =>
    unfold resAt
    iintro ⟨H2, H6, H11⟩
    sl_unfold [k0_t1_body]
    sl_exec (disch := first | ((with_reducible apply chk2_of); exact hk; exact hT _ _) | ((with_reducible apply chk3_of); exact hk; exact hT _ _) | ((with_reducible apply chk4_of); exact hk; exact hT _ _) | ((with_reducible apply chk5_of); exact hk; exact hT _ _) | ((with_reducible apply chk6_of); exact hk; exact hT _ _) | ((with_reducible apply chk7_of); exact hk; exact hT _ _) | ((with_reducible apply chk8_of); exact hk; exact hT _ _) | ((with_reducible apply chk9_of); exact hk; exact hT _ _) | ((with_reducible apply chk10_of); exact hk; exact hT _ _) | ((with_reducible apply chk11_of); exact hk; exact hT _ _) | ((with_reducible apply chk12_of); exact hk; exact hT _ _) | ((with_reducible apply chk13_of); exact hk; exact hT _ _) | ((with_reducible apply chk14_of); exact hk; exact hT _ _) | ((with_reducible apply chk15_of); exact hk; exact hT _ _) | ((with_reducible apply chk16_of); exact hk; exact hT _ _) | ((with_reducible apply chk17_of); exact hk; exact hT _ _))
    sl_step
    isplitl [H2]; · iexact H2
    isplitl [H6]; · iexact H6
    iexact H11

/-- The accumulator's buffer before window `k`: from its contents `g` at the loop's entry, each window's store on top. (Past the windows
    that are run it is constant: never read.) -/
def bufAt (hT : Starts arg2 harg2 T) (g : Buf (Elt F) (arg11.view.loc (c : Thread nD τ))) : ℕ → Buf (Elt F) (arg11.view.loc (c : Thread nD τ))
  | 0 => g
  | k + 1 =>
    if h : k < (k0_t1_loop v12).trips ∧ (k0_t1_loop v12).trips ≤ 4 then
      arg11.view.writes (Elt F) (bufAt hT g k)
        [⟨R00, (tripRun c i arg2 harg2 arg3 harg3 arg4 harg4 arg5 harg5 arg6 harg6 arg7 harg7 arg8 harg8 arg9 harg9 arg10 harg10 arg11 harg11 arg0 arg1 v4 v6 v8 v12 k0_hw1 q T xs hT ⟨k, h.1⟩ (Nat.lt_of_lt_of_le h.1 h.2) (bufAt hT g k)).1⟩]
    else bufAt hT g k

set_option warn.classDefReducibility false in
/-- The loop over the windows: before window `k` the accumulator holds `bufAt k`, and there are at most four windows. -/
@[sl_loop] def loopInv1 (hT : Starts arg2 harg2 T) (g : Buf (Elt F) (arg11.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg0 arg1 v4 v6 v8 v12 k0_hw1 where
  inv k _ := iprop(⌜(k0_t1_loop v12).trips ≤ 4⌝ ∗ resAt c arg2 harg2 arg6 harg6 arg11 q T xs (bufAt c i arg2 harg2 arg3 harg3 arg4 harg4 arg5 harg5 arg6 harg6 arg7 harg7 arg8 harg8 arg9 harg9 arg10 harg10 arg11 harg11 arg0 arg1 v4 v6 v8 v12 k0_hw1 q T xs hT g k))
  step k _ := by
    by_cases h4 : (k0_t1_loop v12).trips ≤ 4
    · have e : bufAt c i arg2 harg2 arg3 harg3 arg4 harg4 arg5 harg5 arg6 harg6 arg7 harg7 arg8 harg8 arg9 harg9 arg10 harg10 arg11 harg11 arg0 arg1 v4 v6 v8 v12 k0_hw1 q T xs hT g (k.val + 1)
          = arg11.view.writes (Elt F) (bufAt c i arg2 harg2 arg3 harg3 arg4 harg4 arg5 harg5 arg6 harg6 arg7 harg7 arg8 harg8 arg9 harg9 arg10 harg10 arg11 harg11 arg0 arg1 v4 v6 v8 v12 k0_hw1 q T xs hT g k)
            [⟨R00, (tripRun c i arg2 harg2 arg3 harg3 arg4 harg4 arg5 harg5 arg6 harg6 arg7 harg7 arg8 harg8 arg9 harg9 arg10 harg10 arg11 harg11 arg0 arg1 v4 v6 v8 v12 k0_hw1 q T xs hT k (Nat.lt_of_lt_of_le k.isLt h4) (bufAt c i arg2 harg2 arg3 harg3 arg4 harg4 arg5 harg5 arg6 harg6 arg7 harg7 arg8 harg8 arg9 harg9 arg10 harg10 arg11 harg11 arg0 arg1 v4 v6 v8 v12 k0_hw1 q T xs hT g k)).1⟩] := by
        rw [bufAt, dif_pos ⟨k.isLt, h4⟩]
      rw [e]
      iintro ⟨-, H⟩
      iapply (wp_wand_r Idealize.ShloMosaic.frame (wpE (defs₀ (F := F)) Variants.none (c : Thread nD τ) none) Set.univ)
      isplitl [H]
      · iapply (tripRun c i arg2 harg2 arg3 harg3 arg4 harg4 arg5 harg5 arg6 harg6 arg7 harg7 arg8 harg8 arg9 harg9 arg10 harg10 arg11 harg11 arg0 arg1 v4 v6 v8 v12 k0_hw1 q T xs hT k (Nat.lt_of_lt_of_le k.isLt h4) _).2; iexact H
      · iintro %_ H'
        isplitr; · ipureintro; exact h4
        iexact H'
    · iintro ⟨%h4', -⟩; exact absurd h4' h4

set_option warn.classDefReducibility false in
/-- The loop's remainder, run after it, has no trip at all. -/
@[sl_loop] def loopInv2 (g : Buf (Elt F) (arg11.view.loc (c : Thread nD τ))) (v17 : BitVec 32) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg0 arg1 v4 v6 v8 v12 k0_hw1 v17 where
  inv _ _ := resAt c arg2 harg2 arg6 harg6 arg11 q T xs g
  step k _ := (Nat.not_lt_zero _ (Nat.lt_of_lt_of_le k.isLt (k0_t2_abs v12).2.1)).elim

end Trip

end Cert.CombineIdeal.Hand

end

end
-- ==== Proof.CombineIdealBody.lean ====
/-
  Hand-written. The combine kernel's body at one grid point, around the loop over the windows: what it leaves in the result's block.
-/
module

public import proofs.«01_k».proof.Proof.CombineIdealTrip

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! ## The body -/

section Body

variable (c : Dev nD) (i : grid0.Coords) (arg2 : Memref sig .tc .smem S1024 .i32) (harg2 : arg2.IsWhole) (arg3 : Memref sig .tc .smem S64 .i32) (harg3 : arg3.IsWhole) (arg4 : Memref sig .tc .vmem S1x512x16 .i32) (harg4 : arg4.IsWhole) (arg5 : Memref sig .tc .vmem S1x512x16 .f32) (harg5 : arg5.IsWhole) (arg6 : Memref sig .tc .vmem S16x512x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .f32) (harg11 : arg11.IsWhole) (q q' : PosShare TreeShare)
  (T : Vec F S1024 .i32) (T' : Vec F S64 .i32) (x4 : Vec F S1x512x16 .i32) (x5 : Vec F S1x512x16 .f32) (x6 : Vec F S16x512x1024 .bf16)
  (x7 : Vec F S1x512x1024 .f32) (x8 : Vec F S1x1x1024 .f32) (x9 : Vec F S1x1024 .f32)

/-- The window counts the kernel may be handed: at most four. -/
def Counts : Prop := ∀ (r : LoadRect S64) (j : r.shape.Idx), (k0_t1_loop (arg3.view.readAt (Elt F) r (harg3.unread T') j)).trips ≤ 4

theorem counts_of (h : ∀ j, (k0_t1_loop (T' j)).trips ≤ 4) : Counts arg3 harg3 T' := fun r j => by
  rw [View.readAt_apply, harg3.read_unread]; exact h _

set_option maxHeartbeats 4000000 in
set_option backward.proofsInPublic true in
/-- What the body leaves in the result's block, with the run that leaves it: the tables and the input blocks are handed back as they
    were, the accumulator at anything. -/
def bodyRun (hT : Starts arg2 harg2 T) (hT' : Counts arg3 harg3 T') :
    { Y : Vec F S1x512x1024 .f32 // ∀ K : PUnit → sProp 𝕄,
      iprop(owns (c : Thread nD τ) arg2 q T ∗ owns (c : Thread nD τ) arg3 q' T' ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8 ∗ owns (c : Thread nD τ) arg9 fullShare x9
          ∗ (∃ d, owns (c : Thread nD τ) arg10 fullShare d) ∗ (∃ d, owns (c : Thread nD τ) arg11 fullShare d)
          ∗ (iprop(owns (c : Thread nD τ) arg2 q T ∗ owns (c : Thread nD τ) arg3 q' T' ∗ owns (c : Thread nD τ) arg4 fullShare x4
              ∗ owns (c : Thread nD τ) arg5 fullShare x5 ∗ owns (c : Thread nD τ) arg6 fullShare x6 ∗ owns (c : Thread nD τ) arg7 fullShare x7
              ∗ owns (c : Thread nD τ) arg8 fullShare x8 ∗ owns (c : Thread nD τ) arg9 fullShare x9
              ∗ owns (c : Thread nD τ) arg10 fullShare Y ∗ (∃ d, owns (c : Thread nD τ) arg11 fullShare d)) -∗ K ⟨⟩))
        ⊢ wp frame (wpE (defs₀ (F := F)) Variants.none (c : Thread nD τ) none) Set.univ
          (cc0_moe_combine (F := F) i arg2 harg2 arg3 harg3 arg4 harg4 arg5 harg5 arg6 harg6 arg7 harg7 arg8 harg8 arg9 harg9 arg10 harg10 arg11 harg11) K } := by
  refine ⟨?_, fun K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
      ⟨%f9, %hf9, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    have h4 := hT' (Rect.unit (s := S64) (k0_off1 i) S1.size (k0_off1_inb i)).toLoadRect (Shape.Idx.first (numel1_S1.symm ▸ Nat.one_pos))
    sl_unfold [cc0_moe_combine]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; swap; · iexact H10
      ipureintro; exact View.read_writes_full _ _ _ _ _
    iexists _, _; isplitr; swap; · iexact H11
    ipureintro; rfl

end Body

end Cert.CombineIdeal.Hand

end
-- ==== Proof.CombineIdealRun.lean ====
/-
  Hand-written. The combine kernel's launch: what @main's host lines leave before the region, the region's proof data (each input block as
  it was, the result's block as the body's run leaves it, the two tables of words read and handed back), the body obligation, the run and
  the frame. The run is stated of the memories whose table words are in range (`WordsOK`).
-/
module

public import proofs.«01_k».proof.Proof.CombineIdealBody
public import Idealize.ShloMosaic.Lib.Pipeline.FrameBody
public import Idealize.ShloMosaic.Lib.Claim

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- @main's host lines, stretch by stretch. -/
def stretches : List (List (HloOp τ sig (Elt F))) := [hostOps0, hostOps0_1, hostOps0_2, hostOps0_3, hostOps0_4]

/-- Core `c`'s buffers when the region is entered: the launch memory after the host lines. -/
def V (c : Dev nD) (b : Ref sig .tc) : Buf (Elt F) ((c : Thread nD τ).loc b) :=
  StableHlo.after (stretches (F := F)).flatten (fun b => m (c, b)) b

set_option maxHeartbeats 800000 in
theorem hmain (𝒱₀ : Variants) : Pipeline.HMainP (Ix := Unit) (Name := ℕ) (U := UR sig nD τ) (Lvl := ℕ) (pcfgs (F := F)) 0 defs₀ 𝒱₀ m
    (main (F := F)) (V m) :=
  Pipeline.hmainP_prefixes pcfgs 0 defs₀ 𝒱₀ m main stretches
    ⟨hostOps0_sub, hostOps0_1_sub, hostOps0_2_sub, hostOps0_3_sub, hostOps0_4_sub⟩
    (by simp only [stretches, List.Forall]; repeat' constructor) fun c => (main_chain c).trans rfl

/-- No host line writes an argument: the region finds each as launched. -/
theorem V_of_not_written (c : Dev nD) (b : Ref sig .tc)
    (h : (stretches (F := F)).flatten.Forall fun op => Proc.devRef .tc b ∉ op.writes) : V m c b = m ((c : Thread nD τ).loc b) :=
  StableHlo.after_of_forall_not_mem (b := Proc.devRef .tc b) _ _ (List.forall_iff_forall_mem.mp h)
theorem V_main_arg0 (c : Dev nD) : V m c main_arg0 = m ((c : Thread nD τ).loc main_arg0) :=
  V_of_not_written m c main_arg0 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg3 (c : Dev nD) : V m c main_arg3 = m ((c : Thread nD τ).loc main_arg3) :=
  V_of_not_written m c main_arg3 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg4 (c : Dev nD) : V m c main_arg4 = m ((c : Thread nD τ).loc main_arg4) :=
  V_of_not_written m c main_arg4 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg5 (c : Dev nD) : V m c main_arg5 = m ((c : Thread nD τ).loc main_arg5) :=
  V_of_not_written m c main_arg5 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))
theorem V_main_arg6 (c : Dev nD) : V m c main_arg6 = m ((c : Thread nD τ).loc main_arg6) :=
  V_of_not_written m c main_arg6 (by
    simp only [stretches, hostOps0, hostOps0_1, hostOps0_2, hostOps0_3, hostOps0_4, List.flatten_cons, List.flatten_nil, List.append_nil,
      List.cons_append, List.nil_append, List.Forall, StableHlo.reshape_writes,
      StableHlo.unary_writes, StableHlo.binary_writes, StableHlo.nullary_writes, StableHlo.ternary_writes, Finset.mem_singleton]
    repeat' apply And.intro
    all_goals exact StableHlo.devRef_ne_of_ne (by decide))

/-! ## The tables -/

/-- The tables' contents when the region is entered (the program runs on one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The start words and the window counts, as the region finds them. -/
abbrev startTbl : Vec F S1024 .i32 := tbl m 0
abbrev countTbl : Vec F S64 .i32 := tbl m 1

/-- The tables' words are in range: every start a multiple of 16 and at most 512, every window count at most 4. -/
structure WordsOK : Prop where
  starts : ∀ j, StartWord (startTbl m j)
  counts : ∀ j, (k0_t1_loop (countTbl m j)).trips ≤ 4

/-- The tables' halves the region hands the body, one by one. -/
theorem tables_eq (c : Dev nD) : (Pipeline.ΦT pre0 (tbl m) c : sProp 𝕄)
    = iprop(owns c (Memref.whole main_v16) fullShare.right (startTbl m) ∗ owns c (Memref.whole main_v17) fullShare.right (countTbl m)) := by
  unfold Pipeline.ΦT Pipeline.prefHeld
  rw [show (Finset.univ : Finset (Fin 2)) = insert (0 : Fin 2) {(1 : Fin 2)} from by decide, bigSep_insert (by decide), bigSep_singleton,
    owns_whole, owns_whole]
  rfl

/-- The region's scratch at some contents, and the generator's register. -/
theorem scratch_eq (c : Dev nD) : (Pipeline.ΦA spec0 c : sProp 𝕄)
    = iprop((∃ d, owns c (Memref.whole cc0_scratch0) fullShare d) ∗ (∃ r, prngReg c r)) := by
  unfold Pipeline.ΦA; rw [scopedRest0_eq]; simp only [owns_whole]; try rfl

/-! ## The windows' blocks -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

abbrev ms0 (t : Fin (cfgM m).N) : Memref sig .tc .vmem S1x512x16 .i32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x512x16 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S16x512x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x1024 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x1024 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1024 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x512x1024 .f32 := spec0_6.stage ((cfgM m).slots t 6)
abbrev hs6 (t : Fin (cfgM m).N) : (ms6 m t).IsWhole := hstage0_6 (((cfgM m).slots t 6).cast nbuf0_6)

/-- What the body leaves in the result's block at point `t`. -/
def outsAt (h : WordsOK m) (c : Dev nD) (t : Fin (cfgM m).N) : Vec F S1x512x1024 .f32 :=
  (bodyRun c (grid0.coords t) (Memref.whole main_v16) (Memref.isWhole_whole _) (Memref.whole main_v17) (Memref.isWhole_whole _)
    (ms0 m t) (hs0 m t) (ms1 m t) (hs1 m t) (ms2 m t) (hs2 m t) (ms3 m t) (hs3 m t) (ms4 m t) (hs4 m t) (ms5 m t) (hs5 m t) (ms6 m t) (hs6 m t) (Memref.whole cc0_scratch0) (Memref.isWhole_whole _) fullShare.right fullShare.right (startTbl m) (countTbl m)
    (iblk m c 0 t) (iblk m c 1 t) (iblk m c 2 t) (iblk m c 3 t) (iblk m c 4 t) (iblk m c 5 t)
    (starts_of _ _ _ h.starts) (counts_of _ _ _ h.counts)).1

/-! ## The proof data -/

def dats (h : WordsOK m) (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m h c t
  Φ _ := iprop(Pipeline.ΦA spec0 c ∗ Pipeline.ΦT pre0 (tbl m) c)
  q _ := fullShare
  owed _ := 0

variable (h : WordsOK m)

theorem A_eq (c : Dev nD) (w : Fin (cfgM m).W) : (dats m h 0 c).A w = V m c (Pipeline.arrRef spec0 w) := rfl
theorem after0 (c : Dev nD) (t : Fin (cfgM m).N) : (dats m h 0 c).after 0 t = iblk m c 0 t := rfl
theorem after1 (c : Dev nD) (t : Fin (cfgM m).N) : (dats m h 0 c).after 1 t = iblk m c 1 t := rfl
theorem after2 (c : Dev nD) (t : Fin (cfgM m).N) : (dats m h 0 c).after 2 t = iblk m c 2 t := rfl
theorem after3 (c : Dev nD) (t : Fin (cfgM m).N) : (dats m h 0 c).after 3 t = iblk m c 3 t := rfl
theorem after4 (c : Dev nD) (t : Fin (cfgM m).N) : (dats m h 0 c).after 4 t = iblk m c 4 t := rfl
theorem after5 (c : Dev nD) (t : Fin (cfgM m).N) : (dats m h 0 c).after 5 t = iblk m c 5 t := rfl
theorem after6 (c : Dev nD) (t : Fin (cfgM m).N) : (dats m h 0 c).after 6 t = outsAt m h c t := rfl

/-- Each input's current staging buffer holds its block at every point. -/
theorem before0 (c : Dev nD) (t : Fin (cfgM m).N) (d) : (dats m h 0 c).before 0 t d = iblk m c 0 t :=
  ((dats m h 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m h 0 c).before 1 t d = iblk m c 1 t :=
  ((dats m h 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m h 0 c).before 2 t d = iblk m c 2 t :=
  ((dats m h 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m h 0 c).before 3 t d = iblk m c 3 t :=
  ((dats m h 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m h 0 c).before 4 t d = iblk m c 4 t :=
  ((dats m h 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgM m).N) (d) : (dats m h 0 c).before 5 t d = iblk m c 5 t :=
  ((dats m h 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The result is stored at every point: no window is idle. -/
theorem live (w : Fin (cfgM m).W) (t : Fin (cfgM m).N) : (cfgM m).idle w (grid0.coords t) = false := rfl

set_option maxHeartbeats 1000000 in
/-- The body obligation: the tables' halves and the scratch go to the body's run with the blocks, and come back. -/
theorem body_obligation (c : Dev nD) : BodyObligation (dats m h 0 c) (defs₀ (F := F)) Variants.none () Set.univ := fun t => by
  rw [bigSep_W0, bigSep_W0]
  sl_whnfR [defs₀, Defs.onTc]
  rw [show (dats m h 0 c).Φ t.succ = iprop(Pipeline.ΦA spec0 c ∗ Pipeline.ΦT pre0 (tbl m) c) from rfl,
    show (dats m h 0 c).Φ t.castSucc = iprop(Pipeline.ΦA spec0 c ∗ Pipeline.ΦT pre0 (tbl m) c) from rfl,
    show (dats m h 0 c).owesAt () t.succ = (dats m h 0 c).owesAt () t.castSucc from rfl,
    after0, after1, after2, after3, after4, after5, after6, tables_eq, scratch_eq]
  unfold outsAt
  iintro ⟨⟨⟨HS, Hg⟩, HT, HT'⟩, Ho, ⟨%d0, H0⟩, ⟨%d1, H1⟩, ⟨%d2, H2⟩, ⟨%d3, H3⟩, ⟨%d4, H4⟩, ⟨%d5, H5⟩, ⟨%d6, H6⟩⟩
  iapply ((bodyRun c _ (Memref.whole main_v16) _ (Memref.whole main_v17) _ _ _ _ _ _ _ _ _ _ _ _ _ _ _ (Memref.whole cc0_scratch0) _ fullShare.right fullShare.right (startTbl m) (countTbl m)
    (iblk m c 0 t) (iblk m c 1 t) (iblk m c 2 t) (iblk m c 3 t) (iblk m c 4 t) (iblk m c 5 t)
    (starts_of _ _ _ h.starts) (counts_of _ _ _ h.counts)).2 _)
  isplitl [HT]; · iexact HT
  isplitl [HT']; · iexact HT'
  isplitl [H0]; · rw [← before0 m h c t d0]; iexact H0
  isplitl [H1]; · rw [← before1 m h c t d1]; iexact H1
  isplitl [H2]; · rw [← before2 m h c t d2]; iexact H2
  isplitl [H3]; · rw [← before3 m h c t d3]; iexact H3
  isplitl [H4]; · rw [← before4 m h c t d4]; iexact H4
  isplitl [H5]; · rw [← before5 m h c t d5]; iexact H5
  isplitl [H6]; · iexists _; iexact H6
  isplitl [HS]; · iexact HS
  iintro ⟨HT, HT', H0, H1, H2, H3, H4, H5, H6, HS⟩
  isplitl [HS Hg HT HT']
  · isplitl [HS Hg]
    · isplitl [HS]; · iexact HS
      iexact Hg
    isplitl [HT]; · iexact HT
    iexact HT'
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run and the frame -/

set_option backward.isDefEq.respectTransparency.types false in
/-- From any memory whose table words are in range and zero counters: every weakly fair execution of @main terminates, and every final
    state has each array of the pipeline at what the library computes from the proof data and every semaphore counter at zero. -/
theorem run_main : θ_run defs (onTc (τ := τ) (main (F := F))) (s₀ m ρ)
    (fun r => Pipeline.FramePost (Pipeline.pin (pcfgs (F := F)) fun _ => adm m) (dats m h) 0 (V m) r ∧ r.2.sem = fun _ => 0) :=
  Pipeline.θ_run_frameP (Q' := _) pcfgs (fun _ => adm m) (dats m h) (0 : Fin 1) launch0 defs₀ Variants.none m ρ main
    (hbody := fun c => (body_obligation m h c).loose) (hshare := fun c => (dats m h 0 c).share_full fun _ => rfl)
    (howed := fun _ _ => rfl) (V := V m) (hmain := hmain m Variants.none) (hA := A_eq m h) (hpf := V_pre m) (hΦ := fun _ _ => rfl)

include h in
/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hr => ⟨fun c => ⟨
      ((hr.1 c).1 0).trans (((dats m h 0 c).arrAt_in 0 rfl _).trans ((A_eq m h c 0).trans (V_main_arg0 m c))),
      ((hr.1 c).1 1).trans (((dats m h 0 c).arrAt_in 1 rfl _).trans ((A_eq m h c 1).trans (V_main_arg1 m c))),
      ((hr.1 c).2 main_arg2 (Pipeline.mem_restRefs_of main_arg2 (by decide) (by exact (by decide : ∀ w, Pipeline.arrRef spec0 w ≠ main_arg2)))).trans (V_main_arg2 m c),
      ((hr.1 c).1 2).trans (((dats m h 0 c).arrAt_in 2 rfl _).trans ((A_eq m h c 2).trans (V_main_arg3 m c))),
      ((hr.1 c).1 3).trans (((dats m h 0 c).arrAt_in 3 rfl _).trans ((A_eq m h c 3).trans (V_main_arg4 m c))),
      ((hr.1 c).1 4).trans (((dats m h 0 c).arrAt_in 4 rfl _).trans ((A_eq m h c 4).trans (V_main_arg5 m c))),
      ((hr.1 c).2 main_arg6 (Pipeline.mem_restRefs_of main_arg6 (by decide) (by exact (by decide : ∀ w, Pipeline.arrRef spec0 w ≠ main_arg6)))).trans (V_main_arg6 m c)⟩, hr.2⟩)
    (run_main m ρ h)

end Cert.CombineIdeal.Hand

end
-- ==== Proof.CombineIdealHost.lean ====
/-
  Hand-written. The host's lines before the combine kernel's region, read: the table of starts and the table of window counts are the
  words of Proof/CombineWords.lean at each pair, and their ranges follow from the strided entries of the counts argument lying within
  a chunk's 512 slots (`Strided`).
-/
module

public import proofs.«01_k».proof.Proof.CombineIdealRun
public import proofs.«01_k».proof.Proof.CombineWords
public import Idealize.ShloMosaic.Lib.ValueIdx
public import Idealize.ShloMosaic.Lib.Pointwise
public import Idealize.ShloMosaic.Lib.StableHlo.Run
public import Idealize.ShloMosaic.Lib.StableHlo.Predicate

@[expose] public section

set_option maxRecDepth 16384

noncomputable section

namespace Cert.CombineIdeal.Hand

open Cert.CombineIdeal Cert.CombineIdeal.Gen Cert.CombineWords
open Idealize.ShloMosaic Idealize.ShloMosaic.TcCoe Idealize.ShloMosaic.Tactic Idealize.ShloMosaic.StableHlo

variable {F : FTy → Type} [FloatOps F]
variable (m : (ℓ : Loc nD τ sig) → Buf (Elt F) ℓ)

/-! ## The tables as terms of the counts argument -/

/-- Each pair's lowest slot: every fourth entry. -/
def loArr (b : IVec S8x16x32 32) : IVec S8x16x8 32 := Host.slice S8x16x8 ![0, 0, 0] ![1, 1, 4] b slicesBy_S8x16x32_S8x16x8_0s1_0s1_0s4

/-- Each pair's end: the next pair's lowest slot, 512 after the last. -/
def hiArr (b : IVec S8x16x32 32) : IVec S8x16x8 32 :=
  concatenate S8x16x8 2 [⟨S8x16x7, extractStridedSlice S8x16x7 ![0, 0, 1] (loArr b) slices_S8x16x8_S8x16x7_0_0_1⟩,
    ⟨S8x16x1, broadcastInDim S8x16x1 ![] bcast_S_S8x16x1 (constantI S_ 32 512#32)⟩] concatenates_S8x16x7_S8x16x1_S8x16x8_d2

def startArr (b : IVec S8x16x32 32) : IVec S8x16x8 32 := fun i => startOf (loArr b i)
def windowArr (b : IVec S8x16x32 32) : IVec S8x16x8 32 := fun i => windowsOf (loArr b i) (hiArr b i)

set_option maxHeartbeats 4000000 in
theorem V_starts (c : Dev nD) : V m c main_v16
    = shapeCast S1024 (transpose S8x8x16 [0, 2, 1] (startArr (m ((c : Thread nD τ).loc main_arg2))) transposes_S8x16x8_S8x8x16_0_2_1) shapeCasts_S8x8x16_S1024 := by
  unfold V
  simp only [stretches, List.flatten_cons, List.flatten_nil, List.append_nil, List.cons_append, List.nil_append, hostOps0, hostOps0_1, hostOps0_2, hostOps0_3,
    hostOps0_4, TRef.binary, TRef.nullary, TRef.unary, TRef.ternary, TRef.toBuf, TRef.ofBuf, cast_eq]
  after_results_simp <;> rfl

set_option maxHeartbeats 4000000 in
theorem V_counts (c : Dev nD) : V m c main_v17
    = shapeCast S64 (Host.reduce IntOp.maxsi (windowArr (m ((c : Thread nD τ).loc main_arg2))) (constantI S_ 32 2147483648#32) reducesTo_S8x16x8_S8x8_d1 h_S_) shapeCasts_S8x8_S64 := by
  unfold V
  simp only [stretches, List.flatten_cons, List.flatten_nil, List.append_nil, List.cons_append, List.nil_append, hostOps0, hostOps0_1, hostOps0_2, hostOps0_3,
    hostOps0_4, TRef.binary, TRef.nullary, TRef.unary, TRef.ternary, TRef.toBuf, TRef.ofBuf, cast_eq]
  after_results_simp <;> rfl

/-! ## Their ranges -/

/-- The pairs' lowest slots lie within a chunk. -/
def Strided (b : IVec S8x16x32 32) : Prop := ∀ i, (loArr b i).toNat ≤ 512

theorem hiArr_eq (b : IVec S8x16x32 32) (p : Fin 8) (e : Fin 16) (t : Fin 8) :
    hiArr b (ix3 p e t) = if h : t.val < 7 then loArr b (ix3 p e ⟨t.val + 1, by omega⟩) else 512#32 := by
  unfold hiArr
  pointwise
  split_ifs with h
  · congr 1; funext a; apply Fin.ext
    match a with | ⟨0, _⟩ => rfl | ⟨1, _⟩ => rfl | ⟨2, _⟩ => exact Nat.add_comm _ _
  · rfl

theorem hi_le (b : IVec S8x16x32 32) (hb : Strided b) (i : S8x16x8.Idx) : (hiArr b i).toNat ≤ 512 := by
  obtain ⟨p, e, t, rfl⟩ : ∃ (p : Fin 8) (e : Fin 16) (t : Fin 8), i = ix3 p e t := ⟨i 0, i 1, i 2, by
    funext a; match a with | ⟨0, _⟩ => rfl | ⟨1, _⟩ => rfl | ⟨2, _⟩ => rfl⟩
  rw [hiArr_eq]
  split_ifs with h
  · exact hb _
  · decide

theorem trips_le (w : BitVec 32) (h : w.toInt ≤ 4) : (k0_t1_loop w).trips ≤ 4 := by
  show Scf.trips _ _ _ ≤ 4
  refine le_of_eq_of_le (trips_eq w) ?_
  omega

/-- The tables' words are in range. -/
theorem wordsOK (h : ∀ c : Dev nD, Strided (m ((c : Thread nD τ).loc main_arg2))) : WordsOK m where
  starts j := by
    have e : startTbl m = _ := V_starts m 0
    rw [e]
    have hl := fun i => startOf_toNat _ (h 0 i)
    constructor
    · show 16 ∣ (startArr _ _).toNat
      unfold startArr; rw [hl]; omega
    · show (startArr _ _).toNat ≤ 512
      unfold startArr; rw [hl]; have := h 0 ((transposes_S8x16x8_S8x8x16_0_2_1).src (Shape.reshapeEquiv shapeCasts_S8x8x16_S1024 j)); omega
  counts j := by
    have e : countTbl m = _ := V_counts m 0
    refine trips_le _ ?_
    rw [e]
    show (Host.reduce IntOp.maxsi _ _ _ _ _).toInt ≤ 4
    rw [Host.reduce_eq_fold]
    rcases (SortNet.fold_maxsi_spec (windowArr (m (((0 : Dev nD) : Thread nD τ).loc main_arg2))) _ _).2.2 with h1 | ⟨i, -, h1⟩
    · rw [h1]; decide
    · rw [h1]; exact windowsOf_le _ _ (h 0 _) (hi_le _ (h 0) _)

end Cert.CombineIdeal.Hand

end
-- ==== Proof.CombinePre.lean ====
/-
  What the two preconditions of the combine kernel say: `counts_in_range` puts every count within a chunk's 512 slots, and
  `slots_in_chunk` says it of the strided counts and says where a row's slot lies: below zero, or within its expert's stretch.
-/
module

public import proofs.«01_k».proof.Proof.CombineIdealHost
public import proofs.«01_k».proof.Proof.Gen.Pre_counts_in_range
public import proofs.«01_k».proof.Proof.Gen.Pre_slots_in_chunk

@[expose] public section

set_option maxRecDepth 16384

noncomputable section

namespace Cert.CombineIdeal.Hand

open Cert.CombineIdeal Cert.CombineIdeal.Gen
open Idealize.ShloMosaic Idealize.ShloMosaic.Tactic

variable {F : FTy → Type} [FloatOps F]
variable (a0 : IVec S8x4096x16 32) (a1 : FVec F S8x4096x16 .f32) (a2 : IVec S8x16x32 32) (a3 : FVec F S16x4096x1024 .bf16)
  (a4 : FVec F S8x4096x1024 .f32) (a5 : FVec F S8x1x1024 .f32) (a6 : FVec F S1024 .f32)

theorem and_bits : ∀ a b : BitVec 1, IntOp.andi a b = 1#1 ↔ a = 1#1 ∧ b = 1#1 := by decide
theorem or_bits : ∀ a b : BitVec 1, IntOp.ori a b = 1#1 ↔ a = 1#1 ∨ b = 1#1 := by decide

/-- A word between 0 and 512, read signed, is at most 512. -/
theorem toNat_le_of_range (w : BitVec 32) (h0 : IntOp.cmpi .sge w 0#32 = 1#1) (h1 : IntOp.cmpi .sle w 512#32 = 1#1) : w.toNat ≤ 512 := by
  have h0 : (0#32).sle w = true := (StableHlo.Predicate.ofBool_eq_one_iff _).mp h0
  have h1 : w.sle 512#32 = true := (StableHlo.Predicate.ofBool_eq_one_iff _).mp h1
  simp only [BitVec.sle, decide_eq_true_eq, BitVec.toInt_eq_toNat_cond] at h0 h1
  have := w.isLt
  simp at h0 h1
  omega

theorem strided_of_counts (h : Cert.Pre_counts_in_range.fn (F := F) a0 a1 a2 a3 a4 a5 a6 = fun _ => 1#1) : Strided a2 := fun i => by
  have hi := fun j => congrFun h j
  unfold Cert.Pre_counts_in_range.fn at hi
  have := fun j => (and_bits _ _).mp (hi j)
  unfold loArr Host.slice
  exact toNat_le_of_range _ (this _).1 (this _).2

/-- Row `R`'s slot for expert `e`: none, or in its expert's stretch of the chunk. -/
def SlotIn (a0 : IVec S8x4096x16 32) (a2 : IVec S8x16x32 32) (p t : Fin 8) (r : Fin 512) (e : Fin 16) : Prop :=
  (a0 (ix3 p ⟨t.val * 512 + r.val, by omega⟩ e)).toInt < 0 ∨
    ((loArr a2 (ix3 p e t)).toNat ≤ (a0 (ix3 p ⟨t.val * 512 + r.val, by omega⟩ e)).toNat
      ∧ (a0 (ix3 p ⟨t.val * 512 + r.val, by omega⟩ e)).toNat < (hiArr a2 (ix3 p e t)).toNat)

theorem pre_apply (h : Cert.Pre_slots_in_chunk.fn (F := F) a0 a1 a2 a3 a4 a5 a6 = fun _ => 1#1) (p t : Fin 8) (r : Fin 512) (e : Fin 16) :
    (IntOp.cmpi .sge (loArr a2 (ix3 p e t)) 0#32 = 1#1 ∧ IntOp.cmpi .sle (loArr a2 (ix3 p e t)) 512#32 = 1#1) ∧
      (IntOp.cmpi .slt (a0 (ix3 p ⟨t.val * 512 + r.val, by omega⟩ e)) 0#32 = 1#1 ∨
        (IntOp.cmpi .sle (loArr a2 (ix3 p e t)) (a0 (ix3 p ⟨t.val * 512 + r.val, by omega⟩ e)) = 1#1
          ∧ IntOp.cmpi .slt (a0 (ix3 p ⟨t.val * 512 + r.val, by omega⟩ e)) (hiArr a2 (ix3 p e t)) = 1#1)) := by
  have hj := congrFun h (ix4 p t r e)
  unfold Cert.Pre_slots_in_chunk.fn Cert.Pre_slots_in_chunk.fn_part1 at hj
  have e5 : shapeCast Cert.Pre_slots_in_chunk.S8x8x512x16 a0 Cert.Pre_slots_in_chunk.Facts.shapeCasts_S8x4096x16_S8x8x512x16 (ix4 p t r e)
      = a0 (ix3 p ⟨t.val * 512 + r.val, by omega⟩ e) := by
    pointwise
  let I : S8x16x8.Idx := broadcastInDim Cert.Pre_slots_in_chunk.S8x8x512x16 ![0, 1, 2, 3] Cert.Pre_slots_in_chunk.Facts.bcast_S8x8x1x16_S8x8x512x16_0_1_2_3
    (broadcastInDim Cert.Pre_slots_in_chunk.S8x8x1x16 ![0, 1, 3] Cert.Pre_slots_in_chunk.Facts.bcast_S8x8x16_S8x8x1x16_0_1_3
      (transpose Cert.Pre_slots_in_chunk.S8x8x16 [0, 2, 1] (fun i : S8x16x8.Idx => i) Cert.Pre_slots_in_chunk.Facts.transposes_S8x16x8_S8x8x16_0_2_1)) (ix4 p t r e)
  have hI : I = ix3 p e t := by dsimp only [I]; pointwise
  change IntOp.andi (IntOp.andi (IntOp.cmpi .sge (loArr a2 I) 0#32) (IntOp.cmpi .sle (loArr a2 I) 512#32))
    (IntOp.ori (IntOp.cmpi .slt (shapeCast _ a0 _ (ix4 p t r e)) 0#32) (IntOp.andi (IntOp.cmpi .sle (loArr a2 I) (shapeCast _ a0 _ (ix4 p t r e)))
      (IntOp.cmpi .slt (shapeCast _ a0 _ (ix4 p t r e)) (hiArr a2 I)))) = 1#1 at hj
  rw [hI, e5] at hj
  simpa only [and_bits, or_bits] using hj

theorem strided_of_slots (h : Cert.Pre_slots_in_chunk.fn (F := F) a0 a1 a2 a3 a4 a5 a6 = fun _ => 1#1) : Strided a2 := fun i => by
  obtain ⟨p, e, t, rfl⟩ : ∃ (p : Fin 8) (e : Fin 16) (t : Fin 8), i = ix3 p e t := ⟨i 0, i 1, i 2, by
    funext a; match a with | ⟨0, _⟩ => rfl | ⟨1, _⟩ => rfl | ⟨2, _⟩ => rfl⟩
  have := (pre_apply a0 a1 a2 a3 a4 a5 a6 h p t 0 e).1
  exact toNat_le_of_range _ this.1 this.2

theorem slotIn (h : Cert.Pre_slots_in_chunk.fn (F := F) a0 a1 a2 a3 a4 a5 a6 = fun _ => 1#1) (p t : Fin 8) (r : Fin 512) (e : Fin 16) :
    SlotIn a0 a2 p t r e := by
  have hlo := strided_of_slots a0 a1 a2 a3 a4 a5 a6 h
  have hhi := hi_le a2 hlo (ix3 p e t)
  have hlo := hlo (ix3 p e t)
  rcases (pre_apply a0 a1 a2 a3 a4 a5 a6 h p t r e).2 with hn | ⟨h1, h2⟩
  · left
    have hn : BitVec.slt _ 0#32 = true := (StableHlo.Predicate.ofBool_eq_one_iff _).mp hn
    simpa [BitVec.slt] using hn
  · have h1 : BitVec.sle _ _ = true := (StableHlo.Predicate.ofBool_eq_one_iff _).mp h1
    have h2 : BitVec.slt _ _ = true := (StableHlo.Predicate.ofBool_eq_one_iff _).mp h2
    simp only [BitVec.sle, BitVec.slt, decide_eq_true_eq, BitVec.toInt_eq_toNat_cond] at h1 h2
    unfold SlotIn
    generalize a0 (ix3 p ⟨t.val * 512 + r.val, by omega⟩ e) = w at h1 h2 ⊢
    have := w.isLt
    right
    split_ifs at h1 h2 <;> omega

end Cert.CombineIdeal.Hand

end
-- ==== Proof.CombineWindow.lean ====
module

public import proofs.«01_k».proof.Proof.CombineIdealBody
public import Idealize.ShloMosaic.Lib.ValueIdx
public import Idealize.ShloMosaic.Lib.Pointwise

@[expose] public section

/-! # One window of `moe_combine`, entry by entry

    The accumulator after a window is the accumulator before it plus, for each of the sixteen experts, the sum over the window's 128
    columns of gate times row, at the columns whose row number is the token's slot. -/

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA
open scoped BigOperators

/-! ## Words and rows read from the tables -/

/-- Word `n` of the start table, zero past its end. -/
def wordAt (T : Vec Ideal S1024 .i32) (n : ℕ) : BitVec 32 := if h : n < 1024 then T (ix1 ⟨n, h⟩) else 0

/-- Entry `(a, b, d)` of the experts' rows, zero outside. -/
def rowAt (xs : Vec Ideal S16x512x1024 .bf16) (a b d : ℕ) : EReal :=
  if h : a < 16 ∧ b < 512 ∧ d < 1024 then xs (ix3 ⟨a, h.1⟩ ⟨b, h.2.1⟩ ⟨d, h.2.2⟩) else 0

theorem word_read (arg2 : Memref sig .tc .smem S1024 .i32) (harg2 : arg2.IsWhole) (T : Vec Ideal S1024 .i32) (off : Fin 1 → ℕ)
    (h : ∀ a, off a + (![1] : Fin 1 → ℕ) a ≤ S1024.size a) (j : (Rect.unit (s := S1024) off ![1] h).toLoadRect.shape.Idx) :
    arg2.view.readAt (Elt Ideal) (Rect.unit (s := S1024) off ![1] h).toLoadRect (harg2.unread T) j = wordAt T (off 0) := by
  have h0 : off 0 + 1 ≤ 1024 := h 0
  rw [View.readAt_apply, harg2.read_unread, wordAt, dif_pos (by omega)]
  refine congrArg T (funext fun a => Fin.ext ?_)
  match a with
  | ⟨0, _⟩ =>
    have hj : (j 0).val < 1 := (j 0).isLt
    show off 0 + 1 * (j 0).val = off 0
    omega

theorem row_read (arg6 : Memref sig .tc .vmem S16x512x1024 .bf16) (harg6 : arg6.IsWhole) (xs : Vec Ideal S16x512x1024 .bf16)
    (off : Fin 3 → ℕ) (h : ∀ a, off a + (![1, 128, 1024] : Fin 3 → ℕ) a ≤ S16x512x1024.size a) (x : Fin 128) (d : Fin 1024) :
    arg6.view.readAt (Elt Ideal) (Rect.unit (s := S16x512x1024) off ![1, 128, 1024] h).toLoadRect (harg6.unread xs) (ix3 0 x d)
      = rowAt xs (off 0) (off 1 + x.val) (d.val + off 2) := by
  have h0 : off 0 + 1 ≤ 16 := h 0
  have h1 : off 1 + 128 ≤ 512 := h 1
  have h2 : off 2 + 1024 ≤ 1024 := h 2
  have := x.isLt
  have := d.isLt
  rw [View.readAt_apply, harg6.read_unread, rowAt, dif_pos ⟨by omega, by omega, by omega⟩]
  refine congrArg xs (funext fun a => Fin.ext ?_)
  match a with
  | ⟨0, _⟩ => show off 0 + 1 * 0 = off 0; omega
  | ⟨1, _⟩ => show off 1 + 1 * x.val = off 1 + x.val; omega
  | ⟨2, _⟩ => show off 2 + 1 * d.val = d.val + off 2; omega

/-! ## The window's sum -/

/-- Whether the column holding row number `col` counts for a token of slot `p` in a window first wanted at `first`. -/
def hit (p col first : BitVec 32) : BitVec 1 := IntOp.andi (IntOp.cmpi .eq p col) (IntOp.cmpi .sge col first)

/-- Where window `k` of a chunk starting at `w` would begin were there room for it. -/
def wantedWord (k : ℕ) (w : BitVec 32) : BitVec 32 := Scalar.addi w (Scalar.muli (Scf.iv 0#32 1#32 k) 128#32)

/-- One expert's part of window `k`: gate times row, summed over the 128 columns that hit. -/
def hitSum (p : BitVec 32) (gate : EReal) (row : ℕ → EReal) (cols : Fin 128 → BitVec 32) (k : ℕ) (w : BitVec 32) : EReal :=
  ∑ x : Fin 128, Scalar.select (hit p (IntOp.addi (cols x) (firstWord k w)) (wantedWord k w)) (gate * row ((firstWord k w).toNat + x.val)) 0

theorem sum_sixteen (f : Fin 16 → EReal) : ∑ e, f e = f 0 + (f 1 + (f 2 + (f 3 + (f 4 + (f 5 + (f 6 + (f 7 + (f 8 + (f 9 + (f 10
    + (f 11 + (f 12 + (f 13 + (f 14 + f 15)))))))))))))) := by
  simp only [Fin.sum_univ_succ, Fin.sum_univ_zero, add_zero]
  rfl

section Window

theorem vec1 (a : ℕ) : (![a] : Fin 1 → ℕ) 0 = a := rfl
theorem vec3_0 (a b d : ℕ) : (![a, b, d] : Fin 3 → ℕ) 0 = a := rfl
theorem vec3_1 (a b d : ℕ) : (![a, b, d] : Fin 3 → ℕ) 1 = b := rfl
theorem vec3_2 (a b d : ℕ) : (![a, b, d] : Fin 3 → ℕ) 2 = d := rfl

theorem addend (xs : Vec Ideal S16x512x1024 .bf16) (p : BitVec 32) (gate : EReal) (cols : Fin 128 → BitVec 32) (k : ℕ) (w : BitVec 32)
    (a b z e d : ℕ) (ha : a = e) (hb : b = (firstWord k w).toNat) (hz : z = 0) :
    ∑ x : Fin 128, Scalar.select
        (IntOp.andi (IntOp.cmpi .eq p (IntOp.addi (cols x) (Scalar.minsi (Scalar.addi w (Scalar.muli (Scf.iv 0#32 1#32 k) 128#32)) 384#32)))
          (IntOp.cmpi .sge (IntOp.addi (cols x) (Scalar.minsi (Scalar.addi w (Scalar.muli (Scf.iv 0#32 1#32 k) 128#32)) 384#32))
            (Scalar.addi w (Scalar.muli (Scf.iv 0#32 1#32 k) 128#32))))
        (gate * rowAt xs a (b + x.val) (d + z)) 0
      = hitSum p gate (fun n => rowAt xs e n d) cols k w := by
  subst ha hb hz
  rfl

/-! Where each expert's rows begin. -/

theorem first0 (v : BitVec 32) (k : Fin (k0_t1_loop v).trips) (w : BitVec 32) :
    k0_off3 v k w 0 = 0 ∧ k0_off3 v k w 1 = (firstWord k.val w).toNat ∧ k0_off3 v k w 2 = 0 := by
  refine ⟨rfl, ?_, rfl⟩; simp only [k0_off3, firstWord]; rfl
theorem first1 (v : BitVec 32) (k : Fin (k0_t1_loop v).trips) (w : BitVec 32) :
    k0_off5 v k w 0 = 1 ∧ k0_off5 v k w 1 = (firstWord k.val w).toNat ∧ k0_off5 v k w 2 = 0 := by
  refine ⟨rfl, ?_, rfl⟩; simp only [k0_off5, firstWord]; rfl
theorem first2 (v : BitVec 32) (k : Fin (k0_t1_loop v).trips) (w : BitVec 32) :
    k0_off7 v k w 0 = 2 ∧ k0_off7 v k w 1 = (firstWord k.val w).toNat ∧ k0_off7 v k w 2 = 0 := by
  refine ⟨rfl, ?_, rfl⟩; simp only [k0_off7, firstWord]; rfl
theorem first3 (v : BitVec 32) (k : Fin (k0_t1_loop v).trips) (w : BitVec 32) :
    k0_off9 v k w 0 = 3 ∧ k0_off9 v k w 1 = (firstWord k.val w).toNat ∧ k0_off9 v k w 2 = 0 := by
  refine ⟨rfl, ?_, rfl⟩; simp only [k0_off9, firstWord]; rfl
theorem first4 (v : BitVec 32) (k : Fin (k0_t1_loop v).trips) (w : BitVec 32) :
    k0_off11 v k w 0 = 4 ∧ k0_off11 v k w 1 = (firstWord k.val w).toNat ∧ k0_off11 v k w 2 = 0 := by
  refine ⟨rfl, ?_, rfl⟩; simp only [k0_off11, firstWord]; rfl
theorem first5 (v : BitVec 32) (k : Fin (k0_t1_loop v).trips) (w : BitVec 32) :
    k0_off13 v k w 0 = 5 ∧ k0_off13 v k w 1 = (firstWord k.val w).toNat ∧ k0_off13 v k w 2 = 0 := by
  refine ⟨rfl, ?_, rfl⟩; simp only [k0_off13, firstWord]; rfl
theorem first6 (v : BitVec 32) (k : Fin (k0_t1_loop v).trips) (w : BitVec 32) :
    k0_off15 v k w 0 = 6 ∧ k0_off15 v k w 1 = (firstWord k.val w).toNat ∧ k0_off15 v k w 2 = 0 := by
  refine ⟨rfl, ?_, rfl⟩; simp only [k0_off15, firstWord]; rfl
theorem first7 (v : BitVec 32) (k : Fin (k0_t1_loop v).trips) (w : BitVec 32) :
    k0_off17 v k w 0 = 7 ∧ k0_off17 v k w 1 = (firstWord k.val w).toNat ∧ k0_off17 v k w 2 = 0 := by
  refine ⟨rfl, ?_, rfl⟩; simp only [k0_off17, firstWord]; rfl
theorem first8 (v : BitVec 32) (k : Fin (k0_t1_loop v).trips) (w : BitVec 32) :
    k0_off19 v k w 0 = 8 ∧ k0_off19 v k w 1 = (firstWord k.val w).toNat ∧ k0_off19 v k w 2 = 0 := by
  refine ⟨rfl, ?_, rfl⟩; simp only [k0_off19, firstWord]; rfl
theorem first9 (v : BitVec 32) (k : Fin (k0_t1_loop v).trips) (w : BitVec 32) :
    k0_off21 v k w 0 = 9 ∧ k0_off21 v k w 1 = (firstWord k.val w).toNat ∧ k0_off21 v k w 2 = 0 := by
  refine ⟨rfl, ?_, rfl⟩; simp only [k0_off21, firstWord]; rfl
theorem first10 (v : BitVec 32) (k : Fin (k0_t1_loop v).trips) (w : BitVec 32) :
    k0_off23 v k w 0 = 10 ∧ k0_off23 v k w 1 = (firstWord k.val w).toNat ∧ k0_off23 v k w 2 = 0 := by
  refine ⟨rfl, ?_, rfl⟩; simp only [k0_off23, firstWord]; rfl
theorem first11 (v : BitVec 32) (k : Fin (k0_t1_loop v).trips) (w : BitVec 32) :
    k0_off25 v k w 0 = 11 ∧ k0_off25 v k w 1 = (firstWord k.val w).toNat ∧ k0_off25 v k w 2 = 0 := by
  refine ⟨rfl, ?_, rfl⟩; simp only [k0_off25, firstWord]; rfl
theorem first12 (v : BitVec 32) (k : Fin (k0_t1_loop v).trips) (w : BitVec 32) :
    k0_off27 v k w 0 = 12 ∧ k0_off27 v k w 1 = (firstWord k.val w).toNat ∧ k0_off27 v k w 2 = 0 := by
  refine ⟨rfl, ?_, rfl⟩; simp only [k0_off27, firstWord]; rfl
theorem first13 (v : BitVec 32) (k : Fin (k0_t1_loop v).trips) (w : BitVec 32) :
    k0_off29 v k w 0 = 13 ∧ k0_off29 v k w 1 = (firstWord k.val w).toNat ∧ k0_off29 v k w 2 = 0 := by
  refine ⟨rfl, ?_, rfl⟩; simp only [k0_off29, firstWord]; rfl
theorem first14 (v : BitVec 32) (k : Fin (k0_t1_loop v).trips) (w : BitVec 32) :
    k0_off31 v k w 0 = 14 ∧ k0_off31 v k w 1 = (firstWord k.val w).toNat ∧ k0_off31 v k w 2 = 0 := by
  refine ⟨rfl, ?_, rfl⟩; simp only [k0_off31, firstWord]; rfl
theorem first15 (v : BitVec 32) (k : Fin (k0_t1_loop v).trips) (w : BitVec 32) :
    k0_off33 v k w 0 = 15 ∧ k0_off33 v k w 1 = (firstWord k.val w).toNat ∧ k0_off33 v k w 2 = 0 := by
  refine ⟨rfl, ?_, rfl⟩; simp only [k0_off33, firstWord]; rfl

/-- Eight pairs, summed from the left, are the sixteen summed from the right. -/
theorem pairs_sum {s0 t0 s1 t1 s2 t2 s3 t3 s4 t4 s5 t5 s6 t6 s7 t7 s8 t8 s9 t9 s10 t10 s11 t11 s12 t12 s13 t13 s14 t14 s15 t15 : EReal} (h0 : s0 = t0) (h1 : s1 = t1) (h2 : s2 = t2) (h3 : s3 = t3) (h4 : s4 = t4) (h5 : s5 = t5) (h6 : s6 = t6) (h7 : s7 = t7) (h8 : s8 = t8) (h9 : s9 = t9) (h10 : s10 = t10) (h11 : s11 = t11) (h12 : s12 = t12) (h13 : s13 = t13) (h14 : s14 = t14) (h15 : s15 = t15) :
    ((((((((s0 + s1) + (s2 + s3)) + (s4 + s5)) + (s6 + s7)) + (s8 + s9)) + (s10 + s11)) + (s12 + s13)) + (s14 + s15)) = t0 + (t1 + (t2 + (t3 + (t4 + (t5 + (t6 + (t7 + (t8 + (t9 + (t10 + (t11 + (t12 + (t13 + (t14 + (t15))))))))))))))) := by
  subst h0 h1 h2 h3 h4 h5 h6 h7 h8 h9 h10 h11 h12 h13 h14 h15
  simp only [add_assoc]

variable (c : Dev nD) (i : grid0.Coords) (arg2 : Memref sig .tc .smem S1024 .i32) (harg2 : arg2.IsWhole) (arg3 : Memref sig .tc .smem S64 .i32) (harg3 : arg3.IsWhole) (arg4 : Memref sig .tc .vmem S1x512x16 .i32) (harg4 : arg4.IsWhole) (arg5 : Memref sig .tc .vmem S1x512x16 .f32) (harg5 : arg5.IsWhole) (arg6 : Memref sig .tc .vmem S16x512x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .f32) (harg11 : arg11.IsWhole)
  (arg0 arg1 : BitVec 32) (v4 : Vec Ideal S1x512x16 .i32) (v6 : Vec Ideal S1x512x16 .f32) (v8 : IVec S512x128 32) (v12 : Elt Ideal .i32) (k0_hw1 : k0_chk1 v12)
  (q : PosShare TreeShare) (T : Vec Ideal S1024 .i32) (xs : Vec Ideal S16x512x1024 .bf16)

set_option maxHeartbeats 1000000 in
/-- The accumulator after window `k`, at row `r` and column `d`. -/
theorem trip_apply (hT : Starts arg2 harg2 T) (k : Fin (k0_t1_loop v12).trips) (hk : k.val < 4)
    (g : Buf (Elt Ideal) (arg11.view.loc (c : Thread nD τ))) (r : Fin 512) (d : Fin 1024)
    (B : ℕ) (hB : B = 128 * (i 0).val + 16 * (i 1).val) :
    (tripRun c i arg2 harg2 arg3 harg3 arg4 harg4 arg5 harg5 arg6 harg6 arg7 harg7 arg8 harg8 arg9 harg9 arg10 harg10 arg11 harg11 arg0 arg1 v4 v6 v8 v12 k0_hw1 q T xs hT k hk g).1 (ix2 r d)
      = arg11.view.read (Elt Ideal) g (ix2 r d)
        + ∑ e : Fin 16, hitSum (v4 (ix3 0 r e)) (v6 (ix3 0 r e)) (fun n => rowAt xs e.val n d.val) (fun x => v8 (ix2 r x)) k.val
            (wordAt T (B + e.val)) := by
  rw [sum_sixteen]
  unfold tripRun; dsimp only
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay57, k0_pay58, k0_pay59, tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.arg12, tripRun.sl.v397, tripRun.sl.cst_56, tripRun.sl.v308, tripRun.sl.v309]
  generalize_proofs
  rw [View.readAt_full]
  simp only [word_read, row_read]
  simp only [k0_off2_eq, k0_off4_eq, k0_off6_eq, k0_off8_eq, k0_off10_eq, k0_off12_eq, k0_off14_eq, k0_off16_eq, k0_off18_eq, k0_off20_eq, k0_off22_eq, k0_off24_eq, k0_off26_eq, k0_off28_eq, k0_off30_eq, k0_off32_eq, vec1, ← hB]
  clear hB
  refine congrArg (_ + ·) (pairs_sum ?_ ?_ ?_ ?_ ?_ ?_ ?_ ?_ ?_ ?_ ?_ ?_ ?_ ?_ ?_ ?_)
  · refine addend xs _ _ _ _ _ _ _ _ _ _ ?_ ?_ ?_
    · exact (first0 _ _ _).1
    · exact (first0 _ _ _).2.1
    · exact (first0 _ _ _).2.2
  · refine addend xs _ _ _ _ _ _ _ _ _ _ ?_ ?_ ?_
    · exact (first1 _ _ _).1
    · exact (first1 _ _ _).2.1
    · exact (first1 _ _ _).2.2
  · refine addend xs _ _ _ _ _ _ _ _ _ _ ?_ ?_ ?_
    · exact (first2 _ _ _).1
    · exact (first2 _ _ _).2.1
    · exact (first2 _ _ _).2.2
  · refine addend xs _ _ _ _ _ _ _ _ _ _ ?_ ?_ ?_
    · exact (first3 _ _ _).1
    · exact (first3 _ _ _).2.1
    · exact (first3 _ _ _).2.2
  · refine addend xs _ _ _ _ _ _ _ _ _ _ ?_ ?_ ?_
    · exact (first4 _ _ _).1
    · exact (first4 _ _ _).2.1
    · exact (first4 _ _ _).2.2
  · refine addend xs _ _ _ _ _ _ _ _ _ _ ?_ ?_ ?_
    · exact (first5 _ _ _).1
    · exact (first5 _ _ _).2.1
    · exact (first5 _ _ _).2.2
  · refine addend xs _ _ _ _ _ _ _ _ _ _ ?_ ?_ ?_
    · exact (first6 _ _ _).1
    · exact (first6 _ _ _).2.1
    · exact (first6 _ _ _).2.2
  · refine addend xs _ _ _ _ _ _ _ _ _ _ ?_ ?_ ?_
    · exact (first7 _ _ _).1
    · exact (first7 _ _ _).2.1
    · exact (first7 _ _ _).2.2
  · refine addend xs _ _ _ _ _ _ _ _ _ _ ?_ ?_ ?_
    · exact (first8 _ _ _).1
    · exact (first8 _ _ _).2.1
    · exact (first8 _ _ _).2.2
  · refine addend xs _ _ _ _ _ _ _ _ _ _ ?_ ?_ ?_
    · exact (first9 _ _ _).1
    · exact (first9 _ _ _).2.1
    · exact (first9 _ _ _).2.2
  · refine addend xs _ _ _ _ _ _ _ _ _ _ ?_ ?_ ?_
    · exact (first10 _ _ _).1
    · exact (first10 _ _ _).2.1
    · exact (first10 _ _ _).2.2
  · refine addend xs _ _ _ _ _ _ _ _ _ _ ?_ ?_ ?_
    · exact (first11 _ _ _).1
    · exact (first11 _ _ _).2.1
    · exact (first11 _ _ _).2.2
  · refine addend xs _ _ _ _ _ _ _ _ _ _ ?_ ?_ ?_
    · exact (first12 _ _ _).1
    · exact (first12 _ _ _).2.1
    · exact (first12 _ _ _).2.2
  · refine addend xs _ _ _ _ _ _ _ _ _ _ ?_ ?_ ?_
    · exact (first13 _ _ _).1
    · exact (first13 _ _ _).2.1
    · exact (first13 _ _ _).2.2
  · refine addend xs _ _ _ _ _ _ _ _ _ _ ?_ ?_ ?_
    · exact (first14 _ _ _).1
    · exact (first14 _ _ _).2.1
    · exact (first14 _ _ _).2.2
  · refine addend xs _ _ _ _ _ _ _ _ _ _ ?_ ?_ ?_
    · exact (first15 _ _ _).1
    · exact (first15 _ _ _).2.1
    · exact (first15 _ _ _).2.2

end Window

end Cert.CombineIdeal.Hand

end

end
-- ==== Proof.CombineSum.lean ====
module

public import proofs.«01_k».proof.Proof.CombineWindow

@[expose] public section

/-! # The windows of one expert, summed

    A token's slot lies in exactly one of the windows that cover its expert's part of the chunk, so the sum over windows and columns
    is that slot's one term. A slot below zero lies in none. -/

noncomputable section

namespace Cert.CombineIdeal.Hand

open Cert.CombineIdeal Cert.CombineIdeal.Gen
open Idealize.ShloMosaic Idealize.ShloMosaic.TcCoe Idealize.ShloMosaic.Tactic
open scoped BigOperators

theorem wantedWord_toNat (k : ℕ) (hk : k < 4) (w : BitVec 32) (hw : StartWord w) : (wantedWord k w).toNat = w.toNat + 128 * k := by
  obtain ⟨-, hw⟩ := hw
  have hiv : Scf.iv 0#32 1#32 k = BitVec.ofNat 32 k := by simp [Scf.iv]
  unfold wantedWord
  rw [hiv]
  show (w + BitVec.ofNat 32 k * 128#32).toNat = _
  simp only [BitVec.toNat_add, BitVec.toNat_mul, BitVec.toNat_ofNat]
  omega

/-- A column hits when its row number is the slot and is not before the window's wanted start. -/
theorem hit_iff (p col first : BitVec 32) (hc : col.toNat < 2 ^ 31) (hf : first.toNat < 2 ^ 31) :
    hit p col first = 1 ↔ p.toNat = col.toNat ∧ first.toNat ≤ col.toNat := by
  unfold hit IntOp.andi IntOp.cmpi
  have e1 : ∀ a b : Bool, BitVec.ofBool a &&& BitVec.ofBool b = 1#1 ↔ a = true ∧ b = true := by decide
  show _ = 1#1 ↔ _
  refine (e1 _ _).trans ?_
  refine and_congr ?_ ?_
  · show (p == col) = true ↔ _
    rw [beq_iff_eq]
    exact ⟨fun h => h ▸ rfl, fun h => BitVec.eq_of_toNat_eq h⟩
  · show BitVec.sle first col = true ↔ _
    simp only [BitVec.sle, decide_eq_true_eq, BitVec.toInt_eq_toNat_cond]
    split_ifs <;> omega

/-- One window's part: the slot's term if the window holds the slot. -/
theorem hitSum_eq (p : BitVec 32) (gate : EReal) (row : ℕ → EReal) (k : ℕ) (hk : k < 4) (w : BitVec 32) (hw : StartWord w) :
    hitSum p gate row (fun x => BitVec.ofNat 32 x.val) k w
      = if p.toNat < 512 ∧ w.toNat + 128 * k ≤ p.toNat ∧ p.toNat < w.toNat + 128 * k + 128 then gate * row p.toNat else 0 := by
  have hf := firstWord_toNat k hk w hw
  have hg := wantedWord_toNat k hk w hw
  have hw' := hw.2
  have hcol : ∀ x : Fin 128, (IntOp.addi (BitVec.ofNat 32 x.val) (firstWord k w)).toNat = x.val + (firstWord k w).toNat := fun x => by
    have := x.isLt
    show (BitVec.ofNat 32 x.val + firstWord k w).toNat = _
    simp only [BitVec.toNat_add, BitVec.toNat_ofNat]
    omega
  have hterm : ∀ x : Fin 128, Scalar.select (hit p (IntOp.addi (BitVec.ofNat 32 x.val) (firstWord k w)) (wantedWord k w))
        (gate * row ((firstWord k w).toNat + x.val)) 0
      = if p.toNat = x.val + (firstWord k w).toNat ∧ w.toNat + 128 * k ≤ p.toNat then gate * row p.toNat else 0 := fun x => by
    have hx := x.isLt
    have h := hit_iff p (IntOp.addi (BitVec.ofNat 32 x.val) (firstWord k w)) (wantedWord k w) (by rw [hcol]; omega) (by omega)
    rw [hcol, hg] at h
    unfold Scalar.select
    by_cases hp : p.toNat = x.val + (firstWord k w).toNat ∧ w.toNat + 128 * k ≤ p.toNat
    · rw [if_pos hp, if_pos (h.mpr ⟨hp.1, by omega⟩)]
      rw [hp.1, Nat.add_comm]
    · rw [if_neg hp, if_neg fun h' => hp ⟨(h.mp h').1, by have := h.mp h'; omega⟩]
  unfold hitSum
  rw [Finset.sum_congr rfl fun x _ => hterm x]
  by_cases hp : p.toNat < 512 ∧ w.toNat + 128 * k ≤ p.toNat ∧ p.toNat < w.toNat + 128 * k + 128
  · rw [if_pos hp, Finset.sum_eq_single (⟨p.toNat - (firstWord k w).toNat, by omega⟩ : Fin 128)]
    · rw [if_pos ⟨by show _ = p.toNat - _ + _; omega, by omega⟩]
    · intro x _ hx
      rw [if_neg]
      rintro ⟨h1, -⟩
      exact hx (Fin.ext (by show x.val = p.toNat - _; omega))
    · exact fun h => absurd (Finset.mem_univ _) h
  · rw [if_neg hp]
    refine Finset.sum_eq_zero fun x _ => if_neg ?_
    rintro ⟨h1, h2⟩
    have := x.isLt
    exact hp ⟨by omega, by omega, by omega⟩

/-- All windows' parts: the slot's term, nothing for a slot below zero. -/
theorem windows_sum (p : BitVec 32) (gate : EReal) (row : ℕ → EReal) (n : ℕ) (hn : n ≤ 4) (w : BitVec 32) (hw : StartWord w)
    (hp : p.toInt < 0 ∨ (w.toNat ≤ p.toNat ∧ p.toNat < w.toNat + 128 * n ∧ p.toNat < 512)) :
    ∑ k ∈ Finset.range n, hitSum p gate row (fun x => BitVec.ofNat 32 x.val) k w = if p.toNat < 512 then gate * row p.toNat else 0 := by
  rw [Finset.sum_congr rfl fun k hk => hitSum_eq p gate row k (by have := Finset.mem_range.mp hk; omega) w hw]
  rcases hp with hp | ⟨h1, h2, h3⟩
  · have : ¬p.toNat < 512 := by
      rw [BitVec.toInt_eq_toNat_cond] at hp
      split_ifs at hp <;> omega
    rw [if_neg this]
    exact Finset.sum_eq_zero fun k _ => if_neg fun h => this h.1
  · rw [if_pos h3, Finset.sum_eq_single ((p.toNat - w.toNat) / 128)]
    · rw [if_pos ⟨h3, by omega, by omega⟩]
    · intro k _ hk
      rw [if_neg]
      rintro ⟨-, h4, h5⟩
      exact hk (by omega)
    · exact fun h => absurd (Finset.mem_range.mpr (by omega)) h

end Cert.CombineIdeal.Hand

end
-- ==== Proof.CombineBlock.lean ====
module

public import proofs.«01_k».proof.Proof.CombineSum
public import proofs.«01_k».proof.Proof.CombineWords

@[expose] public section

/-! # The block `moe_combine` leaves, entry by entry

    The accumulator after the windows is the sum of their parts; the block is the residual plus the gated sum, normalised. -/

set_option maxRecDepth 16384

noncomputable section

namespace Cert.CombineIdeal.Hand

open Cert.CombineIdeal Cert.CombineIdeal.Gen
open Idealize.ShloMosaic Idealize.ShloMosaic.TcCoe Idealize.ShloMosaic.Tactic
open Idealize.SL Idealize.SL.RA
open scoped BigOperators

section Buffer

variable (c : Dev nD) (i : grid0.Coords) (arg2 : Memref sig .tc .smem S1024 .i32) (harg2 : arg2.IsWhole) (arg3 : Memref sig .tc .smem S64 .i32) (harg3 : arg3.IsWhole) (arg4 : Memref sig .tc .vmem S1x512x16 .i32) (harg4 : arg4.IsWhole) (arg5 : Memref sig .tc .vmem S1x512x16 .f32) (harg5 : arg5.IsWhole) (arg6 : Memref sig .tc .vmem S16x512x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .f32) (harg11 : arg11.IsWhole)
  (arg0 arg1 : BitVec 32) (v4 : Vec Ideal S1x512x16 .i32) (v6 : Vec Ideal S1x512x16 .f32) (v8 : IVec S512x128 32) (v12 : Elt Ideal .i32) (k0_hw1 : k0_chk1 v12)
  (q : PosShare TreeShare) (T : Vec Ideal S1024 .i32) (xs : Vec Ideal S16x512x1024 .bf16)

/-- The accumulator before window `n`. -/
theorem buf_apply (hT : Starts arg2 harg2 T) (g : Buf (Elt Ideal) (arg11.view.loc (c : Thread nD τ))) (r : Fin 512) (d : Fin 1024)
    (B : ℕ) (hB : B = 128 * (i 0).val + 16 * (i 1).val) (h4 : (k0_t1_loop v12).trips ≤ 4) (n : ℕ) (hn : n ≤ (k0_t1_loop v12).trips) :
    arg11.view.read (Elt Ideal) (bufAt c i arg2 harg2 arg3 harg3 arg4 harg4 arg5 harg5 arg6 harg6 arg7 harg7 arg8 harg8 arg9 harg9 arg10 harg10 arg11 harg11 arg0 arg1 v4 v6 v8 v12 k0_hw1 q T xs hT g n) (ix2 r d)
      = arg11.view.read (Elt Ideal) g (ix2 r d)
        + ∑ k ∈ Finset.range n, ∑ e : Fin 16, hitSum (v4 (ix3 0 r e)) (v6 (ix3 0 r e)) (fun n => rowAt xs e.val n d.val) (fun x => v8 (ix2 r x)) k
            (wordAt T (B + e.val)) := by
  induction n with
  | zero => rw [Finset.range_zero, Finset.sum_empty, add_zero]; rfl
  | succ n ih =>
    rw [Finset.sum_range_succ, ← add_assoc, ← ih (by omega), bufAt, dif_pos ⟨hn, h4⟩, View.read_writes_full]
    exact trip_apply c i arg2 harg2 arg3 harg3 arg4 harg4 arg5 harg5 arg6 harg6 arg7 harg7 arg8 harg8 arg9 harg9 arg10 harg10 arg11 harg11 arg0 arg1 v4 v6 v8 v12 k0_hw1 q T xs hT ⟨n, hn⟩ _ _ r d B hB

end Buffer

/-- A row normalised by its root mean square and scaled. -/
def normed (u : Fin 1024 → EReal) (scale : EReal) (d : Fin 1024) : EReal :=
  u d * Ideal.rsqrt (Ideal.div (∑ x, u x * u x) (Ideal.ofBits .f32 1149239296#32) + Ideal.ofBits .f32 897988541#32) * scale

/-- The windows' parts of the sixteen experts, summed. -/
def accAt (T : Vec Ideal S1024 .i32) (x4 : Vec Ideal S1x512x16 .i32) (x5 : Vec Ideal S1x512x16 .f32) (x6 : Vec Ideal S16x512x1024 .bf16)
    (B n : ℕ) (r : Fin 512) (d : Fin 1024) : EReal :=
  ∑ k ∈ Finset.range n, ∑ e : Fin 16, hitSum (x4 (ix3 0 r e)) (x5 (ix3 0 r e)) (fun n => rowAt x6 e.val n d.val) (fun x => BitVec.ofNat 32 x.val) k
    (wordAt T (B + e.val))

/-- Word `n` of the table of window counts, zero past its end. -/
def countAt (T : Vec Ideal S64 .i32) (n : ℕ) : BitVec 32 := if h : n < 64 then T (ix1 ⟨n, h⟩) else 0

theorem count_read (arg3 : Memref sig .tc .smem S64 .i32) (harg3 : arg3.IsWhole) (T : Vec Ideal S64 .i32) (off : Fin 1 → ℕ)
    (h : ∀ a, off a + S1.size a ≤ S64.size a) (j : (Rect.unit (s := S64) off S1.size h).toLoadRect.shape.Idx) :
    arg3.view.readAt (Elt Ideal) (Rect.unit (s := S64) off S1.size h).toLoadRect (harg3.unread T) j = countAt T (off 0) := by
  have h0 : off 0 + 1 ≤ 64 := h 0
  rw [View.readAt_apply, harg3.read_unread, countAt, dif_pos (by omega)]
  refine congrArg T (funext fun a => Fin.ext ?_)
  match a with
  | ⟨0, _⟩ =>
    have hj : (j 0).val < 1 := (j 0).isLt
    show off 0 + 1 * (j 0).val = off 0
    omega

section Body

variable (c : Dev nD) (i : grid0.Coords) (arg2 : Memref sig .tc .smem S1024 .i32) (harg2 : arg2.IsWhole) (arg3 : Memref sig .tc .smem S64 .i32) (harg3 : arg3.IsWhole) (arg4 : Memref sig .tc .vmem S1x512x16 .i32) (harg4 : arg4.IsWhole) (arg5 : Memref sig .tc .vmem S1x512x16 .f32) (harg5 : arg5.IsWhole) (arg6 : Memref sig .tc .vmem S16x512x1024 .bf16) (harg6 : arg6.IsWhole) (arg7 : Memref sig .tc .vmem S1x512x1024 .f32) (harg7 : arg7.IsWhole) (arg8 : Memref sig .tc .vmem S1x1x1024 .f32) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S512x1024 .f32) (harg11 : arg11.IsWhole) (q q' : PosShare TreeShare)
  (T : Vec Ideal S1024 .i32) (T' : Vec Ideal S64 .i32) (x4 : Vec Ideal S1x512x16 .i32) (x5 : Vec Ideal S1x512x16 .f32) (x6 : Vec Ideal S16x512x1024 .bf16)
  (x7 : Vec Ideal S1x512x1024 .f32) (x8 : Vec Ideal S1x1x1024 .f32) (x9 : Vec Ideal S1x1024 .f32)

theorem zero_apply (y : S512x1024.Idx) : (k0_pay56 (F := Ideal)) y = 0 := by pointwise [k0_pay56]

theorem column_number (r : Fin 512) (x : Fin 128) : bodyRun.sl.v8 (ix2 r x) = BitVec.ofNat 32 x.val := by
  pointwise [bodyRun.sl.v8]

/-- The accumulator the block's value reads. -/
theorem accumulated (hT : Starts arg2 harg2 T) (hT' : Counts arg3 harg3 T') (r : Fin 512) (d : Fin 1024) (B n : ℕ)
    (hB : B = 128 * (i 0).val + 16 * (i 1).val) (hn : n = (countAt T' (8 * (i 0).val + (i 1).val)).toInt.toNat) :
    bodyRun.sl.v22 c i arg2 harg2 arg3 harg3 arg4 harg4 arg5 harg5 arg6 harg6 arg7 harg7 arg8 harg8 arg9 harg9 arg10 harg10 arg11 harg11 q T T' x4 x5 x6 hT (ix2 r d) = accAt T x4 x5 x6 B n r d := by
  have h4 := hT' (Rect.unit (s := S64) (k0_off1 i) S1.size (k0_off1_inb i)).toLoadRect (Shape.Idx.first (numel1_S1.symm ▸ Nat.one_pos))
  have hr : bodyRun.sl.r c i arg3 harg3 T' = countAt T' (8 * (i 0).val + (i 1).val) := by
    unfold bodyRun.sl.r
    refine (count_read arg3 harg3 T' _ _ _).trans ?_
    rw [k0_off1_eq]; rfl
  have ht : (k0_t1_loop (bodyRun.sl.r c i arg3 harg3 T')).trips = n := by
    rw [hn, ← hr]; exact Cert.CombineWords.trips_eq _
  unfold bodyRun.sl.v22
  rw [View.readAt_full]
  refine (buf_apply _ _ _ _ _ _ _ _ _ _ _ _ _ _ _ _ _ _ _ _ _ _ _ _ _ _ _ _ _ _ _ _ hT _ r d B hB h4 _ le_rfl).trans ?_
  refine (congrArg₂ (· + ·) (?_ : _ = (0 : EReal)) ?_).trans (zero_add _)
  · have hz := congrFun (View.read_writes_full (Val := Elt Ideal) arg11.view (arg11.view.junk (Val := Elt Ideal)) inb_S512x1024_S512x1024_0_0 (k0_pay56 (F := Ideal)) []) (ix2 r d)
    exact hz.trans (zero_apply _)
  · unfold accAt
    rw [← ht]
    refine Finset.sum_congr rfl fun k _ => Finset.sum_congr rfl fun e _ => ?_
    rw [View.readAt_full, View.readAt_full, harg4.read_unread, harg5.read_unread]
    exact congrArg (fun z => hitSum _ _ _ z k _) (funext fun x => column_number r x)

/-- The block's entry at row `r` and column `d`. -/
theorem body_apply (hT : Starts arg2 harg2 T) (hT' : Counts arg3 harg3 T') (r : Fin 512) (d : Fin 1024) (B n : ℕ)
    (hB : B = 128 * (i 0).val + 16 * (i 1).val) (hn : n = (countAt T' (8 * (i 0).val + (i 1).val)).toInt.toNat) :
    (bodyRun c i arg2 harg2 arg3 harg3 arg4 harg4 arg5 harg5 arg6 harg6 arg7 harg7 arg8 harg8 arg9 harg9 arg10 harg10 arg11 harg11 q q' T T' x4 x5 x6 x7 x8 x9 hT hT').1 (ix3 0 r d)
      = normed (fun q => x7 (ix3 0 r q) + x8 (ix3 0 0 q) * accAt T x4 x5 x6 B n r q) (x9 (ix2 0 d)) d := by
  have ha : ∀ d', bodyRun.sl.v22 c i arg2 harg2 arg3 harg3 arg4 harg4 arg5 harg5 arg6 harg6 arg7 harg7 arg8 harg8 arg9 harg9 arg10 harg10 arg11 harg11 q T T' x4 x5 x6 hT (ix2 r d') = accAt T x4 x5 x6 B n r d' := fun d' =>
    accumulated c i arg2 harg2 arg3 harg3 arg4 harg4 arg5 harg5 arg6 harg6 arg7 harg7 arg8 harg8 arg9 harg9 arg10 harg10 arg11 harg11 q T T' x4 x5 x6 hT hT' r d' B n hB hn
  unfold bodyRun; dsimp only
  pointwise [k0_pay1, k0_pay61, k0_pay62, k0_pay63, bodyRun.sl.r_1, bodyRun.sl.r_2, bodyRun.sl.r_3]
  simp only [ha]
  rw [View.readAt_full, View.readAt_full, View.readAt_full, harg7.read_unread, harg8.read_unread, harg9.read_unread]
  rfl

end Body

end Cert.CombineIdeal.Hand

end

end
-- ==== Proof.CombineArray.lean ====
/-
  The combine kernel's result array, at an index. The grid has one point for each batch row and each chunk of 512 tokens; a point reads
  its blocks of the arguments (`blk0` … `blk5`), the start words and the window count of its pair of tables (`wordAt_starts`,
  `count_covers`), and writes the block (`outsAt_apply`); the blocks tile the array (`array_apply`).
-/
module

public import proofs.«01_k».proof.Proof.CombineBlock
public import proofs.«01_k».proof.Proof.CombineSum
public import proofs.«01_k».proof.Proof.CombineIdealHost
public import proofs.«01_k».proof.Proof.CombinePre
public import Idealize.ShloMosaic.Lib.Pipeline.ValueKit
public import Idealize.ShloMosaic.Lib.SortNet.Extract

@[expose] public section

set_option maxRecDepth 16384

noncomputable section

namespace Cert.CombineIdeal.Hand

open Cert.CombineIdeal Cert.CombineIdeal.Gen Cert.CombineWords
open Idealize.ShloMosaic Idealize.ShloMosaic.TcCoe Idealize.ShloMosaic.Tactic Idealize.ShloMosaic.Pipeline Idealize.ShloMosaic.StableHlo
open scoped BigOperators

variable (m : (ℓ : Loc nD τ sig) → Buf (Elt Ideal) ℓ)

/-! ## Where the windows' blocks lie -/

/-- The result's blocks cover its array: no index map reads the tables, so one memory decides it for all. -/
theorem covers : ((cfgM m).win 6).Covers :=
  (by decide +kernel : ((cfgM (fun _ _ => Classical.ofNonempty : (ℓ : Loc nD τ sig) → Buf (Elt Ideal) ℓ)).win 6).Covers)

theorem idx0 (t : Fin (cfgM m).N) : cc0_transform_0 (grid0.coords t) 0 = t.val / 8 ∧ cc0_transform_0 (grid0.coords t) 1 = t.val % 8 ∧ cc0_transform_0 (grid0.coords t) 2 = 0 :=
  (by decide +kernel : ∀ t : Fin grid0.N, cc0_transform_0 (grid0.coords t) 0 = t.val / 8 ∧ cc0_transform_0 (grid0.coords t) 1 = t.val % 8 ∧ cc0_transform_0 (grid0.coords t) 2 = 0) t
theorem idx1 (t : Fin (cfgM m).N) : cc0_transform_1 (grid0.coords t) 0 = t.val / 8 ∧ cc0_transform_1 (grid0.coords t) 1 = t.val % 8 ∧ cc0_transform_1 (grid0.coords t) 2 = 0 :=
  (by decide +kernel : ∀ t : Fin grid0.N, cc0_transform_1 (grid0.coords t) 0 = t.val / 8 ∧ cc0_transform_1 (grid0.coords t) 1 = t.val % 8 ∧ cc0_transform_1 (grid0.coords t) 2 = 0) t
theorem idx2 (t : Fin (cfgM m).N) : cc0_transform_2 (grid0.coords t) 0 = 0 ∧ cc0_transform_2 (grid0.coords t) 1 = t.val / 8 ∧ cc0_transform_2 (grid0.coords t) 2 = 0 :=
  (by decide +kernel : ∀ t : Fin grid0.N, cc0_transform_2 (grid0.coords t) 0 = 0 ∧ cc0_transform_2 (grid0.coords t) 1 = t.val / 8 ∧ cc0_transform_2 (grid0.coords t) 2 = 0) t
theorem idx3 (t : Fin (cfgM m).N) : cc0_transform_3 (grid0.coords t) 0 = t.val / 8 ∧ cc0_transform_3 (grid0.coords t) 1 = t.val % 8 ∧ cc0_transform_3 (grid0.coords t) 2 = 0 :=
  (by decide +kernel : ∀ t : Fin grid0.N, cc0_transform_3 (grid0.coords t) 0 = t.val / 8 ∧ cc0_transform_3 (grid0.coords t) 1 = t.val % 8 ∧ cc0_transform_3 (grid0.coords t) 2 = 0) t
theorem idx4 (t : Fin (cfgM m).N) : cc0_transform_4 (grid0.coords t) 0 = t.val / 8 ∧ cc0_transform_4 (grid0.coords t) 1 = 0 ∧ cc0_transform_4 (grid0.coords t) 2 = 0 :=
  (by decide +kernel : ∀ t : Fin grid0.N, cc0_transform_4 (grid0.coords t) 0 = t.val / 8 ∧ cc0_transform_4 (grid0.coords t) 1 = 0 ∧ cc0_transform_4 (grid0.coords t) 2 = 0) t
theorem idx5 (t : Fin (cfgM m).N) : cc0_transform_5 (grid0.coords t) 0 = 0 ∧ cc0_transform_5 (grid0.coords t) 1 = 0 :=
  (by decide +kernel : ∀ t : Fin grid0.N, cc0_transform_5 (grid0.coords t) 0 = 0 ∧ cc0_transform_5 (grid0.coords t) 1 = 0) t
theorem idx6 (t : Fin (cfgM m).N) : cc0_transform_6 (grid0.coords t) 0 = t.val / 8 ∧ cc0_transform_6 (grid0.coords t) 1 = t.val % 8 ∧ cc0_transform_6 (grid0.coords t) 2 = 0 :=
  (by decide +kernel : ∀ t : Fin grid0.N, cc0_transform_6 (grid0.coords t) 0 = t.val / 8 ∧ cc0_transform_6 (grid0.coords t) 1 = t.val % 8 ∧ cc0_transform_6 (grid0.coords t) 2 = 0) t
theorem coords_eq (t : Fin (cfgM m).N) : (grid0.coords t 0).val = t.val / 8 ∧ (grid0.coords t 1).val = t.val % 8 :=
  (by decide +kernel : ∀ t : Fin grid0.N, (grid0.coords t 0).val = t.val / 8 ∧ (grid0.coords t 1).val = t.val % 8) t
theorem points_lt (t : Fin (cfgM m).N) : t.val < 64 := t.isLt.trans_eq (by decide : grid0.N = 64)

/-- The slots' block: one batch row's chunk of 512 tokens. -/
theorem blk0 (c : Dev nD) (t : Fin (cfgM m).N) (r : Fin 512) (e : Fin 16) (p : Fin 8) (R : Fin 4096)
    (hp : p.val = t.val / 8) (hR : R.val = (t.val % 8) * 512 + r.val) :
    iblk m c 0 t (ix3 0 r e) = m ((c : Thread nD τ).loc main_arg0) (ix3 p R e) := by
  obtain ⟨h0, h1, h2⟩ := idx0 m t
  blk_simp [iblk]
  refine (congrFun (V_main_arg0 m c) _).trans (congrArg (m ((c : Thread nD τ).loc main_arg0)) (funext fun a => Fin.ext ?_))
  match a with
  | ⟨0, _⟩ => show cc0_transform_0 (grid0.coords t) 0 * 1 + 1 * 0 = p.val; omega
  | ⟨1, _⟩ => show cc0_transform_0 (grid0.coords t) 1 * 512 + 1 * r.val = R.val; omega
  | ⟨2, _⟩ => show cc0_transform_0 (grid0.coords t) 2 * 16 + 1 * e.val = e.val; omega

/-- The gates' block: the same tokens. -/
theorem blk1 (c : Dev nD) (t : Fin (cfgM m).N) (r : Fin 512) (e : Fin 16) (p : Fin 8) (R : Fin 4096)
    (hp : p.val = t.val / 8) (hR : R.val = (t.val % 8) * 512 + r.val) :
    iblk m c 1 t (ix3 0 r e) = m ((c : Thread nD τ).loc main_arg1) (ix3 p R e) := by
  obtain ⟨h0, h1, h2⟩ := idx1 m t
  blk_simp [iblk]
  refine (congrFun (V_main_arg1 m c) _).trans (congrArg (m ((c : Thread nD τ).loc main_arg1)) (funext fun a => Fin.ext ?_))
  match a with
  | ⟨0, _⟩ => show cc0_transform_1 (grid0.coords t) 0 * 1 + 1 * 0 = p.val; omega
  | ⟨1, _⟩ => show cc0_transform_1 (grid0.coords t) 1 * 512 + 1 * r.val = R.val; omega
  | ⟨2, _⟩ => show cc0_transform_1 (grid0.coords t) 2 * 16 + 1 * e.val = e.val; omega

/-- The experts' rows of the batch row. -/
theorem blk2 (c : Dev nD) (t : Fin (cfgM m).N) (e : Fin 16) (s : Fin 512) (d : Fin 1024) (R : Fin 4096)
    (hR : R.val = (t.val / 8) * 512 + s.val) :
    iblk m c 2 t (ix3 e s d) = m ((c : Thread nD τ).loc main_arg3) (ix3 e R d) := by
  obtain ⟨h0, h1, h2⟩ := idx2 m t
  blk_simp [iblk]
  refine (congrFun (V_main_arg3 m c) _).trans (congrArg (m ((c : Thread nD τ).loc main_arg3)) (funext fun a => Fin.ext ?_))
  match a with
  | ⟨0, _⟩ => show cc0_transform_2 (grid0.coords t) 0 * 16 + 1 * e.val = e.val; omega
  | ⟨1, _⟩ => show cc0_transform_2 (grid0.coords t) 1 * 512 + 1 * s.val = R.val; omega
  | ⟨2, _⟩ => show cc0_transform_2 (grid0.coords t) 2 * 1024 + 1 * d.val = d.val; omega

/-- The residual's block: the same tokens. -/
theorem blk3 (c : Dev nD) (t : Fin (cfgM m).N) (r : Fin 512) (d : Fin 1024) (p : Fin 8) (R : Fin 4096)
    (hp : p.val = t.val / 8) (hR : R.val = (t.val % 8) * 512 + r.val) :
    iblk m c 3 t (ix3 0 r d) = m ((c : Thread nD τ).loc main_arg4) (ix3 p R d) := by
  obtain ⟨h0, h1, h2⟩ := idx3 m t
  blk_simp [iblk]
  refine (congrFun (V_main_arg4 m c) _).trans (congrArg (m ((c : Thread nD τ).loc main_arg4)) (funext fun a => Fin.ext ?_))
  match a with
  | ⟨0, _⟩ => show cc0_transform_3 (grid0.coords t) 0 * 1 + 1 * 0 = p.val; omega
  | ⟨1, _⟩ => show cc0_transform_3 (grid0.coords t) 1 * 512 + 1 * r.val = R.val; omega
  | ⟨2, _⟩ => show cc0_transform_3 (grid0.coords t) 2 * 1024 + 1 * d.val = d.val; omega

/-- The scale of the batch row. -/
theorem blk4 (c : Dev nD) (t : Fin (cfgM m).N) (d : Fin 1024) (p : Fin 8) (hp : p.val = t.val / 8) :
    iblk m c 4 t (ix3 0 0 d) = m ((c : Thread nD τ).loc main_arg5) (ix3 p 0 d) := by
  obtain ⟨h0, h1, h2⟩ := idx4 m t
  blk_simp [iblk]
  refine (congrFun (V_main_arg5 m c) _).trans (congrArg (m ((c : Thread nD τ).loc main_arg5)) (funext fun a => Fin.ext ?_))
  match a with
  | ⟨0, _⟩ => show cc0_transform_4 (grid0.coords t) 0 * 1 + 1 * 0 = p.val; omega
  | ⟨1, _⟩ => show cc0_transform_4 (grid0.coords t) 1 * 1 + 1 * 0 = 0; omega
  | ⟨2, _⟩ => show cc0_transform_4 (grid0.coords t) 2 * 1024 + 1 * d.val = d.val; omega

/-- The final scale as the region finds it: the argument, as one row. -/
theorem V_scale (c : Dev nD) : V m c main_v18 = shapeCast S1x1024 (m ((c : Thread nD τ).loc main_arg6)) shapeCasts_S1024_S1x1024 := by
  unfold V
  simp only [stretches, List.flatten_cons, List.flatten_nil, List.append_nil, List.cons_append, List.nil_append, hostOps0, hostOps0_1, hostOps0_2, hostOps0_3,
    hostOps0_4, TRef.binary, TRef.nullary, TRef.unary, TRef.ternary, TRef.toBuf, TRef.ofBuf, cast_eq]
  after_results_simp <;> rfl

/-- The final scale's block. -/
theorem blk5 (c : Dev nD) (t : Fin (cfgM m).N) (d : Fin 1024) : iblk m c 5 t (ix2 0 d) = m ((c : Thread nD τ).loc main_arg6) (ix1 d) := by
  obtain ⟨h0, h1⟩ := idx5 m t
  have e : ∀ x : FVec Ideal S1024 .f32, shapeCast S1x1024 x shapeCasts_S1024_S1x1024 (ix2 0 d) = x (ix1 d) := fun x => by
    pointwise
  blk_simp [iblk]
  refine (congrFun (V_scale m c) _).trans ((congrArg (shapeCast S1x1024 (m ((c : Thread nD τ).loc main_arg6)) shapeCasts_S1024_S1x1024)
    (?_ : _ = ix2 0 d)).trans (e _))
  refine funext fun a => Fin.ext ?_
  match a with
  | ⟨0, _⟩ => show cc0_transform_5 (grid0.coords t) 0 * 1 + 1 * 0 = 0; omega
  | ⟨1, _⟩ => show cc0_transform_5 (grid0.coords t) 1 * 1024 + 1 * d.val = d.val; omega

/-! ## The tables' words -/

/-- The start word of expert `e` at a pair of a batch row and a chunk. -/
theorem wordAt_starts (p t : Fin 8) (e : Fin 16) :
    wordAt (startTbl m) (128 * p.val + 16 * t.val + e.val) = startOf (loArr (m (((0 : Dev nD) : Thread nD τ).loc main_arg2)) (ix3 p e t)) := by
  have e1 : startTbl m = _ := V_starts m 0
  have e2 : ∀ x : IVec S8x16x8 32, shapeCast S1024 (transpose S8x8x16 [0, 2, 1] x transposes_S8x16x8_S8x8x16_0_2_1) shapeCasts_S8x8x16_S1024
      (ix1 ⟨128 * p.val + 16 * t.val + e.val, by omega⟩) = x (ix3 p e t) := fun x => by
    pointwise
  rw [wordAt, dif_pos (by omega), e1, e2]
  rfl

/-- Every expert's number of windows is at most the pair's count. -/
theorem count_covers (p t : Fin 8) (e : Fin 16) :
    (windowArr (m (((0 : Dev nD) : Thread nD τ).loc main_arg2)) (ix3 p e t)).toInt ≤ (countAt (countTbl m) (8 * p.val + t.val)).toInt := by
  have e1 : countTbl m = _ := V_counts m 0
  have e2 : ∀ x : IVec S8x8 32, shapeCast S64 x shapeCasts_S8x8_S64 (ix1 ⟨8 * p.val + t.val, by omega⟩) = x (ix2 p t) := fun x => by
    pointwise
  rw [countAt, dif_pos (by omega), e1, e2, Host.reduce_eq_fold]
  refine (SortNet.fold_maxsi_spec _ _ _).2.1 _ (Finset.mem_filter.mpr ⟨Finset.mem_univ _, ?_⟩)
  refine funext fun a => Fin.ext ?_
  match a with
  | ⟨0, _⟩ => rfl
  | ⟨1, _⟩ => rfl

/-! ## The block's entry, collapsed -/

/-- The experts' rows an entry gathers: for each expert whose slot lies in the chunk, the gate times the row at that slot. -/
def gathered (P : S8x4096x16.Idx → BitVec 32) (G : S8x4096x16.Idx → EReal) (Y : S16x4096x1024.Idx → EReal) (p : Fin 8) (R : Fin 4096) (d : Fin 1024) : EReal :=
  ∑ e : Fin 16, if h : (P (ix3 p R e)).toNat < 512 then G (ix3 p R e) * Y (ix3 e ⟨p.val * 512 + (P (ix3 p R e)).toNat, by omega⟩ d) else 0

/-- The result's entry: the residual with the gathered rows added, scaled to unit mean square and by the final scale. -/
def combined (P : S8x4096x16.Idx → BitVec 32) (G : S8x4096x16.Idx → EReal) (Y : S16x4096x1024.Idx → EReal) (X : S8x4096x1024.Idx → EReal)
    (S : S8x1x1024.Idx → EReal) (W : S1024.Idx → EReal) (p : Fin 8) (R : Fin 4096) (d : Fin 1024) : EReal :=
  normed (fun q => X (ix3 p R q) + S (ix3 p 0 q) * gathered P G Y p R q) (W (ix1 d)) d

/-- The windows' parts of a point, summed: each slot met once. -/
theorem accAt_eq (c : Dev nD) (h : WordsOK m) (hb : Strided (m ((c : Thread nD τ).loc main_arg2)))
    (hs : ∀ p t r e, SlotIn (m ((c : Thread nD τ).loc main_arg0)) (m ((c : Thread nD τ).loc main_arg2)) p t r e)
    (t : Fin (cfgM m).N) (p ch : Fin 8) (hp : p.val = t.val / 8) (hc : ch.val = t.val % 8) (r : Fin 512) (d : Fin 1024) (R : Fin 4096)
    (hR : R.val = ch.val * 512 + r.val) :
    accAt (startTbl m) (iblk m c 0 t) (iblk m c 1 t) (iblk m c 2 t) (128 * p.val + 16 * ch.val) (countAt (countTbl m) (8 * p.val + ch.val)).toInt.toNat r d
      = gathered (m ((c : Thread nD τ).loc main_arg0)) (m ((c : Thread nD τ).loc main_arg1)) (m ((c : Thread nD τ).loc main_arg3)) p R d := by
  obtain rfl : c = 0 := Subsingleton.elim _ _
  have hn : (countAt (countTbl m) (8 * p.val + ch.val)).toInt.toNat ≤ 4 := by
    have := h.counts (ix1 ⟨8 * p.val + ch.val, by omega⟩)
    rw [countAt, dif_pos (by omega)]
    exact le_of_eq_of_le (trips_eq _).symm this
  unfold accAt gathered
  rw [Finset.sum_comm]
  refine Finset.sum_congr rfl fun e _ => ?_
  have hR' : R.val = (t.val % 8) * 512 + r.val := by omega
  have hRe : (⟨ch.val * 512 + r.val, by omega⟩ : Fin 4096) = R := Fin.ext hR.symm
  have hw : StartWord (wordAt (startTbl m) (128 * p.val + 16 * ch.val + e.val)) := by
    rw [wordAt, dif_pos (by omega)]
    exact h.starts _
  have hlo := hb (ix3 p e ch)
  have hhi := hi_le _ hb (ix3 p e ch)
  have hcov := count_covers m p ch e
  have hreach := le_windowsOf _ _ hlo hhi
  have hst := startOf_toNat _ hlo
  have hslot := hs p ch r e
  unfold SlotIn at hslot
  rw [hRe] at hslot
  have hcov' : (windowsOf (loArr (m (((0 : Dev nD) : Thread nD τ).loc main_arg2)) (ix3 p e ch)) (hiArr (m (((0 : Dev nD) : Thread nD τ).loc main_arg2)) (ix3 p e ch))).toInt
      ≤ (countAt (countTbl m) (8 * p.val + ch.val)).toInt := hcov
  have key : ∀ (x : BitVec 32) (g : EReal) (row : ℕ → EReal), x = m (((0 : Dev nD) : Thread nD τ).loc main_arg0) (ix3 p R e) →
      g = m (((0 : Dev nD) : Thread nD τ).loc main_arg1) (ix3 p R e) →
      (∀ (n : ℕ) (hn : n < 512), row n = m (((0 : Dev nD) : Thread nD τ).loc main_arg3) (ix3 e ⟨p.val * 512 + n, by omega⟩ d)) →
      ∑ k ∈ Finset.range (countAt (countTbl m) (8 * p.val + ch.val)).toInt.toNat,
          hitSum x g row (fun x => BitVec.ofNat 32 x.val) k (wordAt (startTbl m) (128 * p.val + 16 * ch.val + e.val))
        = if h : (m (((0 : Dev nD) : Thread nD τ).loc main_arg0) (ix3 p R e) : BitVec 32).toNat < 512 then
            @HMul.hMul EReal EReal EReal _ (m (((0 : Dev nD) : Thread nD τ).loc main_arg1) (ix3 p R e))
              (m (((0 : Dev nD) : Thread nD τ).loc main_arg3) (ix3 e ⟨p.val * 512 + (m (((0 : Dev nD) : Thread nD τ).loc main_arg0) (ix3 p R e) : BitVec 32).toNat, by omega⟩ d))
          else 0 := by
    intro x g row hx hg hrow
    rw [windows_sum x g row _ hn _ hw ?_]
    · subst hx hg
      split_ifs with hlt
      · rw [hrow _ hlt]
      · rfl
    · rw [hx, wordAt_starts m p ch e, hst]
      rw [hst] at hreach
      rcases hslot with hneg | ⟨h1, h2⟩
      · exact Or.inl hneg
      · right; omega
  refine key _ _ _ (blk0 m 0 t r e p R hp hR') (blk1 m 0 t r e p R hp hR') fun n hlt => ?_
  refine (dif_pos (⟨e.isLt, hlt, d.isLt⟩ : e.val < 16 ∧ n < 512 ∧ d.val < 1024)).trans ?_
  exact blk2 m 0 t e ⟨n, hlt⟩ d _ (by show p.val * 512 + n = t.val / 8 * 512 + n; omega)

/-- The written block's entry. -/
theorem outsAt_apply (c : Dev nD) (h : WordsOK m) (hb : Strided (m ((c : Thread nD τ).loc main_arg2)))
    (hs : ∀ p t r e, SlotIn (m ((c : Thread nD τ).loc main_arg0)) (m ((c : Thread nD τ).loc main_arg2)) p t r e)
    (t : Fin (cfgM m).N) (p ch : Fin 8) (hp : p.val = t.val / 8) (hc : ch.val = t.val % 8) (r : Fin 512) (d : Fin 1024) (R : Fin 4096)
    (hR : R.val = ch.val * 512 + r.val) :
    outsAt m h c t (ix3 0 r d)
      = combined (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) p R d := by
  obtain ⟨hi0, hi1⟩ := coords_eq m t
  have hR' : R.val = (t.val % 8) * 512 + r.val := by omega
  refine (body_apply _ _ _ _ _ _ _ _ _ _ _ _ _ _ _ _ _ _ _ _ _ _ _ _ _ _ _ _ _ _ _ _ _ _ r d (128 * p.val + 16 * ch.val)
    (countAt (countTbl m) (8 * p.val + ch.val)).toInt.toNat (by rw [hi0, hi1, ← hp, ← hc]) (by rw [hi0, hi1, ← hp, ← hc])).trans ?_
  exact congrArg₂ (fun u w => normed u w d) (funext fun q => congrArg₂ (· + ·) (blk3 m c t r q p R hp hR')
    (congrArg₂ (· * ·) (blk4 m c t q p hp) (accAt_eq m c h hb hs t p ch hp hc r q R hR))) (blk5 m c t d)

/-- The result array after the region. -/
theorem array_apply (c : Dev nD) (h : WordsOK m) (hb : Strided (m ((c : Thread nD τ).loc main_arg2)))
    (hs : ∀ p t r e, SlotIn (m ((c : Thread nD τ).loc main_arg0)) (m ((c : Thread nD τ).loc main_arg2)) p t r e) :
    (dats m h 0 c).arrAt 6 (cfgM m).N
      = fun y : S8x4096x1024.Idx => combined (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (y 0) (y 1) (y 2) := by
  refine (dats m h 0 c).arrAt_eq_of_covers 6 _ (covers m) fun t hf y => ?_
  blk_simp
  rw [after6]
  have ht := points_lt m t
  obtain ⟨h0, h1, h2⟩ := idx6 m t
  obtain ⟨z, r, d, rfl⟩ : ∃ (z : Fin 1) (r : Fin 512) (d : Fin 1024), y = (ix3 z r d : S1x512x1024.Idx) := ⟨y (0 : Fin 3), y (1 : Fin 3), y (2 : Fin 3), by
    funext a; match a with | ⟨0, _⟩ => rfl | ⟨1, _⟩ => rfl | ⟨2, _⟩ => rfl⟩
  obtain rfl : z = 0 := Subsingleton.elim _ _
  refine (outsAt_apply m c h hb hs t ⟨t.val / 8, by omega⟩ ⟨t.val % 8, by omega⟩ rfl rfl r d ⟨t.val % 8 * 512 + r.val, by omega⟩ rfl).trans ?_
  have e0 : (⟨t.val / 8, by omega⟩ : Fin 8) = (((cfgM m).win 6).blk t).view.emb (ix3 0 r d : S1x512x1024.Idx) (0 : Fin 3) := Fin.ext (by
    show t.val / 8 = cc0_transform_6 (grid0.coords t) 0 * 1 + 1 * 0; omega)
  have e1 : (⟨t.val % 8 * 512 + r.val, by omega⟩ : Fin 4096) = (((cfgM m).win 6).blk t).view.emb (ix3 0 r d : S1x512x1024.Idx) (1 : Fin 3) := Fin.ext (by
    show t.val % 8 * 512 + r.val = cc0_transform_6 (grid0.coords t) 1 * 512 + 1 * r.val; omega)
  have e2 : d = (((cfgM m).win 6).blk t).view.emb (ix3 0 r d : S1x512x1024.Idx) (2 : Fin 3) := Fin.ext (by
    show d.val = cc0_transform_6 (grid0.coords t) 2 * 1024 + 1 * d.val; omega)
  exact congr (congrArg₂ (combined _ _ _ _ _ _) e0 e1) e2

/-- The run, with its result: the combined array, and the arguments as they were. -/
theorem run_value (ρ : Dev nD → PrngReg) (hb : ∀ c : Dev nD, Strided (m ((c : Thread nD τ).loc main_arg2)))
    (hs : ∀ (c : Dev nD) p t r e, SlotIn (m ((c : Thread nD τ).loc main_arg0)) (m ((c : Thread nD τ).loc main_arg2)) p t r e) :
    θ_run defs (onTc (τ := τ) (main (F := Ideal))) ⟨m, fun _ => 0, ρ⟩ (fun r => ∀ c : Dev nD,
      r.2.mem ((c : Thread nD τ).loc main_v19)
        = (fun y : S8x4096x1024.Idx => combined (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (y 0) (y 1) (y 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  have h := wordsOK m hb
  exact (θ_run defs _ _).mono (fun _ hr c => ⟨((hr.1 c).1 6).trans (array_apply m c h (hb c) (hs c)),
      ((hr.1 c).1 0).trans (((dats m h 0 c).arrAt_in 0 rfl _).trans ((A_eq m h c 0).trans (V_main_arg0 m c))),
      ((hr.1 c).1 1).trans (((dats m h 0 c).arrAt_in 1 rfl _).trans ((A_eq m h c 1).trans (V_main_arg1 m c))),
      ((hr.1 c).2 main_arg2 (Pipeline.mem_restRefs_of main_arg2 (by decide) (by exact (by decide : ∀ w, Pipeline.arrRef spec0 w ≠ main_arg2)))).trans (V_main_arg2 m c),
      ((hr.1 c).1 2).trans (((dats m h 0 c).arrAt_in 2 rfl _).trans ((A_eq m h c 2).trans (V_main_arg3 m c))),
      ((hr.1 c).1 3).trans (((dats m h 0 c).arrAt_in 3 rfl _).trans ((A_eq m h c 3).trans (V_main_arg4 m c))),
      ((hr.1 c).1 4).trans (((dats m h 0 c).arrAt_in 4 rfl _).trans ((A_eq m h c 4).trans (V_main_arg5 m c))),
      ((hr.1 c).2 main_arg6 (Pipeline.mem_restRefs_of main_arg6 (by decide) (by exact (by decide : ∀ w, Pipeline.arrRef spec0 w ≠ main_arg6)))).trans (V_main_arg6 m c)⟩)
    (run_main m ρ h)

end Cert.CombineIdeal.Hand

end
-- ==== Proof.CombineRef.lean ====
/-
  The combine's reference at an index: the one-hot product over the experts and the 512 slots leaves, for each expert, the row at the
  token's slot, which is what the kernel's windows gather.
-/
module

public import proofs.«01_k».proof.Proof.CombineArray
public import proofs.«01_k».proof.Proof.Gen.CombineRefIdeal.Run

@[expose] public section

set_option maxRecDepth 16384

noncomputable section

namespace Cert.CombineRefIdeal.Hand

open Idealize.ShloMosaic Idealize.ShloMosaic.TcCoe Idealize.ShloMosaic.Tactic
open Cert.CombineRefIdeal Cert.CombineRefIdeal.Gen Cert.CombineIdeal.Hand
open scoped BigOperators

variable (P : IVec S8x4096x16 32) (G : FVec Ideal S8x4096x16 .f32) (Y : FVec Ideal S16x4096x1024 .bf16) (X : FVec Ideal S8x4096x1024 .f32)
  (S : FVec Ideal S8x1x1024 .f32) (W : FVec Ideal S1024 .f32)

/-- The reference's product of the one-hot slots with the experts' rows. -/
def dotted : FVec Ideal S8x4096x1024 .f32 :=
  Host.dotGeneral dot_S8x4096x16x512_S16x8x512x1024_S8x4096x1024_32_20_1_3_0_1 none (mulf (uitofp .f32 (cmpi .eq (broadcastInDim S8x4096x16x512 ![0, 1, 2, 3] bcast_S8x4096x16x1_S8x4096x16x512_0_1_2_3 (broadcastInDim S8x4096x16x1 ![0, 1, 2] bcast_S8x4096x16_S8x4096x16x1_0_1_2 P)) (broadcastInDim S8x4096x16x512 ![0, 1, 2, 3] bcast_S1x1x1x512_S8x4096x16x512_0_1_2_3 (iotaInDim S1x1x1x512 32 3)))) (broadcastInDim S8x4096x16x512 ![0, 1, 2, 3] bcast_S8x4096x16x1_S8x4096x16x512_0_1_2_3 (broadcastInDim S8x4096x16x1 ![0, 1, 2] bcast_S8x4096x16_S8x4096x16x1_0_1_2 G))) (extf .f32 (shapeCast S16x8x512x1024 Y shapeCasts_S16x4096x1024_S16x8x512x1024) bitsLt_bf16_f32)

/-- The residual with the product added. -/
def added : FVec Ideal S8x4096x1024 .f32 :=
  addf X (mulf (broadcastInDim S8x4096x1024 ![0, 1, 2] bcast_S8x1x1024_S8x4096x1024_0_1_2 S) (dotted P G Y))

/-- The comparison of two words, as a number. -/
theorem onehot_apply (a b : BitVec 32) : (FloatOps.uitofp FTy.f32 (IntOp.cmpi CmpIPredicate.eq a b) : Ideal .f32) = if a = b then (1 : EReal) else 0 := by
  have h : IntOp.cmpi CmpIPredicate.eq a b = BitVec.ofBool (a == b) := rfl
  rw [h]
  change (((BitVec.ofBool (a == b)).toNat : ℝ) : EReal) = _
  by_cases hab : a = b
  · simp [hab]
  · simp [hab]

/-- Summed over the slots, the one-hot row leaves the row at the slot. -/
theorem onehot_sum (a : BitVec 32) (g : EReal) (y : Fin 512 → EReal) :
    (∑ x : Fin 512, (FloatOps.uitofp FTy.f32 (IntOp.cmpi CmpIPredicate.eq a (BitVec.ofNat 32 x.val)) : Ideal .f32) * g * y x : EReal)
      = if h : a.toNat < 512 then g * y ⟨a.toNat, h⟩ else 0 := by
  have hx : ∀ x : Fin 512, a = BitVec.ofNat 32 x.val ↔ a.toNat = x.val := fun x => by
    constructor
    · intro h; rw [h]; simp only [BitVec.toNat_ofNat]; omega
    · intro h; apply BitVec.eq_of_toNat_eq; simp only [BitVec.toNat_ofNat]; omega
  simp only [onehot_apply, hx]
  split_ifs with h
  · refine (Finset.sum_eq_single (⟨a.toNat, h⟩ : Fin 512) (fun x _ hne => ?_) (fun hn => absurd (Finset.mem_univ _) hn)).trans ?_
    · rw [if_neg (fun e => hne (Fin.ext e.symm)), zero_mul, zero_mul]
    · rw [if_pos rfl, one_mul]
  · refine Finset.sum_eq_zero fun x _ => ?_
    rw [if_neg (by omega), zero_mul, zero_mul]

/-- The product at an index. -/
theorem dotted_apply (p : Fin 8) (R : Fin 4096) (d : Fin 1024) : dotted P G Y (ix3 p R d) = gathered P G Y p R d := by
  pointwise [dotted]
  unfold gathered
  rw [Finset.sum_comm]
  exact Finset.sum_congr rfl fun e _ => onehot_sum _ _ fun x => Y (ix3 e ⟨p.val * 512 + x.val, by omega⟩ d)

/-- The reference's term at an index. -/
theorem ref_apply (p : Fin 8) (R : Fin 4096) (d : Fin 1024) :
    (mulf (mulf (added P G Y X S) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (added P G Y X S) (added P G Y X S)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 W)) : FVec Ideal S8x4096x1024 .f32) (ix3 p R d) = combined P G Y X S W p R d := by
  have ha : ∀ q : Fin 1024, added P G Y X S (ix3 p R q) = X (ix3 p R q) + S (ix3 p 0 q) * gathered P G Y p R q := fun q => by
    rw [← dotted_apply]
    pointwise [added]
  pointwise
  unfold combined normed
  simp only [ha]

end Cert.CombineRefIdeal.Hand

end
-- ==== Proof.ProjectBlock.lean ====
/-
  One grid point of the input projection, as values: the block of rows normalised, modulated and multiplied by the weights
  (`product_apply`), the three-tap convolution along the grid rows of its first 1536 columns (`tok_apply`), and its last 512 columns
  with the rows re-ordered by the permutation matrix (`tm_apply`).
-/
module

public import proofs.«01_k».proof.Proof.Gen.ProjectIdeal.Value
public import Idealize.ShloMosaic.Lib.ValueIdx
public import Idealize.ShloMosaic.Lib.Pointwise
public import Idealize.ShloMosaic.Lib.Pipeline.ValueKit
public import Idealize.ShloMosaic.Lib.StableHlo.Run

@[expose] public section

set_option maxRecDepth 16384

noncomputable section

namespace Cert.ProjectIdeal.Hand

open Cert.ProjectIdeal Cert.ProjectIdeal.Gen
open Idealize.ShloMosaic Idealize.ShloMosaic.TcCoe Idealize.ShloMosaic.Tactic
open scoped BigOperators

/-- A row normalised by its root mean square, scaled, and modulated. -/
def modulated (u g shift scale : Fin 1024 → EReal) (d : Fin 1024) : EReal :=
  u d * Ideal.rsqrt (Ideal.div (∑ x, u x * u x) (Ideal.ofBits .f32 1149239296#32) + Ideal.ofBits .f32 897988541#32) * g d
    * (1 + scale d) + shift d

/-- The projection's entry: the modulated row `R` of batch row `p` times column `n` of the weights. -/
def projected (X : S8x4096x1024.Idx → EReal) (G : S1024.Idx → EReal) (Sh Sc : S8x1x1024.Idx → EReal) (W : S1024x2048.Idx → EReal)
    (p : Fin 8) (R : Fin 4096) (n : Fin 2048) : EReal :=
  ∑ d : Fin 1024, modulated (fun d => X (ix3 p R d)) (fun d => G (ix1 d)) (fun d => Sh (ix3 p 0 d)) (fun d => Sc (ix3 p 0 d)) d * W (ix2 d n)

variable (x0 : Vec Ideal S8x64x1024 .f32) (x1 : Vec Ideal S1x1024 .f32) (x2 x3 : Vec Ideal S8x1x1024 .f32) (x4 : Vec Ideal S1024x2048 .bf16)

/-- The product at row `r` of the block, which is token `r % 64` of batch row `r / 64`, and column `n`. -/
theorem product_apply (r : Fin 512) (n : Fin 2048) :
    k0_pay2 x0 x1 x3 x2 x4 (ix2 r n)
      = ∑ d : Fin 1024, modulated (fun d => x0 (ix3 ⟨r.val / 64, by omega⟩ ⟨r.val % 64, by omega⟩ d)) (fun d => x1 (ix2 0 d))
          (fun d => x2 (ix3 ⟨r.val / 64, by omega⟩ 0 d)) (fun d => x3 (ix3 ⟨r.val / 64, by omega⟩ 0 d)) d * x4 (ix2 d n) := by
  pointwise [k0_pay2]
  rfl

variable (z : FVec Ideal S512x2048 .f32) (P : Vec Ideal S512x512 .bf16)

/-- The last 512 columns, their rows re-ordered by the matrix `P`. -/
theorem tm_apply (r : Fin 512) (n : Fin 512) :
    k0_pay1 (k0_pay7 z) P (ix2 r n) = ∑ x : Fin 512, @HMul.hMul EReal EReal EReal _ (P (ix2 r x)) (z (ix2 x ⟨1536 + n.val, by omega⟩)) := by
  pointwise [k0_pay1, k0_pay7]

/-- The position of row `n` of the block within its grid row, as the kernel computes it: the floor remainder by 64. -/
def posWord (n : ℕ) : BitVec 32 :=
  Scalar.select
    (IntOp.andi
      (IntOp.xori
        (IntOp.cmpi .slt (IntOp.remsi ArithUnit.vector (BitVec.ofNat 32 n) (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi ArithUnit.vector (BitVec.ofNat 32 n) (Scalar.select (Scalar.cmpi .eq 64#32 0#32) 1#32 64#32)) 0#32))
    (IntOp.addi (IntOp.remsi ArithUnit.vector (BitVec.ofNat 32 n) (Scalar.select (Scalar.cmpi .eq 64#32 0#32) 1#32 64#32))
      (Scalar.select (Scalar.cmpi .eq 64#32 0#32) 1#32 64#32))
    (IntOp.remsi ArithUnit.vector (BitVec.ofNat 32 n) (Scalar.select (Scalar.cmpi .eq 64#32 0#32) 1#32 64#32))

theorem first_iff : ∀ (p : Fin 8) (t : Fin 64), IntOp.cmpi .eq (posWord (p.val * 64 + t.val)) 0#32 = 1 ↔ t.val = 0 := by decide +kernel
theorem last_iff : ∀ (p : Fin 8) (t : Fin 64), IntOp.cmpi .eq (posWord (p.val * 64 + t.val)) 63#32 = 1 ↔ t.val = 63 := by decide +kernel

/-- Three taps along a grid row of 64: nothing comes from before its first entry or from after its last. -/
def taps (Z : ℕ → EReal) (w0 w1 w2 b : EReal) (t : ℕ) (n : ℕ) : EReal :=
  (if t = 0 then 0 else Z (n - 1) * w0) + Z n * w1 + (if t = 63 then 0 else Z (n + 1) * w2) + b

/-- Row `n` of a column of the projection, zero past its end. -/
def projectedAt (X : S8x4096x1024.Idx → EReal) (G : S1024.Idx → EReal) (Sh Sc : S8x1x1024.Idx → EReal) (W : S1024x2048.Idx → EReal)
    (p : Fin 8) (q : Fin 2048) (n : ℕ) : EReal := if h : n < 4096 then projected X G Sh Sc W p ⟨n, h⟩ q else 0

/-- The convolved entry at row `R` of batch row `p` and column `q`. -/
def convolved (X : S8x4096x1024.Idx → EReal) (G : S1024.Idx → EReal) (Sh Sc : S8x1x1024.Idx → EReal) (W : S1024x2048.Idx → EReal)
    (C : S3x1536.Idx → EReal) (B : S1536.Idx → EReal) (p : Fin 8) (R : Fin 4096) (q : Fin 1536) : EReal :=
  taps (projectedAt X G Sh Sc W p ⟨q.val, by omega⟩) (C (ix2 0 q)) (C (ix2 1 q)) (C (ix2 2 q)) (B (ix1 q)) (R.val % 64) R.val

/-- The time-major entry: row `r` is time `r / 8` of batch row `r % 8`. -/
def timeMajor (X : S8x4096x1024.Idx → EReal) (G : S1024.Idx → EReal) (Sh Sc : S8x1x1024.Idx → EReal) (W : S1024x2048.Idx → EReal)
    (r : Fin 32768) (n : Fin 512) : EReal :=
  projected X G Sh Sc W ⟨r.val % 8, by omega⟩ ⟨r.val / 8, by omega⟩ ⟨1536 + n.val, by omega⟩

/-- Row `n` of a block's column, zero past its end. -/
def rowOf (z : FVec Ideal S512x1536 .f32) (q : Fin 1536) (n : ℕ) : EReal := if h : n < 512 then z (ix2 ⟨n, h⟩ q) else 0

/-- The first 1536 columns, convolved. -/
theorem tok_apply (z : FVec Ideal S512x1536 .f32) (x6 : Vec Ideal S3x1536 .f32) (x7 : Vec Ideal S1x1536 .f32) (p : Fin 8) (t : Fin 64) (q : Fin 1536) :
    k0_pay6 z (Scalar.select (Scalar.cmpi .eq 64#32 0#32) 1#32 64#32) k0_pay4 k0_pay5 x6 x7 (ix3 p t q)
      = taps (rowOf z q) (x6 (ix2 0 q)) (x6 (ix2 1 q)) (x6 (ix2 2 q)) (x7 (ix2 0 q)) t.val (p.val * 64 + t.val) := by
  pointwise [k0_pay6, k0_pay4, k0_pay5]
  have h0 := first_iff p t
  have h1 := last_iff p t
  unfold posWord at h0 h1
  unfold taps Scalar.select
  unfold Scalar.select at h0 h1
  simp only [h0, h1]
  have e0 : rowOf z q (p.val * 64 + t.val) = z (ix2 ⟨p.val * 64 + t.val, by omega⟩ q) := dif_pos (by omega)
  rw [e0]
  refine congrArg₂ (fun a b : EReal => a + _ + b + _) ?_ ?_
  · split_ifs with h
    · rfl
    · rw [rowOf, dif_pos (by omega)]
      exact congrArg (fun i => z (ix2 i q) * _) (Fin.ext (by show (p.val * 64 + t.val + 512 - 1) % 512 = p.val * 64 + t.val - 1; omega))
  · split_ifs with h
    · rfl
    · rw [rowOf, dif_pos (by omega)]
      exact congrArg (fun i => z (ix2 i q) * _) (Fin.ext (by show (p.val * 64 + t.val + 512 - 511) % 512 = p.val * 64 + t.val + 1; omega))

end Cert.ProjectIdeal.Hand

end
-- ==== Proof.ProjectArray.lean ====
/-
  The input projection's result arrays, at an index. Each of the 64 points reads 64 tokens of all eight batch rows (`blk0` … `blk7`)
  and writes their convolved columns and their time-major columns; the blocks tile both arrays (`tok_array`, `tm_array`).
-/
module

public import proofs.«01_k».proof.Proof.ProjectBlock

@[expose] public section

set_option maxRecDepth 16384

noncomputable section

namespace Cert.ProjectIdeal.Hand

open Cert.ProjectIdeal Cert.ProjectIdeal.Gen Cert.ProjectIdeal.Value
open Idealize.ShloMosaic Idealize.ShloMosaic.TcCoe Idealize.ShloMosaic.Tactic Idealize.ShloMosaic.Pipeline Idealize.ShloMosaic.StableHlo
open scoped BigOperators

variable (m : (ℓ : Loc nD τ sig) → Buf (Elt Ideal) ℓ)

/-! ## What the host computes before the region -/

/-- The permutation matrix: the identity, its rows re-ordered to time-major. -/
def permArr : FVec Ideal S512x512 .bf16 :=
  truncf .bf16 (shapeCast S512x512 (transpose S64x8x512 [1, 0, 2] (shapeCast S8x64x512 (uitofp (F := Ideal) .f32 (cmpi .eq (iotaInDim S512x512 32 0) (iotaInDim S512x512 32 1)))
    shapeCasts_S512x512_S8x64x512) transposes_S8x64x512_S64x8x512_1_0_2) shapeCasts_S64x8x512_S512x512) bitsLt_bf16_f32

theorem V_perm (c : Dev nD) : V m c main_v8 = permArr := by
  unfold V
  simp only [hostOps0, TRef.binary, TRef.nullary, TRef.unary, TRef.toBuf, TRef.ofBuf, cast_eq]
  after_results_simp <;> rfl

theorem V_weights (c : Dev nD) : V m c main_v0 = (truncf .bf16 (m ((c : Thread nD τ).loc main_arg4) : FVec Ideal S1024x2048 .f32) bitsLt_bf16_f32 : FVec Ideal S1024x2048 .bf16) := by
  unfold V
  simp only [hostOps0, TRef.binary, TRef.nullary, TRef.unary, TRef.toBuf, TRef.ofBuf, cast_eq]
  after_results_simp <;> rfl

theorem V_gain (c : Dev nD) : V m c main_v9 = shapeCast S1x1024 (m ((c : Thread nD τ).loc main_arg1) : FVec Ideal S1024 .f32) shapeCasts_S1024_S1x1024 := by
  unfold V
  simp only [hostOps0, TRef.binary, TRef.nullary, TRef.unary, TRef.toBuf, TRef.ofBuf, cast_eq]
  after_results_simp <;> rfl

theorem V_bias (c : Dev nD) : V m c main_v10 = shapeCast S1x1536 (m ((c : Thread nD τ).loc main_arg6) : FVec Ideal S1536 .f32) shapeCasts_S1536_S1x1536 := by
  unfold V
  simp only [hostOps0, TRef.binary, TRef.nullary, TRef.unary, TRef.toBuf, TRef.ofBuf, cast_eq]
  after_results_simp <;> rfl

/-- The comparison of two words, as a number. -/
theorem onehot_apply (a b : BitVec 32) : (FloatOps.uitofp FTy.f32 (IntOp.cmpi CmpIPredicate.eq a b) : Ideal .f32) = if a = b then (1 : EReal) else 0 := by
  have h : IntOp.cmpi CmpIPredicate.eq a b = BitVec.ofBool (a == b) := rfl
  rw [h]
  change (((BitVec.ofBool (a == b)).toNat : ℝ) : EReal) = _
  by_cases hab : a = b
  · simp [hab]
  · simp [hab]

/-- Row `r` of the permutation matrix has its one at row `r % 8 · 64 + r / 8`. -/
theorem perm_apply (r x : Fin 512) : permArr (ix2 r x) = if r.val % 8 * 64 + r.val / 8 = x.val then (1 : EReal) else 0 := by
  pointwise [permArr]
  have hx : BitVec.ofNat 32 (r.val % 8 * 64 + r.val / 8) = BitVec.ofNat 32 x.val ↔ r.val % 8 * 64 + r.val / 8 = x.val :=
    ⟨fun h => by have := congrArg BitVec.toNat h; simp only [BitVec.toNat_ofNat] at this; omega, fun h => by rw [h]⟩
  refine (onehot_apply _ _).trans ?_
  simp only [hx]

/-- Summed against a column, it leaves the row it names. -/
theorem perm_sum (r : Fin 512) (z : Fin 512 → EReal) :
    (∑ x : Fin 512, @HMul.hMul EReal EReal EReal _ (permArr (ix2 r x)) (z x)) = z ⟨r.val % 8 * 64 + r.val / 8, by omega⟩ := by
  simp only [perm_apply]
  refine (Finset.sum_eq_single (⟨r.val % 8 * 64 + r.val / 8, by omega⟩ : Fin 512) (fun x _ hne => ?_) (fun hn => absurd (Finset.mem_univ _) hn)).trans ?_
  · rw [if_neg (fun e => hne (Fin.ext e.symm)), zero_mul]
  · rw [if_pos rfl, one_mul]

/-! ## The blocks a point reads -/

theorem idx0 : ∀ t : Fin cfg0.N, win0_0.index t 0 = 0 ∧ win0_0.index t 1 = t.val ∧ win0_0.index t 2 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 ∧ win0_2.index t 2 = 0 := (by decide +kernel : ∀ t : Fin grid0.N, _)
theorem idx3 : ∀ t : Fin cfg0.N, win0_3.index t 0 = 0 ∧ win0_3.index t 1 = 0 ∧ win0_3.index t 2 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = t.val ∧ win0_8.index t 2 = 0 := (by decide +kernel : ∀ t : Fin grid0.N, _)
theorem idx9 : ∀ t : Fin cfg0.N, win0_9.index t 0 = t.val ∧ win0_9.index t 1 = 0 := (by decide +kernel : ∀ t : Fin grid0.N, _)

/-- The tokens: 64 of each batch row. -/
theorem blk0 (c : Dev nD) (t : Fin cfg0.N) (p : Fin 8) (r : Fin 64) (d : Fin 1024) (R : Fin 4096) (hR : R.val = 64 * t.val + r.val) :
    iblk m c 0 t (ix3 p r d) = m ((c : Thread nD τ).loc main_arg0) (ix3 p R d) := by
  obtain ⟨h0, h1, h2⟩ := idx0 t
  blk_simp [iblk]
  refine congrArg (m ((c : Thread nD τ).loc main_arg0)) (funext fun a => Fin.ext ?_)
  match a with
  | ⟨0, _⟩ => show win0_0.index t 0 * 8 + 1 * p.val = p.val; omega
  | ⟨1, _⟩ => show win0_0.index t 1 * 64 + 1 * r.val = R.val; omega
  | ⟨2, _⟩ => show win0_0.index t 2 * 1024 + 1 * d.val = d.val; omega

/-- The norm's gains. -/
theorem blk1 (c : Dev nD) (t : Fin cfg0.N) (d : Fin 1024) : iblk m c 1 t (ix2 0 d) = m ((c : Thread nD τ).loc main_arg1) (ix1 d) := by
  obtain ⟨h0, h1⟩ := idx1 t
  have e : iblk m c 1 t (ix2 0 d) = V m c main_v9 (ix2 0 d) := by
    blk_simp [iblk]
    refine congrArg (V m c main_v9) (funext fun a => Fin.ext ?_)
    match a with
    | ⟨0, _⟩ => show win0_1.index t 0 * 1 + 1 * 0 = 0; omega
    | ⟨1, _⟩ => show win0_1.index t 1 * 1024 + 1 * d.val = d.val; omega
  rw [e, V_gain]
  pointwise

/-- The shift of each batch row. -/
theorem blk2 (c : Dev nD) (t : Fin cfg0.N) (p : Fin 8) (d : Fin 1024) :
    iblk m c 2 t (ix3 p 0 d) = m ((c : Thread nD τ).loc main_arg2) (ix3 p 0 d) := by
  obtain ⟨h0, h1, h2⟩ := idx2 t
  blk_simp [iblk]
  refine congrArg (m ((c : Thread nD τ).loc main_arg2)) (funext fun a => Fin.ext ?_)
  match a with
  | ⟨0, _⟩ => show win0_2.index t 0 * 8 + 1 * p.val = p.val; omega
  | ⟨1, _⟩ => show win0_2.index t 1 * 1 + 1 * 0 = 0; omega
  | ⟨2, _⟩ => show win0_2.index t 2 * 1024 + 1 * d.val = d.val; omega

/-- The scale of each batch row. -/
theorem blk3 (c : Dev nD) (t : Fin cfg0.N) (p : Fin 8) (d : Fin 1024) :
    iblk m c 3 t (ix3 p 0 d) = m ((c : Thread nD τ).loc main_arg3) (ix3 p 0 d) := by
  obtain ⟨h0, h1, h2⟩ := idx3 t
  blk_simp [iblk]
  refine congrArg (m ((c : Thread nD τ).loc main_arg3)) (funext fun a => Fin.ext ?_)
  match a with
  | ⟨0, _⟩ => show win0_3.index t 0 * 8 + 1 * p.val = p.val; omega
  | ⟨1, _⟩ => show win0_3.index t 1 * 1 + 1 * 0 = 0; omega
  | ⟨2, _⟩ => show win0_3.index t 2 * 1024 + 1 * d.val = d.val; omega

/-- The weights. -/
theorem blk4 (c : Dev nD) (t : Fin cfg0.N) (d : Fin 1024) (n : Fin 2048) :
    iblk m c 4 t (ix2 d n) = m ((c : Thread nD τ).loc main_arg4) (ix2 d n) := by
  obtain ⟨h0, h1⟩ := idx4 t
  have e : iblk m c 4 t (ix2 d n) = V m c main_v0 (ix2 d n) := by
    blk_simp [iblk]
    refine congrArg (V m c main_v0) (funext fun a => Fin.ext ?_)
    match a with
    | ⟨0, _⟩ => show win0_4.index t 0 * 1024 + 1 * d.val = d.val; omega
    | ⟨1, _⟩ => show win0_4.index t 1 * 2048 + 1 * n.val = n.val; omega
  rw [e, V_weights]
  rfl

/-- The permutation matrix. -/
theorem blk5 (c : Dev nD) (t : Fin cfg0.N) (r x : Fin 512) : iblk m c 5 t (ix2 r x) = permArr (ix2 r x) := by
  obtain ⟨h0, h1⟩ := idx5 t
  rw [← V_perm m c]
  blk_simp [iblk]
  refine congrArg (V m c main_v8) (funext fun a => Fin.ext ?_)
  match a with
  | ⟨0, _⟩ => show win0_5.index t 0 * 512 + 1 * r.val = r.val; omega
  | ⟨1, _⟩ => show win0_5.index t 1 * 512 + 1 * x.val = x.val; omega

/-- The taps. -/
theorem blk6 (c : Dev nD) (t : Fin cfg0.N) (j : Fin 3) (q : Fin 1536) :
    iblk m c 6 t (ix2 j q) = m ((c : Thread nD τ).loc main_arg5) (ix2 j q) := by
  obtain ⟨h0, h1⟩ := idx6 t
  blk_simp [iblk]
  refine congrArg (m ((c : Thread nD τ).loc main_arg5)) (funext fun a => Fin.ext ?_)
  match a with
  | ⟨0, _⟩ => show win0_6.index t 0 * 3 + 1 * j.val = j.val; omega
  | ⟨1, _⟩ => show win0_6.index t 1 * 1536 + 1 * q.val = q.val; omega

/-- The taps' bias. -/
theorem blk7 (c : Dev nD) (t : Fin cfg0.N) (q : Fin 1536) : iblk m c 7 t (ix2 0 q) = m ((c : Thread nD τ).loc main_arg6) (ix1 q) := by
  obtain ⟨h0, h1⟩ := idx7 t
  have e : iblk m c 7 t (ix2 0 q) = V m c main_v10 (ix2 0 q) := by
    blk_simp [iblk]
    refine congrArg (V m c main_v10) (funext fun a => Fin.ext ?_)
    match a with
    | ⟨0, _⟩ => show win0_7.index t 0 * 1 + 1 * 0 = 0; omega
    | ⟨1, _⟩ => show win0_7.index t 1 * 1536 + 1 * q.val = q.val; omega
  rw [e, V_bias]
  pointwise

/-! ## The blocks a point writes -/

/-- The product a point forms. -/
abbrev productOf (c : Dev nD) (t : Fin cfg0.N) : FVec Ideal S512x2048 .f32 :=
  k0_pay2 (iblk m c 0 t) (iblk m c 1 t) (iblk m c 3 t) (iblk m c 2 t) (iblk m c 4 t)

/-- Its entry, over the argument arrays. -/
theorem productOf_apply (c : Dev nD) (t : Fin cfg0.N) (r : Fin 512) (n : Fin 2048) (p : Fin 8) (R : Fin 4096) (hp : p.val = r.val / 64)
    (hR : R.val = 64 * t.val + r.val % 64) :
    productOf m c t (ix2 r n) = projected (m ((c : Thread nD τ).loc main_arg0)) (m ((c : Thread nD τ).loc main_arg1)) (m ((c : Thread nD τ).loc main_arg2))
      (m ((c : Thread nD τ).loc main_arg3)) (m ((c : Thread nD τ).loc main_arg4)) p R n := by
  have hb : r.val / 64 < 8 := by have := r.isLt; clear hp; omega
  obtain rfl : p = ⟨r.val / 64, hb⟩ := Fin.ext hp
  refine (product_apply _ _ _ _ _ r n).trans (Finset.sum_congr rfl fun d _ => ?_)
  refine congrArg₂ (· * ·) ?_ (blk4 m c t d n)
  have e0 := funext fun d => blk0 m c t ⟨r.val / 64, by omega⟩ ⟨r.val % 64, by omega⟩ d R hR
  have e1 := funext fun d => blk1 m c t d
  have e2 := funext fun d => blk2 m c t ⟨r.val / 64, by omega⟩ d
  have e3 := funext fun d => blk3 m c t ⟨r.val / 64, by omega⟩ d
  exact congr (congr (congr (congr (congrArg modulated e0) e1) e2) e3) rfl

/-- The token block's entry. -/
theorem tok_block (c : Dev nD) (t : Fin cfg0.N) (p : Fin 8) (r : Fin 64) (q : Fin 1536) (R : Fin 4096) (hR : R.val = 64 * t.val + r.val) :
    (dats m 0 c).after 8 t (ix3 p r q)
      = convolved (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) p R q := by
  have hp := p.isLt
  have hr := r.isLt
  have hRl := R.isLt
  have hrow : ∀ (x : ℕ), x < 64 → rowOf (k0_pay3 (iblk m c 0 t) (iblk m c 1 t) (iblk m c 3 t) (iblk m c 2 t) (iblk m c 4 t)) q (p.val * 64 + x)
      = projectedAt (m ((c : Thread nD τ).loc main_arg0)) (m ((c : Thread nD τ).loc main_arg1)) (m ((c : Thread nD τ).loc main_arg2))
          (m ((c : Thread nD τ).loc main_arg3)) (m ((c : Thread nD τ).loc main_arg4)) p ⟨q.val, by omega⟩ (64 * t.val + x) := fun x hx => by
    rw [rowOf, dif_pos (by omega), projectedAt, dif_pos (by omega)]
    have e : k0_pay3 (iblk m c 0 t) (iblk m c 1 t) (iblk m c 3 t) (iblk m c 2 t) (iblk m c 4 t) (ix2 ⟨p.val * 64 + x, by omega⟩ q)
        = productOf m c t (ix2 ⟨p.val * 64 + x, by omega⟩ ⟨q.val, by omega⟩) := by pointwise [k0_pay3]
    exact e.trans (productOf_apply m c t _ _ p ⟨64 * t.val + x, by omega⟩ (by show p.val = (p.val * 64 + x) / 64; omega)
      (by show 64 * t.val + x = 64 * t.val + (p.val * 64 + x) % 64; omega))
  rw [after0_8]
  frame_out
  refine (tok_apply _ _ _ p r q).trans ?_
  have hm : R.val % 64 = r.val := by omega
  unfold convolved taps
  rw [hm, hR]
  refine congrArg₂ (· + ·) (congrArg₂ (· + ·) (congrArg₂ (· + ·) ?_ ?_) ?_) (blk7 m c t q)
  · by_cases h : r.val = 0
    · rw [if_pos h, if_pos h]
    · rw [if_neg h, if_neg h]
      have e1 : p.val * 64 + r.val - 1 = p.val * 64 + (r.val - 1) := by omega
      have e2 : 64 * t.val + r.val - 1 = 64 * t.val + (r.val - 1) := by omega
      rw [e1, e2]
      exact congrArg₂ (· * ·) (hrow _ (by omega)) (blk6 m c t 0 q)
  · exact congrArg₂ (· * ·) (hrow _ hr) (blk6 m c t 1 q)
  · by_cases h : r.val = 63
    · rw [if_pos h, if_pos h]
    · rw [if_neg h, if_neg h]
      exact congrArg₂ (· * ·) (hrow (r.val + 1) (by omega)) (blk6 m c t 2 q)

/-- The time-major block's entry. -/
theorem tm_block (c : Dev nD) (t : Fin cfg0.N) (r n : Fin 512) (R : Fin 32768) (hR : R.val = 512 * t.val + r.val) :
    (dats m 0 c).after 9 t (ix2 r n)
      = timeMajor (m ((c : Thread nD τ).loc main_arg0)) (m ((c : Thread nD τ).loc main_arg1)) (m ((c : Thread nD τ).loc main_arg2))
          (m ((c : Thread nD τ).loc main_arg3)) (m ((c : Thread nD τ).loc main_arg4)) R n := by
  have hr := r.isLt
  rw [after0_9]
  frame_out
  refine (tm_apply _ _ r n).trans ?_
  refine (Finset.sum_congr rfl fun x _ => congrArg (fun y : EReal => @HMul.hMul EReal EReal EReal _ y _) (blk5 m c t r x)).trans ?_
  refine (perm_sum r fun x => productOf m c t (ix2 x ⟨1536 + n.val, by omega⟩)).trans ?_
  have hx : (r.val % 8 * 64 + r.val / 8) / 64 = r.val % 8 ∧ (r.val % 8 * 64 + r.val / 8) % 64 = r.val / 8 := by omega
  exact productOf_apply m c t ⟨r.val % 8 * 64 + r.val / 8, by omega⟩ ⟨1536 + n.val, by omega⟩ ⟨R.val % 8, by omega⟩ ⟨R.val / 8, by omega⟩
    (by show R.val % 8 = (r.val % 8 * 64 + r.val / 8) / 64; rw [hx.1, hR]; omega)
    (by show R.val / 8 = 64 * t.val + (r.val % 8 * 64 + r.val / 8) % 64; rw [hx.2, hR]; omega)

theorem covers8 : (cfg0.win 8).Covers := by decide +kernel
theorem covers9 : (cfg0.win 9).Covers := by decide +kernel

/-- The first result array after the region. -/
theorem tok_array (c : Dev nD) :
    (dats m 0 c).arrAt 8 cfg0.N
      = fun y : S8x4096x1536.Idx => convolved (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (y 0) (y 1) (y 2) := by
  refine (dats m 0 c).arrAt_eq_of_covers 8 _ covers8 fun t hf y => ?_
  blk_simp
  have ht : t.val < 64 := t.isLt
  obtain ⟨h0, h1, h2⟩ := idx8 t
  obtain ⟨p, r, q, rfl⟩ : ∃ (p : Fin 8) (r : Fin 64) (q : Fin 1536), y = (ix3 p r q : S8x64x1536.Idx) := ⟨y (0 : Fin 3), y (1 : Fin 3), y (2 : Fin 3), by
    funext a; match a with | ⟨0, _⟩ => rfl | ⟨1, _⟩ => rfl | ⟨2, _⟩ => rfl⟩
  refine (tok_block m c t p r q ⟨64 * t.val + r.val, by omega⟩ rfl).trans ?_
  have e0 : p = ((cfg0.win 8).blk t).view.emb (ix3 p r q : S8x64x1536.Idx) (0 : Fin 3) := Fin.ext (by
    show p.val = win0_8.index t 0 * 8 + 1 * p.val; omega)
  have e1 : (⟨64 * t.val + r.val, by omega⟩ : Fin 4096) = ((cfg0.win 8).blk t).view.emb (ix3 p r q : S8x64x1536.Idx) (1 : Fin 3) := Fin.ext (by
    show 64 * t.val + r.val = win0_8.index t 1 * 64 + 1 * r.val; omega)
  have e2 : q = ((cfg0.win 8).blk t).view.emb (ix3 p r q : S8x64x1536.Idx) (2 : Fin 3) := Fin.ext (by
    show q.val = win0_8.index t 2 * 1536 + 1 * q.val; omega)
  exact congr (congrArg₂ (convolved _ _ _ _ _ _ _) e0 e1) e2

/-- The second result array after the region. -/
theorem tm_array (c : Dev nD) :
    (dats m 0 c).arrAt 9 cfg0.N
      = fun y : S32768x512.Idx => timeMajor (m ((c : Thread nD τ).loc main_arg0)) (m ((c : Thread nD τ).loc main_arg1)) (m ((c : Thread nD τ).loc main_arg2))
          (m ((c : Thread nD τ).loc main_arg3)) (m ((c : Thread nD τ).loc main_arg4)) (y 0) (y 1) := by
  refine (dats m 0 c).arrAt_eq_of_covers 9 _ covers9 fun t hf y => ?_
  blk_simp
  have ht : t.val < 64 := t.isLt
  obtain ⟨h0, h1⟩ := idx9 t
  obtain ⟨r, n, rfl⟩ : ∃ (r n : Fin 512), y = (ix2 r n : S512x512.Idx) := ⟨y (0 : Fin 2), y (1 : Fin 2), by
    funext a; match a with | ⟨0, _⟩ => rfl | ⟨1, _⟩ => rfl⟩
  refine (tm_block m c t r n ⟨512 * t.val + r.val, by omega⟩ rfl).trans ?_
  have e0 : (⟨512 * t.val + r.val, by omega⟩ : Fin 32768) = ((cfg0.win 9).blk t).view.emb (ix2 r n : S512x512.Idx) (0 : Fin 2) := Fin.ext (by
    show 512 * t.val + r.val = win0_9.index t 0 * 512 + 1 * r.val; omega)
  have e1 : n = ((cfg0.win 9).blk t).view.emb (ix2 r n : S512x512.Idx) (1 : Fin 2) := Fin.ext (by
    show n.val = win0_9.index t 1 * 512 + 1 * n.val; omega)
  exact congrArg₂ (timeMajor _ _ _ _ _) e0 e1

end Cert.ProjectIdeal.Hand

end
-- ==== Proof.ProjectRef.lean ====
/-
  The input projection's reference at an index: the product of the modulated rows with the weights (`full_apply`), the three-tap
  convolution along the grid rows of its first 1536 columns (`tok_ref`), and its last 512 columns in time-major order (`tm_ref`).
-/
module

public import proofs.«01_k».proof.Proof.ProjectBlock
public import proofs.«01_k».proof.Proof.Gen.ProjectRefIdeal.Run

@[expose] public section

set_option maxRecDepth 16384

noncomputable section

namespace Cert.ProjectRefIdeal.Hand

open Idealize.ShloMosaic Idealize.ShloMosaic.TcCoe Idealize.ShloMosaic.Tactic
open Cert.ProjectRefIdeal Cert.ProjectRefIdeal.Gen Cert.ProjectIdeal.Hand
open scoped BigOperators

variable (X : FVec Ideal S8x4096x1024 .f32) (G : FVec Ideal S1024 .f32) (Sh Sc : FVec Ideal S8x1x1024 .f32) (W : FVec Ideal S1024x2048 .f32)
  (C : FVec Ideal S3x1536 .f32) (B : FVec Ideal S1536 .f32)

/-- The reference's product of the modulated rows with the weights. -/
def full : FVec Ideal S8x4096x2048 .f32 :=
  Host.dotGeneral dot_S8x4096x1024_S1024x2048_S8x4096x2048_2_0_01_1_n_n none (addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 G))) (broadcastInDim S8x4096x1024 ![0, 1, 2] bcast_S8x1x1024_S8x4096x1024_0_1_2 (addf (broadcastInDim S8x1x1024 ![] bcast_S_S8x1x1024 (constant S_ .f32 0x3F800000#32)) Sc))) (broadcastInDim S8x4096x1024 ![0, 1, 2] bcast_S8x1x1024_S8x4096x1024_0_1_2 Sh)) W

/-- Its first 1536 columns, a row of zeros on either side of each grid row. -/
def padded : FVec Ideal S8x64x66x1536 .f32 :=
  pad S8x64x66x1536 ![0, 0, 1, 0] ![0, 0, 1, 0] ![0, 0, 0, 0] (shapeCast S8x64x64x1536 (extractStridedSlice S8x4096x1536 ![0, 0, 0] (full X G Sh Sc W) slices_S8x4096x2048_S8x4096x1536_0_0_0) shapeCasts_S8x4096x1536_S8x64x64x1536) (sitofp .f32 (constantI S_ 32 0#32)) pads_S8x64x64x1536_S8x64x66x1536_000_000_110_000 h_S_

/-- The product at an index. -/
theorem full_apply (p : Fin 8) (R : Fin 4096) (n : Fin 2048) :
    full X G Sh Sc W (ix3 p R n) = projected X G Sh Sc W p R n := by
  pointwise [full]
  rfl

/-- The padded columns at an index: entry `t` of a grid row is its row `t - 1`. -/
theorem padded_apply (p : Fin 8) (h : Fin 64) (t : Fin 66) (q : Fin 1536) :
    padded X G Sh Sc W (ix4 p h t q)
      = if 1 ≤ t.val ∧ t.val ≤ 64 then projectedAt X G Sh Sc W p ⟨q.val, by omega⟩ (h.val * 64 + t.val - 1) else 0 := by
  pointwise [padded]
  by_cases ht : 1 ≤ t.val ∧ t.val ≤ 64
  · rw [dif_pos ⟨ht.1, by omega⟩, if_pos ht, projectedAt, dif_pos (by omega), full_apply]
    exact congrArg (fun i => projected X G Sh Sc W p i _) (Fin.ext (by show h.val * 64 + (t.val - 1) = h.val * 64 + t.val - 1; omega))
  · rw [dif_neg (by omega), if_neg ht]
    show (((0#32 : BitVec 32).toInt : ℝ) : EReal) = 0
    simp

/-- The first result at an index. -/
theorem tok_ref (p : Fin 8) (R : Fin 4096) (q : Fin 1536) :
    (shapeCast S8x4096x1536 (addf (addf (addf (mulf (extractStridedSlice S8x64x64x1536 ![0, 0, 0, 0] (padded X G Sh Sc W) slices_S8x64x66x1536_S8x64x64x1536_0_0_0_0) (broadcastInDim S8x64x64x1536 ![0, 1, 2, 3] bcast_S1x1x1x1536_S8x64x64x1536_0_1_2_3 (broadcastInDim S1x1x1x1536 ![3] bcast_S1536_S1x1x1x1536_3 (shapeCast S1536 (extractStridedSlice S1x1536 ![0, 0] C slices_S3x1536_S1x1536_0_0) shapeCasts_S1x1536_S1536)))) (mulf (extractStridedSlice S8x64x64x1536 ![0, 0, 1, 0] (padded X G Sh Sc W) slices_S8x64x66x1536_S8x64x64x1536_0_0_1_0) (broadcastInDim S8x64x64x1536 ![0, 1, 2, 3] bcast_S1x1x1x1536_S8x64x64x1536_0_1_2_3 (broadcastInDim S1x1x1x1536 ![3] bcast_S1536_S1x1x1x1536_3 (shapeCast S1536 (extractStridedSlice S1x1536 ![1, 0] C slices_S3x1536_S1x1536_1_0) shapeCasts_S1x1536_S1536))))) (mulf (extractStridedSlice S8x64x64x1536 ![0, 0, 2, 0] (padded X G Sh Sc W) slices_S8x64x66x1536_S8x64x64x1536_0_0_2_0) (broadcastInDim S8x64x64x1536 ![0, 1, 2, 3] bcast_S1x1x1x1536_S8x64x64x1536_0_1_2_3 (broadcastInDim S1x1x1x1536 ![3] bcast_S1536_S1x1x1x1536_3 (shapeCast S1536 (extractStridedSlice S1x1536 ![2, 0] C slices_S3x1536_S1x1536_2_0) shapeCasts_S1x1536_S1536))))) (broadcastInDim S8x64x64x1536 ![0, 1, 2, 3] bcast_S1x1x1x1536_S8x64x64x1536_0_1_2_3 (broadcastInDim S1x1x1x1536 ![3] bcast_S1536_S1x1x1x1536_3 B))) shapeCasts_S8x64x64x1536_S8x4096x1536 : FVec Ideal S8x4096x1536 .f32) (ix3 p R q)
      = convolved X G Sh Sc W C B p R q := by
  pointwise
  simp only [padded_apply]
  have hR := R.isLt
  unfold convolved taps
  refine congrArg₂ (fun a b : EReal => a + b + _) (congrArg₂ (· + ·) ?_ ?_) ?_
  · by_cases h : R.val % 64 = 0
    · rw [if_neg (by omega), if_pos h, zero_mul]
    · rw [if_pos (by omega), if_neg h]
      exact congrArg (fun n => projectedAt X G Sh Sc W p _ n * _) (by omega)
  · rw [if_pos (by omega)]
    exact congrArg (fun n => projectedAt X G Sh Sc W p _ n * _) (by omega)
  · by_cases h : R.val % 64 = 63
    · rw [if_neg (by omega), if_pos h, zero_mul]
    · rw [if_pos (by omega), if_neg h]
      exact congrArg (fun n => projectedAt X G Sh Sc W p _ n * _) (by omega)

/-- The second result at an index. -/
theorem tm_ref (r : Fin 32768) (n : Fin 512) :
    (truncf .bf16 (shapeCast S32768x512 (transpose S4096x8x512 [1, 0, 2] (extractStridedSlice S8x4096x512 ![0, 0, 1536] (full X G Sh Sc W) slices_S8x4096x2048_S8x4096x512_0_0_1536) transposes_S8x4096x512_S4096x8x512_1_0_2) shapeCasts_S4096x8x512_S32768x512) bitsLt_bf16_f32 : FVec Ideal S32768x512 .bf16) (ix2 r n)
      = timeMajor X G Sh Sc W r n := by
  unfold timeMajor
  rw [← full_apply]
  pointwise

end Cert.ProjectRefIdeal.Hand

end
-- ==== Proof.MixBlock.lean ====
/-
  One grid point of the mixer's tail, as values: the gated readout of a time-major row (`gated_apply`), its rows brought back to token
  order by the permutation matrix and multiplied, with the other branch, by the output weights (`mixed_apply`), the residual stream
  after the mixer (`stream_apply`) and its normalised and modulated rows (`tail_apply`).
-/
module

public import proofs.«01_k».proof.Proof.Gen.MixIdeal.Frame
public import proofs.«01_k».proof.Proof.ProjectBlock
public import Idealize.ShloMosaic.Lib.ValueIdx
public import Idealize.ShloMosaic.Lib.Pointwise
public import Idealize.ShloMosaic.Lib.Pipeline.ValueKit
public import Idealize.ShloMosaic.Lib.StableHlo.Run

@[expose] public section

set_option maxRecDepth 16384

noncomputable section

namespace Cert.MixIdeal.Hand

open Cert.MixIdeal Cert.MixIdeal.Gen
open Idealize.ShloMosaic Idealize.ShloMosaic.TcCoe Idealize.ShloMosaic.Tactic
open Cert.ProjectIdeal.Hand (modulated)
open scoped BigOperators

/-- The activation: half the entry, times one plus the hyperbolic tangent of its cubic. -/
def act (y : EReal) : EReal :=
  Ideal.ofBits .f32 0x3F000000#32 * y * (1 + Ideal.tanh (Ideal.ofBits .f32 0x3F4C422A#32 * (y + Ideal.ofBits .f32 0x3D372713#32 * (y * y * y))))

/-- A row's readout: the two scans' entries, and the input times its gain. -/
def readout (f b d u : Fin 512 → EReal) (n : Fin 512) : EReal := f n + b n + d n * u n

/-- The readout's activation, gated by the sigmoid of a linear map of the activated row. -/
def gated (y : Fin 512 → EReal) (W : Fin 512 → Fin 512 → EReal) (bias : Fin 512 → EReal) (n : Fin 512) : EReal :=
  act (y n) * Ideal.div 1 (1 + Ideal.exp (-((∑ k, act (y k) * W k n) + bias n)))

/-- The gated entry at a point. -/
theorem gated_apply (x2 x3 : Vec Ideal S1024x512 .f32) (x5 : Vec Ideal S1x512 .f32) (x4 : Vec Ideal S1024x512 .bf16) (x6 : Vec Ideal S512x512 .bf16)
    (x7 : Vec Ideal S1x512 .f32) (r : Fin 1024) (n : Fin 512) :
    k0_pay3 x2 x3 x5 x4 x6 x7 (ix2 r n)
      = gated (readout (fun k => x2 (ix2 r k)) (fun k => x3 (ix2 r k)) (fun k => x5 (ix2 0 k)) (fun k => x4 (ix2 r k))) (fun k n => x6 (ix2 k n))
          (fun k => x7 (ix2 0 k)) n := by
  pointwise [k0_pay3]
  simp only [zero_sub]
  rfl

/-- The matrix's product with one half of a block's rows. -/
def halfA (s : FVec Ideal S1024x512 .f32) (P : Vec Ideal S512x512 .bf16) : FVec Ideal S512x512 .bf16 :=
  truncf .bf16 (matmul dot_S512x512_S512x512_S512x512_1_0_0_1_n_n none (shapeCast S512x512 P shapeCasts_S512x512_S512x512 : FVec Ideal S512x512 .bf16)
    (extractStridedSlice S512x512 ![0, 0] (truncf .bf16 s bitsLt_bf16_f32) slices_S1024x512_o0_0_S512x512) (constant S512x512 .f32 0x00000000#32)) bitsLt_bf16_f32

/-- The same of the other half. -/
def halfB (s : FVec Ideal S1024x512 .f32) (P : Vec Ideal S512x512 .bf16) : FVec Ideal S512x512 .bf16 :=
  truncf .bf16 (matmul dot_S512x512_S512x512_S512x512_1_0_0_1_n_n none (shapeCast S512x512 P shapeCasts_S512x512_S512x512 : FVec Ideal S512x512 .bf16)
    (extractStridedSlice S512x512 ![512, 0] (truncf .bf16 s bitsLt_bf16_f32) slices_S1024x512_o512_0_S512x512) (constant S512x512 .f32 0x00000000#32)) bitsLt_bf16_f32

/-- The halves' stretches of 64 rows, one of each by turns. -/
abbrev stretches (A B : FVec Ideal S512x512 .bf16) : List ((s : Shape) × (s.Idx → Ideal .bf16)) :=
  [⟨S64x512, extractStridedSlice S64x512 ![0, 0] A slices_S512x512_o0_0_S64x512⟩, ⟨S64x512, extractStridedSlice S64x512 ![0, 0] B slices_S512x512_o0_0_S64x512⟩, ⟨S64x512, extractStridedSlice S64x512 ![64, 0] A slices_S512x512_o64_0_S64x512⟩, ⟨S64x512, extractStridedSlice S64x512 ![64, 0] B slices_S512x512_o64_0_S64x512⟩, ⟨S64x512, extractStridedSlice S64x512 ![128, 0] A slices_S512x512_o128_0_S64x512⟩, ⟨S64x512, extractStridedSlice S64x512 ![128, 0] B slices_S512x512_o128_0_S64x512⟩, ⟨S64x512, extractStridedSlice S64x512 ![192, 0] A slices_S512x512_o192_0_S64x512⟩, ⟨S64x512, extractStridedSlice S64x512 ![192, 0] B slices_S512x512_o192_0_S64x512⟩, ⟨S64x512, extractStridedSlice S64x512 ![256, 0] A slices_S512x512_o256_0_S64x512⟩, ⟨S64x512, extractStridedSlice S64x512 ![256, 0] B slices_S512x512_o256_0_S64x512⟩, ⟨S64x512, extractStridedSlice S64x512 ![320, 0] A slices_S512x512_o320_0_S64x512⟩, ⟨S64x512, extractStridedSlice S64x512 ![320, 0] B slices_S512x512_o320_0_S64x512⟩, ⟨S64x512, extractStridedSlice S64x512 ![384, 0] A slices_S512x512_o384_0_S64x512⟩, ⟨S64x512, extractStridedSlice S64x512 ![384, 0] B slices_S512x512_o384_0_S64x512⟩, ⟨S64x512, extractStridedSlice S64x512 ![448, 0] A slices_S512x512_o448_0_S64x512⟩, ⟨S64x512, extractStridedSlice S64x512 ![448, 0] B slices_S512x512_o448_0_S64x512⟩]

/-- They make up the block's rows. -/
def woven (A B : FVec Ideal S512x512 .bf16) : FVec Ideal S1024x512 .bf16 := concatenate S1024x512 0 (stretches A B) concatenates_S64x512_S64x512_S64x512_S64x512_S64x512_S64x512_S64x512_S64x512_S64x512_S64x512_S64x512_S64x512_S64x512_S64x512_S64x512_S64x512_S1024x512_d0

theorem halfA_apply (s : FVec Ideal S1024x512 .f32) (P : Vec Ideal S512x512 .bf16) (i x : Fin 512) :
    halfA s P (ix2 i x) = ∑ y : Fin 512, @HMul.hMul EReal EReal EReal _ (P (ix2 i y)) (s (ix2 ⟨0 + y.val, by omega⟩ x)) := by
  pointwise [halfA]

theorem halfB_apply (s : FVec Ideal S1024x512 .f32) (P : Vec Ideal S512x512 .bf16) (i x : Fin 512) :
    halfB s P (ix2 i x) = ∑ y : Fin 512, @HMul.hMul EReal EReal EReal _ (P (ix2 i y)) (s (ix2 ⟨512 + y.val, by omega⟩ x)) := by
  pointwise [halfB]

/-- A row of the `k`-th stretch. -/
theorem woven_stretch (A B : FVec Ideal S512x512 .bf16) (r : Fin 1024) (x : Fin 512) (k : ℕ) (hk : k < 16) (y : FVec Ideal S64x512 .bf16)
    (hy : (stretches A B)[k]'hk = ⟨S64x512, y⟩) (h : r.val / 64 = k) : woven A B (ix2 r x) = y (ix2 ⟨r.val % 64, by omega⟩ x) := by
  have hs : (stretches A B).map (·.1) = List.replicate 16 S64x512 := rfl
  refine concatenate_apply_piece (0 : Fin 2) (stretches A B) _ (ix2 r x) k hk S64x512 y hy rfl (64 * k) ?_ (ix2 ⟨r.val % 64, by omega⟩ x) ?_ ?_
  · rw [List.map_take, hs, List.take_replicate, Nat.min_eq_left (by omega), List.map_replicate, List.sum_replicate]
    show k * 64 = 64 * k
    omega
  · intro b hb
    match b with
    | ⟨0, _⟩ => exact absurd rfl hb
    | ⟨1, _⟩ => rfl
  · show 64 * k + r.val % 64 = r.val
    omega

/-- Row `r` of the woven rows: token `r % 128` of batch row `r / 128`, from the half the token lies in. -/
theorem woven_apply (A B : FVec Ideal S512x512 .bf16) (r : Fin 1024) (x : Fin 512) (i : Fin 512) (hi : i.val = r.val / 128 * 64 + r.val % 64) :
    woven A B (ix2 r x) = if r.val % 128 < 64 then A (ix2 i x) else B (ix2 i x) := by
  have hr := r.isLt
  rcases (by omega : r.val / 64 = 0 ∨ r.val / 64 = 1 ∨ r.val / 64 = 2 ∨ r.val / 64 = 3 ∨ r.val / 64 = 4 ∨ r.val / 64 = 5 ∨ r.val / 64 = 6 ∨ r.val / 64 = 7 ∨ r.val / 64 = 8 ∨ r.val / 64 = 9 ∨ r.val / 64 = 10 ∨ r.val / 64 = 11 ∨ r.val / 64 = 12 ∨ r.val / 64 = 13 ∨ r.val / 64 = 14 ∨ r.val / 64 = 15) with h | h | h | h | h | h | h | h | h | h | h | h | h | h | h | h
  · rw [woven_stretch A B r x 0 (by decide) (extractStridedSlice S64x512 ![0, 0] A slices_S512x512_o0_0_S64x512) rfl h, if_pos (by omega)]
    pointwise
    exact congrArg (fun i => A (ix2 i x)) (Fin.ext (by dsimp only; omega))
  · rw [woven_stretch A B r x 1 (by decide) (extractStridedSlice S64x512 ![0, 0] B slices_S512x512_o0_0_S64x512) rfl h, if_neg (by omega)]
    pointwise
    exact congrArg (fun i => B (ix2 i x)) (Fin.ext (by dsimp only; omega))
  · rw [woven_stretch A B r x 2 (by decide) (extractStridedSlice S64x512 ![64, 0] A slices_S512x512_o64_0_S64x512) rfl h, if_pos (by omega)]
    pointwise
    exact congrArg (fun i => A (ix2 i x)) (Fin.ext (by dsimp only; omega))
  · rw [woven_stretch A B r x 3 (by decide) (extractStridedSlice S64x512 ![64, 0] B slices_S512x512_o64_0_S64x512) rfl h, if_neg (by omega)]
    pointwise
    exact congrArg (fun i => B (ix2 i x)) (Fin.ext (by dsimp only; omega))
  · rw [woven_stretch A B r x 4 (by decide) (extractStridedSlice S64x512 ![128, 0] A slices_S512x512_o128_0_S64x512) rfl h, if_pos (by omega)]
    pointwise
    exact congrArg (fun i => A (ix2 i x)) (Fin.ext (by dsimp only; omega))
  · rw [woven_stretch A B r x 5 (by decide) (extractStridedSlice S64x512 ![128, 0] B slices_S512x512_o128_0_S64x512) rfl h, if_neg (by omega)]
    pointwise
    exact congrArg (fun i => B (ix2 i x)) (Fin.ext (by dsimp only; omega))
  · rw [woven_stretch A B r x 6 (by decide) (extractStridedSlice S64x512 ![192, 0] A slices_S512x512_o192_0_S64x512) rfl h, if_pos (by omega)]
    pointwise
    exact congrArg (fun i => A (ix2 i x)) (Fin.ext (by dsimp only; omega))
  · rw [woven_stretch A B r x 7 (by decide) (extractStridedSlice S64x512 ![192, 0] B slices_S512x512_o192_0_S64x512) rfl h, if_neg (by omega)]
    pointwise
    exact congrArg (fun i => B (ix2 i x)) (Fin.ext (by dsimp only; omega))
  · rw [woven_stretch A B r x 8 (by decide) (extractStridedSlice S64x512 ![256, 0] A slices_S512x512_o256_0_S64x512) rfl h, if_pos (by omega)]
    pointwise
    exact congrArg (fun i => A (ix2 i x)) (Fin.ext (by dsimp only; omega))
  · rw [woven_stretch A B r x 9 (by decide) (extractStridedSlice S64x512 ![256, 0] B slices_S512x512_o256_0_S64x512) rfl h, if_neg (by omega)]
    pointwise
    exact congrArg (fun i => B (ix2 i x)) (Fin.ext (by dsimp only; omega))
  · rw [woven_stretch A B r x 10 (by decide) (extractStridedSlice S64x512 ![320, 0] A slices_S512x512_o320_0_S64x512) rfl h, if_pos (by omega)]
    pointwise
    exact congrArg (fun i => A (ix2 i x)) (Fin.ext (by dsimp only; omega))
  · rw [woven_stretch A B r x 11 (by decide) (extractStridedSlice S64x512 ![320, 0] B slices_S512x512_o320_0_S64x512) rfl h, if_neg (by omega)]
    pointwise
    exact congrArg (fun i => B (ix2 i x)) (Fin.ext (by dsimp only; omega))
  · rw [woven_stretch A B r x 12 (by decide) (extractStridedSlice S64x512 ![384, 0] A slices_S512x512_o384_0_S64x512) rfl h, if_pos (by omega)]
    pointwise
    exact congrArg (fun i => A (ix2 i x)) (Fin.ext (by dsimp only; omega))
  · rw [woven_stretch A B r x 13 (by decide) (extractStridedSlice S64x512 ![384, 0] B slices_S512x512_o384_0_S64x512) rfl h, if_neg (by omega)]
    pointwise
    exact congrArg (fun i => B (ix2 i x)) (Fin.ext (by dsimp only; omega))
  · rw [woven_stretch A B r x 14 (by decide) (extractStridedSlice S64x512 ![448, 0] A slices_S512x512_o448_0_S64x512) rfl h, if_pos (by omega)]
    pointwise
    exact congrArg (fun i => A (ix2 i x)) (Fin.ext (by dsimp only; omega))
  · rw [woven_stretch A B r x 15 (by decide) (extractStridedSlice S64x512 ![448, 0] B slices_S512x512_o448_0_S64x512) rfl h, if_neg (by omega)]
    pointwise
    exact congrArg (fun i => B (ix2 i x)) (Fin.ext (by dsimp only; omega))

/-- The two branches' product with the output weights. -/
theorem product_eq (s : FVec Ideal S1024x512 .f32) (P : Vec Ideal S512x512 .bf16) (x1 : Vec Ideal S8x128x512 .f32) (x8 x9 : Vec Ideal S512x1024 .bf16) :
    k0_pay4 s P P x1 x8 x9
      = addf (matmul dot_S1024x512_S512x1024_S1024x1024_1_0_0_1_n_n none (truncf .bf16 (shapeCast S1024x512 x1 shapeCasts_S8x128x512_S1024x512) bitsLt_bf16_f32)
          (shapeCast S512x1024 x8 shapeCasts_S512x1024_S512x1024 : FVec Ideal S512x1024 .bf16) (constant S1024x1024 .f32 0x00000000#32))
        (matmul dot_S1024x512_S512x1024_S1024x1024_1_0_0_1_n_n none (woven (halfA s P) (halfB s P))
          (shapeCast S512x1024 x9 shapeCasts_S512x1024_S512x1024 : FVec Ideal S512x1024 .bf16) (constant S1024x1024 .f32 0x00000000#32)) := by
  unfold k0_pay4 woven stretches halfA halfB
  rfl

/-- Its entry at row `r` of the block. -/
theorem mixed_apply (s : FVec Ideal S1024x512 .f32) (P : Vec Ideal S512x512 .bf16) (x1 : Vec Ideal S8x128x512 .f32) (x8 x9 : Vec Ideal S512x1024 .bf16)
    (r d : Fin 1024) :
    k0_pay4 s P P x1 x8 x9 (ix2 r d)
      = (∑ x : Fin 512, @HMul.hMul EReal EReal EReal _ (x1 (ix3 ⟨r.val / 128, by omega⟩ ⟨r.val % 128, by omega⟩ x)) (x8 (ix2 x d)))
        + ∑ x : Fin 512, @HMul.hMul EReal EReal EReal _ (woven (halfA s P) (halfB s P) (ix2 r x)) (x9 (ix2 x d)) := by
  rw [product_eq]
  pointwise

/-- The residual stream at a point. -/
theorem stream_apply (z : FVec Ideal S1024x1024 .f32) (x0 : Vec Ideal S8x128x1024 .f32) (x10 : Vec Ideal S8x1x1024 .f32) (p : Fin 8) (t : Fin 128) (d : Fin 1024) :
    k0_pay5 z x0 x10 (ix3 p t d) = @HAdd.hAdd EReal EReal EReal _ (x0 (ix3 p t d)) (@HMul.hMul EReal EReal EReal _ (x10 (ix3 p 0 d)) (z (ix2 ⟨p.val * 128 + t.val, by omega⟩ d))) := by
  pointwise [k0_pay5]

/-- Its rows normalised and modulated. -/
theorem tail_apply (z : FVec Ideal S1024x1024 .f32) (x0 : Vec Ideal S8x128x1024 .f32) (x10 x13 x12 : Vec Ideal S8x1x1024 .f32) (x11 : Vec Ideal S1x1024 .f32)
    (p : Fin 8) (t : Fin 128) (d : Fin 1024) :
    k0_pay7 z x0 x10 x11 x13 x12 (ix3 p t d)
      = modulated (fun d => k0_pay5 z x0 x10 (ix3 p t d)) (fun d => x11 (ix2 0 d)) (fun d => x12 (ix3 p 0 d)) (fun d => x13 (ix3 p 0 d)) d := by
  pointwise [k0_pay7, k0_pay6]
  rfl

/-- The gated readout of time-major row `r`, over the argument arrays. -/
def gatedAt (Yf Yb U : S32768x512.Idx → EReal) (D : S512.Idx → EReal) (Gw : S512x512.Idx → EReal) (Gb : S512.Idx → EReal) (r : Fin 32768) (n : Fin 512) : EReal :=
  gated (readout (fun k => Yf (ix2 r k)) (fun k => Yb (ix2 r k)) (fun k => D (ix1 k)) (fun k => U (ix2 r k))) (fun k n => Gw (ix2 k n)) (fun k => Gb (ix1 k)) n

/-- The two branches of token `R` of batch row `p`, times column `d` of the output weights. -/
def mixedAt (Hy : S8x4096x512.Idx → EReal) (Yf Yb U : S32768x512.Idx → EReal) (D : S512.Idx → EReal) (Gw : S512x512.Idx → EReal) (Gb : S512.Idx → EReal)
    (Wo : S1024x1024.Idx → EReal) (p : Fin 8) (R : Fin 4096) (d : Fin 1024) : EReal :=
  (∑ x : Fin 512, Hy (ix3 p R x) * Wo (ix2 ⟨x.val, by omega⟩ d))
    + ∑ x : Fin 512, gatedAt Yf Yb U D Gw Gb ⟨R.val * 8 + p.val, by omega⟩ x * Wo (ix2 ⟨512 + x.val, by omega⟩ d)

/-- The residual stream after the mixer. -/
def streamAt (X : S8x4096x1024.Idx → EReal) (Hy : S8x4096x512.Idx → EReal) (Yf Yb U : S32768x512.Idx → EReal) (D : S512.Idx → EReal) (Gw : S512x512.Idx → EReal)
    (Gb : S512.Idx → EReal) (Wo : S1024x1024.Idx → EReal) (G1 : S8x1x1024.Idx → EReal) (p : Fin 8) (R : Fin 4096) (d : Fin 1024) : EReal :=
  X (ix3 p R d) + G1 (ix3 p 0 d) * mixedAt Hy Yf Yb U D Gw Gb Wo p R d

/-- Its rows normalised and modulated. -/
def tailAt (X : S8x4096x1024.Idx → EReal) (Hy : S8x4096x512.Idx → EReal) (Yf Yb U : S32768x512.Idx → EReal) (D : S512.Idx → EReal) (Gw : S512x512.Idx → EReal)
    (Gb : S512.Idx → EReal) (Wo : S1024x1024.Idx → EReal) (G1 : S8x1x1024.Idx → EReal) (N : S1024.Idx → EReal) (Sh Sc : S8x1x1024.Idx → EReal)
    (p : Fin 8) (R : Fin 4096) (d : Fin 1024) : EReal :=
  modulated (fun d => streamAt X Hy Yf Yb U D Gw Gb Wo G1 p R d) (fun d => N (ix1 d)) (fun d => Sh (ix3 p 0 d)) (fun d => Sc (ix3 p 0 d)) d

end Cert.MixIdeal.Hand

end
-- ==== Proof.MixArray.lean ====
/-
  The mixer tail's first two result arrays, at an index. Each of the 32 points reads 128 tokens of all eight batch rows (`blk0` …
  `blk15`) and writes the residual stream and its normalised rows; the blocks tile both arrays (`stream_array`, `tail_array`).
-/
module

public import proofs.«01_k».proof.Proof.MixBlock
public import proofs.«01_k».proof.Proof.ProjectArray
public import Idealize.ShloMosaic.Lib.Pipeline.Value

@[expose] public section

set_option maxRecDepth 16384

noncomputable section

namespace Cert.MixIdeal.Hand

open Cert.MixIdeal Cert.MixIdeal.Gen
open Idealize.ShloMosaic Idealize.ShloMosaic.TcCoe Idealize.ShloMosaic.Tactic Idealize.ShloMosaic.Pipeline Idealize.ShloMosaic.StableHlo
open Idealize.SL.Sem
open Cert.ProjectIdeal.Hand (modulated onehot_apply)
open scoped BigOperators

variable (m : (ℓ : Loc nD τ sig) → Buf (Elt Ideal) ℓ)

/-! ## The run, its results named -/

/-- The run leaves each result array as its points' blocks make it, and the arguments as they were. -/
theorem run_arrays (ρ : Dev nD → PrngReg) : θ_run defs (onTc (τ := τ) (main (F := Ideal))) ⟨m, fun _ => 0, ρ⟩ fun r => ∀ c : Dev nD,
    r.2.mem ((c : Thread nD τ).loc main_v18_0) = (dats m 0 c).arrAt 16 cfg0.N
    ∧ r.2.mem ((c : Thread nD τ).loc main_v18_1) = (dats m 0 c).arrAt 17 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13) :=
  (θ_run defs _ _).mono (fun r h c => ⟨(h c).1 16,
    (h c).1 17,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).1 10).trans (((dats m 0 c).arrAt_in 10 rfl _).trans ((A_eq m c 10).trans (V_main_arg9 m c))),
    ((h c).2 main_arg10 (Pipeline.mem_restRefs_of main_arg10 (by decide) (by decide))).trans (V_main_arg10 m c),
    ((h c).1 12).trans (((dats m 0 c).arrAt_in 12 rfl _).trans ((A_eq m c 12).trans (V_main_arg11 m c))),
    ((h c).1 13).trans (((dats m 0 c).arrAt_in 13 rfl _).trans ((A_eq m c 13).trans (V_main_arg12 m c))),
    ((h c).2 main_arg13 (Pipeline.mem_restRefs_of main_arg13 (by decide) (by decide))).trans (V_main_arg13 m c)⟩)
    (run_main m ρ)

/-! ## What the host computes before the region -/

/-- The permutation matrix that brings a stretch of time-major rows back to token order. -/
def permArr : FVec Ideal S512x512 .bf16 :=
  transpose S512x512 [1, 0] (truncf .bf16 (shapeCast S512x512 (transpose S64x8x512 [1, 0, 2] (shapeCast S8x64x512 (uitofp (F := Ideal) .f32 (cmpi .eq (iotaInDim S512x512 32 0) (iotaInDim S512x512 32 1)))
    shapeCasts_S512x512_S8x64x512) transposes_S8x64x512_S64x8x512_1_0_2) shapeCasts_S64x8x512_S512x512) bitsLt_bf16_f32 : FVec Ideal S512x512 .bf16) transposes_S512x512_S512x512_1_0

theorem V_perm (c : Dev nD) : V m c main_v8 = permArr := by
  unfold V
  simp only [hostOps0, TRef.binary, TRef.nullary, TRef.unary, TRef.toBuf, TRef.ofBuf, cast_eq]
  after_results_simp <;> rfl

theorem V_skip (c : Dev nD) : V m c main_v9 = shapeCast S1x512 (m ((c : Thread nD τ).loc main_arg5) : FVec Ideal S512 .f32) shapeCasts_S512_S1x512 := by
  unfold V
  simp only [hostOps0, TRef.binary, TRef.nullary, TRef.unary, TRef.toBuf, TRef.ofBuf, cast_eq]
  after_results_simp <;> rfl

theorem V_gate (c : Dev nD) : V m c main_v10 = (truncf .bf16 (m ((c : Thread nD τ).loc main_arg6) : FVec Ideal S512x512 .f32) bitsLt_bf16_f32 : FVec Ideal S512x512 .bf16) := by
  unfold V
  simp only [hostOps0, TRef.binary, TRef.nullary, TRef.unary, TRef.toBuf, TRef.ofBuf, cast_eq]
  after_results_simp <;> rfl

theorem V_gateBias (c : Dev nD) : V m c main_v11 = shapeCast S1x512 (m ((c : Thread nD τ).loc main_arg7) : FVec Ideal S512 .f32) shapeCasts_S512_S1x512 := by
  unfold V
  simp only [hostOps0, TRef.binary, TRef.nullary, TRef.unary, TRef.toBuf, TRef.ofBuf, cast_eq]
  after_results_simp <;> rfl

theorem V_upper (c : Dev nD) : V m c main_v13 = (truncf .bf16 (extractStridedSlice S512x1024 ![0, 0] (m ((c : Thread nD τ).loc main_arg8) : FVec Ideal S1024x1024 .f32) slices_S1024x1024_S512x1024_0_0) bitsLt_bf16_f32 : FVec Ideal S512x1024 .bf16) := by
  unfold V
  simp only [hostOps0, TRef.binary, TRef.nullary, TRef.unary, TRef.toBuf, TRef.ofBuf, cast_eq]
  after_results_simp <;> rfl

theorem V_lower (c : Dev nD) : V m c main_v15 = (truncf .bf16 (extractStridedSlice S512x1024 ![512, 0] (m ((c : Thread nD τ).loc main_arg8) : FVec Ideal S1024x1024 .f32) slices_S1024x1024_S512x1024_512_0) bitsLt_bf16_f32 : FVec Ideal S512x1024 .bf16) := by
  unfold V
  simp only [hostOps0, TRef.binary, TRef.nullary, TRef.unary, TRef.toBuf, TRef.ofBuf, cast_eq]
  after_results_simp <;> rfl

theorem V_gain (c : Dev nD) : V m c main_v16 = shapeCast S1x1024 (m ((c : Thread nD τ).loc main_arg10) : FVec Ideal S1024 .f32) shapeCasts_S1024_S1x1024 := by
  unfold V
  simp only [hostOps0, TRef.binary, TRef.nullary, TRef.unary, TRef.toBuf, TRef.ofBuf, cast_eq]
  after_results_simp <;> rfl

/-- Row `i` of the permutation matrix has its one at row `i % 64 · 8 + i / 64`. -/
theorem perm_apply (i y : Fin 512) : permArr (ix2 i y) = if y.val = i.val % 64 * 8 + i.val / 64 then (1 : EReal) else 0 := by
  pointwise [permArr]
  have hy := y.isLt
  have hi := i.isLt
  have ha : y.val % 8 * 64 + y.val / 8 < 2 ^ 32 := by omega
  have hb : i.val < 2 ^ 32 := by omega
  have hx : BitVec.ofNat 32 (y.val % 8 * 64 + y.val / 8) = BitVec.ofNat 32 i.val ↔ y.val = i.val % 64 * 8 + i.val / 64 := by
    constructor
    · intro h
      have h' := congrArg BitVec.toNat h
      rw [BitVec.toNat_ofNat, BitVec.toNat_ofNat, Nat.mod_eq_of_lt ha, Nat.mod_eq_of_lt hb] at h'
      omega
    · intro h
      have h' : y.val % 8 * 64 + y.val / 8 = i.val := by omega
      rw [h']
  refine (onehot_apply _ _).trans ?_
  simp only [hx]

/-- Summed against a column, it leaves the row it names. -/
theorem perm_sum (i : Fin 512) (z : Fin 512 → EReal) :
    (∑ y : Fin 512, @HMul.hMul EReal EReal EReal _ (permArr (ix2 i y)) (z y)) = z ⟨i.val % 64 * 8 + i.val / 64, by omega⟩ := by
  simp only [perm_apply]
  refine (Finset.sum_eq_single (⟨i.val % 64 * 8 + i.val / 64, by omega⟩ : Fin 512) (fun x _ hne => ?_) (fun hn => absurd (Finset.mem_univ _) hn)).trans ?_
  · rw [if_neg (fun e => hne (Fin.ext e)), zero_mul]
  · rw [if_pos rfl, one_mul]

/-! ## The blocks a point reads -/

theorem idx0 : ∀ t : Fin cfg0.N, win0_0.index t 0 = 0 ∧ win0_0.index t 1 = t.val ∧ win0_0.index t 2 = 0 := (by decide +kernel : ∀ t : Fin grid0.N, _)
theorem idx1 : ∀ t : Fin cfg0.N, win0_1.index t 0 = 0 ∧ win0_1.index t 1 = t.val ∧ win0_1.index t 2 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 ∧ win0_10.index t 2 = 0 := (by decide +kernel : ∀ t : Fin grid0.N, _)
theorem idx11 : ∀ t : Fin cfg0.N, win0_11.index t 0 = 0 ∧ win0_11.index t 1 = 0 := (by decide +kernel : ∀ t : Fin grid0.N, _)
theorem idx12 : ∀ t : Fin cfg0.N, win0_12.index t 0 = 0 ∧ win0_12.index t 1 = 0 ∧ win0_12.index t 2 = 0 := (by decide +kernel : ∀ t : Fin grid0.N, _)
theorem idx13 : ∀ t : Fin cfg0.N, win0_13.index t 0 = 0 ∧ win0_13.index t 1 = 0 ∧ win0_13.index t 2 = 0 := (by decide +kernel : ∀ t : Fin grid0.N, _)
theorem idx15 : ∀ t : Fin cfg0.N, win0_15.index t 0 = 0 ∧ win0_15.index t 1 = 0 := (by decide +kernel : ∀ t : Fin grid0.N, _)
theorem idx16 : ∀ t : Fin cfg0.N, win0_16.index t 0 = 0 ∧ win0_16.index t 1 = t.val ∧ win0_16.index t 2 = 0 := (by decide +kernel : ∀ t : Fin grid0.N, _)
theorem idx17 : ∀ t : Fin cfg0.N, win0_17.index t 0 = 0 ∧ win0_17.index t 1 = t.val ∧ win0_17.index t 2 = 0 := (by decide +kernel : ∀ t : Fin grid0.N, _)

/-- The residual stream's tokens: 128 of each batch row. -/
theorem blk0 (c : Dev nD) (t : Fin cfg0.N) (p : Fin 8) (r : Fin 128) (d : Fin 1024) (R : Fin 4096) (hR : R.val = 128 * t.val + r.val) :
    iblk m c 0 t (ix3 p r d) = m ((c : Thread nD τ).loc main_arg0) (ix3 p R d) := by
  obtain ⟨h0, h1, h2⟩ := idx0 t
  blk_simp [iblk]
  refine congrArg (m ((c : Thread nD τ).loc main_arg0)) (funext fun a => Fin.ext ?_)
  match a with
  | ⟨0, _⟩ => show win0_0.index t 0 * 8 + 1 * p.val = p.val; omega
  | ⟨1, _⟩ => show win0_0.index t 1 * 128 + 1 * r.val = R.val; omega
  | ⟨2, _⟩ => show win0_0.index t 2 * 1024 + 1 * d.val = d.val; omega

/-- The first branch's tokens. -/
theorem blk1 (c : Dev nD) (t : Fin cfg0.N) (p : Fin 8) (r : Fin 128) (d : Fin 512) (R : Fin 4096) (hR : R.val = 128 * t.val + r.val) :
    iblk m c 1 t (ix3 p r d) = m ((c : Thread nD τ).loc main_arg1) (ix3 p R d) := by
  obtain ⟨h0, h1, h2⟩ := idx1 t
  blk_simp [iblk]
  refine congrArg (m ((c : Thread nD τ).loc main_arg1)) (funext fun a => Fin.ext ?_)
  match a with
  | ⟨0, _⟩ => show win0_1.index t 0 * 8 + 1 * p.val = p.val; omega
  | ⟨1, _⟩ => show win0_1.index t 1 * 128 + 1 * r.val = R.val; omega
  | ⟨2, _⟩ => show win0_1.index t 2 * 512 + 1 * d.val = d.val; omega

/-- The forward scan's time-major rows. -/
theorem blk2 (c : Dev nD) (t : Fin cfg0.N) (r : Fin 1024) (k : Fin 512) (R : Fin 32768) (hR : R.val = 1024 * t.val + r.val) :
    iblk m c 2 t (ix2 r k) = m ((c : Thread nD τ).loc main_arg2) (ix2 R k) := by
  obtain ⟨h0, h1⟩ := idx2 t
  blk_simp [iblk]
  refine congrArg (m ((c : Thread nD τ).loc main_arg2)) (funext fun a => Fin.ext ?_)
  match a with
  | ⟨0, _⟩ => show win0_2.index t 0 * 1024 + 1 * r.val = R.val; omega
  | ⟨1, _⟩ => show win0_2.index t 1 * 512 + 1 * k.val = k.val; omega

/-- The backward scan's. -/
theorem blk3 (c : Dev nD) (t : Fin cfg0.N) (r : Fin 1024) (k : Fin 512) (R : Fin 32768) (hR : R.val = 1024 * t.val + r.val) :
    iblk m c 3 t (ix2 r k) = m ((c : Thread nD τ).loc main_arg3) (ix2 R k) := by
  obtain ⟨h0, h1⟩ := idx3 t
  blk_simp [iblk]
  refine congrArg (m ((c : Thread nD τ).loc main_arg3)) (funext fun a => Fin.ext ?_)
  match a with
  | ⟨0, _⟩ => show win0_3.index t 0 * 1024 + 1 * r.val = R.val; omega
  | ⟨1, _⟩ => show win0_3.index t 1 * 512 + 1 * k.val = k.val; omega

/-- The scans' input. -/
theorem blk4 (c : Dev nD) (t : Fin cfg0.N) (r : Fin 1024) (k : Fin 512) (R : Fin 32768) (hR : R.val = 1024 * t.val + r.val) :
    iblk m c 4 t (ix2 r k) = m ((c : Thread nD τ).loc main_arg4) (ix2 R k) := by
  obtain ⟨h0, h1⟩ := idx4 t
  blk_simp [iblk]
  refine congrArg (m ((c : Thread nD τ).loc main_arg4)) (funext fun a => Fin.ext ?_)
  match a with
  | ⟨0, _⟩ => show win0_4.index t 0 * 1024 + 1 * r.val = R.val; omega
  | ⟨1, _⟩ => show win0_4.index t 1 * 512 + 1 * k.val = k.val; omega

/-- The input's gains. -/
theorem blk5 (c : Dev nD) (t : Fin cfg0.N) (k : Fin 512) :
    iblk m c 5 t (ix2 0 k) = m ((c : Thread nD τ).loc main_arg5) (ix1 k) := by
  obtain ⟨h0, h1⟩ := idx5 t
  have e : iblk m c 5 t (ix2 0 k) = V m c main_v9 (ix2 0 k) := by
    blk_simp [iblk]
    refine congrArg (V m c main_v9) (funext fun a => Fin.ext ?_)
    match a with
    | ⟨0, _⟩ => show win0_5.index t 0 * 1 + 1 * 0 = 0; omega
    | ⟨1, _⟩ => show win0_5.index t 1 * 512 + 1 * k.val = k.val; omega
  rw [e, V_skip]
  pointwise

/-- The gate's bias. -/
theorem blk7 (c : Dev nD) (t : Fin cfg0.N) (k : Fin 512) :
    iblk m c 7 t (ix2 0 k) = m ((c : Thread nD τ).loc main_arg7) (ix1 k) := by
  obtain ⟨h0, h1⟩ := idx7 t
  have e : iblk m c 7 t (ix2 0 k) = V m c main_v11 (ix2 0 k) := by
    blk_simp [iblk]
    refine congrArg (V m c main_v11) (funext fun a => Fin.ext ?_)
    match a with
    | ⟨0, _⟩ => show win0_7.index t 0 * 1 + 1 * 0 = 0; omega
    | ⟨1, _⟩ => show win0_7.index t 1 * 512 + 1 * k.val = k.val; omega
  rw [e, V_gateBias]
  pointwise

/-- The norm's gains. -/
theorem blk11 (c : Dev nD) (t : Fin cfg0.N) (k : Fin 1024) :
    iblk m c 11 t (ix2 0 k) = m ((c : Thread nD τ).loc main_arg10) (ix1 k) := by
  obtain ⟨h0, h1⟩ := idx11 t
  have e : iblk m c 11 t (ix2 0 k) = V m c main_v16 (ix2 0 k) := by
    blk_simp [iblk]
    refine congrArg (V m c main_v16) (funext fun a => Fin.ext ?_)
    match a with
    | ⟨0, _⟩ => show win0_11.index t 0 * 1 + 1 * 0 = 0; omega
    | ⟨1, _⟩ => show win0_11.index t 1 * 1024 + 1 * k.val = k.val; omega
  rw [e, V_gain]
  pointwise

/-- The gate's weights. -/
theorem blk6 (c : Dev nD) (t : Fin cfg0.N) (k n : Fin 512) :
    iblk m c 6 t (ix2 k n) = m ((c : Thread nD τ).loc main_arg6) (ix2 k n) := by
  obtain ⟨h0, h1⟩ := idx6 t
  have e : iblk m c 6 t (ix2 k n) = V m c main_v10 (ix2 k n) := by
    blk_simp [iblk]
    refine congrArg (V m c main_v10) (funext fun a => Fin.ext ?_)
    match a with
    | ⟨0, _⟩ => show win0_6.index t 0 * 512 + 1 * k.val = k.val; omega
    | ⟨1, _⟩ => show win0_6.index t 1 * 512 + 1 * n.val = n.val; omega
  rw [e, V_gate]
  rfl

/-- The output weights' rows of the first branch. -/
theorem blk8 (c : Dev nD) (t : Fin cfg0.N) (x : Fin 512) (d : Fin 1024) :
    iblk m c 8 t (ix2 x d) = m ((c : Thread nD τ).loc main_arg8) (ix2 ⟨x.val, by omega⟩ d) := by
  obtain ⟨h0, h1⟩ := idx8 t
  have e : iblk m c 8 t (ix2 x d) = V m c main_v13 (ix2 x d) := by
    blk_simp [iblk]
    refine congrArg (V m c main_v13) (funext fun a => Fin.ext ?_)
    match a with
    | ⟨0, _⟩ => show win0_8.index t 0 * 512 + 1 * x.val = x.val; omega
    | ⟨1, _⟩ => show win0_8.index t 1 * 1024 + 1 * d.val = d.val; omega
  rw [e, V_upper]
  pointwise

/-- Those of the second. -/
theorem blk9 (c : Dev nD) (t : Fin cfg0.N) (x : Fin 512) (d : Fin 1024) :
    iblk m c 9 t (ix2 x d) = m ((c : Thread nD τ).loc main_arg8) (ix2 ⟨512 + x.val, by omega⟩ d) := by
  obtain ⟨h0, h1⟩ := idx9 t
  have e : iblk m c 9 t (ix2 x d) = V m c main_v15 (ix2 x d) := by
    blk_simp [iblk]
    refine congrArg (V m c main_v15) (funext fun a => Fin.ext ?_)
    match a with
    | ⟨0, _⟩ => show win0_9.index t 0 * 512 + 1 * x.val = x.val; omega
    | ⟨1, _⟩ => show win0_9.index t 1 * 1024 + 1 * d.val = d.val; omega
  rw [e, V_lower]
  pointwise

/-- The mixer's gates. -/
theorem blk10 (c : Dev nD) (t : Fin cfg0.N) (p : Fin 8) (d : Fin 1024) :
    iblk m c 10 t (ix3 p 0 d) = m ((c : Thread nD τ).loc main_arg9) (ix3 p 0 d) := by
  obtain ⟨h0, h1, h2⟩ := idx10 t
  blk_simp [iblk]
  refine congrArg (m ((c : Thread nD τ).loc main_arg9)) (funext fun a => Fin.ext ?_)
  match a with
  | ⟨0, _⟩ => show win0_10.index t 0 * 8 + 1 * p.val = p.val; omega
  | ⟨1, _⟩ => show win0_10.index t 1 * 1 + 1 * 0 = 0; omega
  | ⟨2, _⟩ => show win0_10.index t 2 * 1024 + 1 * d.val = d.val; omega

/-- The shift of each batch row. -/
theorem blk12 (c : Dev nD) (t : Fin cfg0.N) (p : Fin 8) (d : Fin 1024) :
    iblk m c 12 t (ix3 p 0 d) = m ((c : Thread nD τ).loc main_arg11) (ix3 p 0 d) := by
  obtain ⟨h0, h1, h2⟩ := idx12 t
  blk_simp [iblk]
  refine congrArg (m ((c : Thread nD τ).loc main_arg11)) (funext fun a => Fin.ext ?_)
  match a with
  | ⟨0, _⟩ => show win0_12.index t 0 * 8 + 1 * p.val = p.val; omega
  | ⟨1, _⟩ => show win0_12.index t 1 * 1 + 1 * 0 = 0; omega
  | ⟨2, _⟩ => show win0_12.index t 2 * 1024 + 1 * d.val = d.val; omega

/-- The scale of each batch row. -/
theorem blk13 (c : Dev nD) (t : Fin cfg0.N) (p : Fin 8) (d : Fin 1024) :
    iblk m c 13 t (ix3 p 0 d) = m ((c : Thread nD τ).loc main_arg12) (ix3 p 0 d) := by
  obtain ⟨h0, h1, h2⟩ := idx13 t
  blk_simp [iblk]
  refine congrArg (m ((c : Thread nD τ).loc main_arg12)) (funext fun a => Fin.ext ?_)
  match a with
  | ⟨0, _⟩ => show win0_13.index t 0 * 8 + 1 * p.val = p.val; omega
  | ⟨1, _⟩ => show win0_13.index t 1 * 1 + 1 * 0 = 0; omega
  | ⟨2, _⟩ => show win0_13.index t 2 * 1024 + 1 * d.val = d.val; omega

/-- The permutation matrix. -/
theorem blk15 (c : Dev nD) (t : Fin cfg0.N) (i y : Fin 512) : iblk m c 15 t (ix2 i y) = permArr (ix2 i y) := by
  obtain ⟨h0, h1⟩ := idx15 t
  rw [← V_perm m c]
  blk_simp [iblk]
  refine congrArg (V m c main_v8) (funext fun a => Fin.ext ?_)
  match a with
  | ⟨0, _⟩ => show win0_15.index t 0 * 512 + 1 * i.val = i.val; omega
  | ⟨1, _⟩ => show win0_15.index t 1 * 512 + 1 * y.val = y.val; omega

/-! ## The blocks a point writes -/

/-- The gated rows a point forms. -/
abbrev gatedOf (c : Dev nD) (t : Fin cfg0.N) : FVec Ideal S1024x512 .f32 :=
  k0_pay3 (iblk m c 2 t) (iblk m c 3 t) (iblk m c 5 t) (iblk m c 4 t) (iblk m c 6 t) (iblk m c 7 t)

theorem gatedOf_apply (c : Dev nD) (t : Fin cfg0.N) (r : Fin 1024) (n : Fin 512) (R : Fin 32768) (hR : R.val = 1024 * t.val + r.val) :
    gatedOf m c t (ix2 r n) = gatedAt (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R n := by
  refine (gated_apply _ _ _ _ _ _ r n).trans ?_
  have e2 := funext fun k => blk2 m c t r k R hR
  have e3 := funext fun k => blk3 m c t r k R hR
  have e4 := funext fun k => blk4 m c t r k R hR
  have e5 := funext fun k => blk5 m c t k
  have e6 := funext fun k => funext fun n => blk6 m c t k n
  have e7 := funext fun k => blk7 m c t k
  exact congr (congr (congr (congrArg gated (congr (congr (congr (congrArg readout e2) e3) e5) e4)) e6) e7) rfl

/-- The gated rows in token order. -/
theorem woven_block (c : Dev nD) (t : Fin cfg0.N) (p : Fin 8) (r : Fin 128) (x : Fin 512) (R : Fin 4096) (hR : R.val = 128 * t.val + r.val)
    (q : Fin 1024) (hq : q.val = p.val * 128 + r.val) :
    woven (halfA (gatedOf m c t) (iblk m c 15 t)) (halfB (gatedOf m c t) (iblk m c 15 t)) (ix2 q x)
      = gatedAt (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨R.val * 8 + p.val, by omega⟩ x := by
  have hp := p.isLt
  have hr := r.isLt
  have hd : q.val / 128 = p.val ∧ q.val % 128 = r.val ∧ q.val % 64 = r.val % 64 := by omega
  have hi : (p.val * 64 + r.val % 64) % 64 = r.val % 64 ∧ (p.val * 64 + r.val % 64) / 64 = p.val := by omega
  have hi' : p.val * 64 + r.val % 64 < 512 := by omega
  rw [woven_apply _ _ q x ⟨p.val * 64 + r.val % 64, hi'⟩ (by show p.val * 64 + r.val % 64 = _; rw [hd.1, hd.2.2]), hd.2.1]
  split_ifs with h
  · rw [halfA_apply]
    refine (Finset.sum_congr rfl fun y _ => congrArg (fun a : EReal => @HMul.hMul EReal EReal EReal _ a _) (blk15 m c t _ y)).trans ?_
    refine (perm_sum _ fun y => gatedOf m c t (ix2 ⟨0 + y.val, by omega⟩ x)).trans ?_
    refine gatedOf_apply m c t _ x _ ?_
    show R.val * 8 + p.val = 1024 * t.val + (0 + ((p.val * 64 + r.val % 64) % 64 * 8 + (p.val * 64 + r.val % 64) / 64))
    rw [hi.1, hi.2, hR]
    omega
  · rw [halfB_apply]
    refine (Finset.sum_congr rfl fun y _ => congrArg (fun a : EReal => @HMul.hMul EReal EReal EReal _ a _) (blk15 m c t _ y)).trans ?_
    refine (perm_sum _ fun y => gatedOf m c t (ix2 ⟨512 + y.val, by omega⟩ x)).trans ?_
    refine gatedOf_apply m c t _ x _ ?_
    show R.val * 8 + p.val = 1024 * t.val + (512 + ((p.val * 64 + r.val % 64) % 64 * 8 + (p.val * 64 + r.val % 64) / 64))
    rw [hi.1, hi.2, hR]
    omega

/-- The two branches' product a point forms. -/
abbrev mixedOf (c : Dev nD) (t : Fin cfg0.N) : FVec Ideal S1024x1024 .f32 :=
  k0_pay4 (gatedOf m c t) (iblk m c 15 t) (iblk m c 15 t) (iblk m c 1 t) (iblk m c 8 t) (iblk m c 9 t)

theorem mixedOf_apply (c : Dev nD) (t : Fin cfg0.N) (p : Fin 8) (r : Fin 128) (d : Fin 1024) (R : Fin 4096) (hR : R.val = 128 * t.val + r.val)
    (q : Fin 1024) (hq : q.val = p.val * 128 + r.val) :
    mixedOf m c t (ix2 q d) = mixedAt (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p R d := by
  have hp := p.isLt
  have hr := r.isLt
  refine (mixed_apply _ _ _ _ _ q d).trans ?_
  refine congrArg₂ (· + ·) (Finset.sum_congr rfl fun x _ => ?_) (Finset.sum_congr rfl fun x _ => ?_)
  · refine congrArg₂ (· * ·) ?_ (blk8 m c t x d)
    have ep : (⟨q.val / 128, by omega⟩ : Fin 8) = p := Fin.ext (by show q.val / 128 = p.val; omega)
    have er : (⟨q.val % 128, by omega⟩ : Fin 128) = r := Fin.ext (by show q.val % 128 = r.val; omega)
    rw [ep, er]
    exact blk1 m c t p r x R hR
  · exact congrArg₂ (· * ·) (woven_block m c t p r x R hR q hq) (blk9 m c t x d)

/-- The stream's entry at a point. -/
theorem streamOf_apply (c : Dev nD) (t : Fin cfg0.N) (p : Fin 8) (r : Fin 128) (d : Fin 1024) (R : Fin 4096) (hR : R.val = 128 * t.val + r.val) :
    k0_pay5 (mixedOf m c t) (iblk m c 0 t) (iblk m c 10 t) (ix3 p r d) = streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p R d := by
  refine (stream_apply _ _ _ p r d).trans ?_
  exact congrArg₂ (· + ·) (blk0 m c t p r d R hR) (congrArg₂ (· * ·) (blk10 m c t p d) (mixedOf_apply m c t p r d R hR _ rfl))

/-- The product the later values share, its loads being of whole blocks. -/
theorem pay19_eq (x0 : Vec Ideal S8x128x1024 .f32) (x1 : Vec Ideal S8x128x512 .f32) (x2 : Vec Ideal S1024x512 .f32) (x3 : Vec Ideal S1024x512 .f32) (x4 : Vec Ideal S1024x512 .bf16) (x5 : Vec Ideal S1x512 .f32) (x6 : Vec Ideal S512x512 .bf16) (x7 : Vec Ideal S1x512 .f32) (x8 : Vec Ideal S512x1024 .bf16) (x9 : Vec Ideal S512x1024 .bf16) (x10 : Vec Ideal S8x1x1024 .f32) (x11 : Vec Ideal S1x1024 .f32) (x12 : Vec Ideal S8x1x1024 .f32) (x13 : Vec Ideal S8x1x1024 .f32) (x14 : Vec Ideal S16x1024 .f32) (x15 : Vec Ideal S512x512 .bf16) :
    k0_pay19 x0 x1 x2 x3 x4 x5 x6 x7 x8 x9 x10 x11 x12 x13 x14 x15 = k0_pay4 (k0_pay3 x2 x3 x5 x4 x6 x7) x15 x15 x1 x8 x9 := by
  have e_x2 : View.ld x2 r0_0 = x2 := View.ld_unit_lit _ x2 (by decide)
  have e_x3 : View.ld x3 r0_0 = x3 := View.ld_unit_lit _ x3 (by decide)
  have e_x5 : View.ld x5 r0_1 = x5 := View.ld_unit_lit _ x5 (by decide)
  have e_x4 : View.ld x4 r0_0 = x4 := View.ld_unit_lit _ x4 (by decide)
  have e_x6 : View.ld x6 r0_2 = x6 := View.ld_unit_lit _ x6 (by decide)
  have e_x7 : View.ld x7 r0_1 = x7 := View.ld_unit_lit _ x7 (by decide)
  have e_x15 : View.ld x15 r0_2 = x15 := View.ld_unit_lit _ x15 (by decide)
  have e_x1 : View.ld x1 r0_3 = x1 := View.ld_unit_lit _ x1 (by decide)
  have e_x8 : View.ld x8 r0_4 = x8 := View.ld_unit_lit _ x8 (by decide)
  have e_x9 : View.ld x9 r0_4 = x9 := View.ld_unit_lit _ x9 (by decide)
  unfold k0_pay19
  rw [e_x2, e_x3, e_x5, e_x4, e_x6, e_x7, e_x15, e_x1, e_x8, e_x9]

/-- The first result's block. -/
theorem stream_block (c : Dev nD) (t : Fin cfg0.N) (p : Fin 8) (r : Fin 128) (d : Fin 1024) (R : Fin 4096) (hR : R.val = 128 * t.val + r.val) :
    (dats m 0 c).after 16 t (ix3 p r d) = streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p R d := by
  rw [after0_16]
  frame_out
  rw [pay19_eq]
  exact streamOf_apply m c t p r d R hR

/-- The second result's block. -/
theorem tail_block (c : Dev nD) (t : Fin cfg0.N) (p : Fin 8) (r : Fin 128) (d : Fin 1024) (R : Fin 4096) (hR : R.val = 128 * t.val + r.val) :
    (dats m 0 c).after 17 t (ix3 p r d) = tailAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) p R d := by
  rw [after0_17]
  frame_out
  rw [pay19_eq]
  refine (tail_apply _ _ _ _ _ _ p r d).trans ?_
  have e0 := funext fun d => streamOf_apply m c t p r d R hR
  have e1 := funext fun d => blk11 m c t d
  have e2 := funext fun d => blk12 m c t p d
  have e3 := funext fun d => blk13 m c t p d
  exact congr (congr (congr (congr (congrArg modulated e0) e1) e2) e3) rfl

theorem covers16 : (cfg0.win 16).Covers := by decide +kernel
theorem covers17 : (cfg0.win 17).Covers := by decide +kernel

/-- The first result array after the region. -/
theorem stream_array (c : Dev nD) :
    (dats m 0 c).arrAt 16 cfg0.N = fun y : S8x4096x1024.Idx => streamAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (y 0) (y 1) (y 2) := by
  refine (dats m 0 c).arrAt_eq_of_covers 16 _ covers16 fun t hf y => ?_
  blk_simp
  have ht : t.val < 32 := t.isLt
  obtain ⟨h0, h1, h2⟩ := idx16 t
  obtain ⟨p, r, d, rfl⟩ : ∃ (p : Fin 8) (r : Fin 128) (d : Fin 1024), y = (ix3 p r d : S8x128x1024.Idx) := ⟨y (0 : Fin 3), y (1 : Fin 3), y (2 : Fin 3), by
    funext a; match a with | ⟨0, _⟩ => rfl | ⟨1, _⟩ => rfl | ⟨2, _⟩ => rfl⟩
  refine (stream_block m c t p r d ⟨128 * t.val + r.val, by omega⟩ rfl).trans ?_
  have e0 : p = ((cfg0.win 16).blk t).view.emb (ix3 p r d : S8x128x1024.Idx) (0 : Fin 3) := Fin.ext (by
    show p.val = win0_16.index t 0 * 8 + 1 * p.val; omega)
  have e1 : (⟨128 * t.val + r.val, by omega⟩ : Fin 4096) = ((cfg0.win 16).blk t).view.emb (ix3 p r d : S8x128x1024.Idx) (1 : Fin 3) := Fin.ext (by
    show 128 * t.val + r.val = win0_16.index t 1 * 128 + 1 * r.val; omega)
  have e2 : d = ((cfg0.win 16).blk t).view.emb (ix3 p r d : S8x128x1024.Idx) (2 : Fin 3) := Fin.ext (by
    show d.val = win0_16.index t 2 * 1024 + 1 * d.val; omega)
  exact congr (congrArg₂ (streamAt _ _ _ _ _ _ _ _ _ _) e0 e1) e2

/-- The second result array after the region. -/
theorem tail_array (c : Dev nD) :
    (dats m 0 c).arrAt 17 cfg0.N = fun y : S8x4096x1024.Idx => tailAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (y 0) (y 1) (y 2) := by
  refine (dats m 0 c).arrAt_eq_of_covers 17 _ covers17 fun t hf y => ?_
  blk_simp
  have ht : t.val < 32 := t.isLt
  obtain ⟨h0, h1, h2⟩ := idx17 t
  obtain ⟨p, r, d, rfl⟩ : ∃ (p : Fin 8) (r : Fin 128) (d : Fin 1024), y = (ix3 p r d : S8x128x1024.Idx) := ⟨y (0 : Fin 3), y (1 : Fin 3), y (2 : Fin 3), by
    funext a; match a with | ⟨0, _⟩ => rfl | ⟨1, _⟩ => rfl | ⟨2, _⟩ => rfl⟩
  refine (tail_block m c t p r d ⟨128 * t.val + r.val, by omega⟩ rfl).trans ?_
  have e0 : p = ((cfg0.win 17).blk t).view.emb (ix3 p r d : S8x128x1024.Idx) (0 : Fin 3) := Fin.ext (by
    show p.val = win0_17.index t 0 * 8 + 1 * p.val; omega)
  have e1 : (⟨128 * t.val + r.val, by omega⟩ : Fin 4096) = ((cfg0.win 17).blk t).view.emb (ix3 p r d : S8x128x1024.Idx) (1 : Fin 3) := Fin.ext (by
    show 128 * t.val + r.val = win0_17.index t 1 * 128 + 1 * r.val; omega)
  have e2 : d = ((cfg0.win 17).blk t).view.emb (ix3 p r d : S8x128x1024.Idx) (2 : Fin 3) := Fin.ext (by
    show d.val = win0_17.index t 2 * 1024 + 1 * d.val; omega)
  exact congr (congrArg₂ (tailAt _ _ _ _ _ _ _ _ _ _ _ _ _) e0 e1) e2

end Cert.MixIdeal.Hand

end
-- ==== Proof.MixRef.lean ====
/-
  The mixer tail's reference at an index: the activated readout (`activated_apply`), its gated rows (`gatedArr_apply`), the residual
  stream after the mixer (`stream_ref`) and its normalised and modulated rows (`tail_ref`).
-/
module

public import proofs.«01_k».proof.Proof.MixBlock
public import proofs.«01_k».proof.Proof.Gen.MixRefIdeal.Run

@[expose] public section

set_option maxRecDepth 16384

noncomputable section

namespace Cert.MixRefIdeal.Hand

open Idealize.ShloMosaic Idealize.ShloMosaic.TcCoe Idealize.ShloMosaic.Tactic
open Cert.MixRefIdeal Cert.MixRefIdeal.Gen Cert.MixIdeal.Hand
open Cert.ProjectIdeal.Hand (modulated)
open scoped BigOperators

variable (X : FVec Ideal S8x4096x1024 .f32) (Hy : FVec Ideal S8x4096x512 .f32) (Yf Yb : FVec Ideal S32768x512 .f32) (U : FVec Ideal S32768x512 .bf16)
  (D : FVec Ideal S512 .f32) (Gw : FVec Ideal S512x512 .f32) (Gb : FVec Ideal S512 .f32) (Wo : FVec Ideal S1024x1024 .f32) (G1 : FVec Ideal S8x1x1024 .f32)
  (N : FVec Ideal S1024 .f32) (Sh Sc : FVec Ideal S8x1x1024 .f32)

/-- The scans' readout. -/
def readoutArr : FVec Ideal S32768x512 .f32 :=
  addf (addf Yf Yb) (mulf (broadcastInDim S32768x512 ![0, 1] bcast_S1x512_S32768x512_0_1 (broadcastInDim S1x512 ![1] bcast_S512_S1x512_1 D)) (extf .f32 U bitsLt_bf16_f32))

/-- Its activation. -/
def activated : FVec Ideal S32768x512 .f32 :=
  mulf (readoutArr Yf Yb U D) (mulf (broadcastInDim S32768x512 ![] bcast_S_S32768x512 (constant S_ .f32 0x3F000000#32)) (addf (broadcastInDim S32768x512 ![] bcast_S_S32768x512 (constant S_ .f32 0x3F800000#32)) (Host.tanh (mulf (broadcastInDim S32768x512 ![] bcast_S_S32768x512 (constant S_ .f32 0x3F4C422A#32)) (addf (readoutArr Yf Yb U D) (mulf (broadcastInDim S32768x512 ![] bcast_S_S32768x512 (constant S_ .f32 0x3D372713#32)) (mulf (mulf (readoutArr Yf Yb U D) (readoutArr Yf Yb U D)) (readoutArr Yf Yb U D))))))))

/-- The activation, gated. -/
def gatedArr : FVec Ideal S32768x512 .f32 :=
  mulf (activated Yf Yb U D) (Host.divf (broadcastInDim S32768x512 ![] bcast_S_S32768x512 (constant S_ .f32 0x3F800000#32)) (addf (broadcastInDim S32768x512 ![] bcast_S_S32768x512 (constant S_ .f32 0x3F800000#32)) (Host.exp (Host.negf (addf (Host.dotGeneral dot_S32768x512_S512x512_S32768x512_1_0_0_1_n_n none (activated Yf Yb U D) Gw) (broadcastInDim S32768x512 ![0, 1] bcast_S1x512_S32768x512_0_1 (broadcastInDim S1x512 ![1] bcast_S512_S1x512_1 Gb)))))))

/-- The two branches side by side, in token order. -/
def branches : FVec Ideal S8x4096x1024 .f32 :=
  concatenate S8x4096x1024 2 [⟨S8x4096x512, Hy⟩, ⟨S8x4096x512, (transpose S8x4096x512 [1, 0, 2] (shapeCast S4096x8x512 (gatedArr Yf Yb U D Gw Gb) shapeCasts_S32768x512_S4096x8x512) transposes_S4096x8x512_S8x4096x512_1_0_2)⟩] concatenates_S8x4096x512_S8x4096x512_S8x4096x1024_d2

/-- The residual stream after the mixer. -/
def streamArr : FVec Ideal S8x4096x1024 .f32 :=
  addf X (mulf (broadcastInDim S8x4096x1024 ![0, 1, 2] bcast_S8x1x1024_S8x4096x1024_0_1_2 G1) (Host.dotGeneral dot_S8x4096x1024_S1024x1024_S8x4096x1024_2_0_01_1_n_n none (branches Hy Yf Yb U D Gw Gb) Wo))

/-- Its rows normalised and modulated. -/
def tailArr : FVec Ideal S8x4096x1024 .bf16 :=
  truncf .bf16 (addf (mulf (mulf (mulf (streamArr X Hy Yf Yb U D Gw Gb Wo G1) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (streamArr X Hy Yf Yb U D Gw Gb Wo G1) (streamArr X Hy Yf Yb U D Gw Gb Wo G1)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 N))) (broadcastInDim S8x4096x1024 ![0, 1, 2] bcast_S8x1x1024_S8x4096x1024_0_1_2 (addf (broadcastInDim S8x1x1024 ![] bcast_S_S8x1x1024 (constant S_ .f32 0x3F800000#32)) Sc))) (broadcastInDim S8x4096x1024 ![0, 1, 2] bcast_S8x1x1024_S8x4096x1024_0_1_2 Sh)) bitsLt_bf16_f32

theorem readoutArr_apply (r : Fin 32768) (n : Fin 512) :
    readoutArr Yf Yb U D (ix2 r n) = readout (fun k => Yf (ix2 r k)) (fun k => Yb (ix2 r k)) (fun k => D (ix1 k)) (fun k => U (ix2 r k)) n := by
  pointwise [readoutArr]
  rfl

theorem activated_apply (r : Fin 32768) (n : Fin 512) :
    activated Yf Yb U D (ix2 r n) = act (readout (fun k => Yf (ix2 r k)) (fun k => Yb (ix2 r k)) (fun k => D (ix1 k)) (fun k => U (ix2 r k)) n) := by
  pointwise [activated]
  rw [readoutArr_apply]
  unfold act
  rw [← mul_assoc, mul_comm _ (Ideal.ofBits .f32 0x3F000000#32)]

theorem gatedArr_apply (r : Fin 32768) (n : Fin 512) :
    gatedArr Yf Yb U D Gw Gb (ix2 r n) = gatedAt Yf Yb U D Gw Gb r n := by
  pointwise [gatedArr]
  simp only [activated_apply]
  rfl

theorem branches_upper (p : Fin 8) (R : Fin 4096) (x : Fin 512) :
    branches Hy Yf Yb U D Gw Gb (ix3 p R ⟨x.val, by omega⟩) = Hy (ix3 p R x) := by
  pointwise [branches]

theorem branches_lower (p : Fin 8) (R : Fin 4096) (x : Fin 512) :
    branches Hy Yf Yb U D Gw Gb (ix3 p R ⟨512 + x.val, by omega⟩) = gatedAt Yf Yb U D Gw Gb ⟨R.val * 8 + p.val, by omega⟩ x := by
  rw [← gatedArr_apply]
  pointwise [branches]

/-- The first result at an index. -/
theorem stream_ref (p : Fin 8) (R : Fin 4096) (d : Fin 1024) :
    streamArr X Hy Yf Yb U D Gw Gb Wo G1 (ix3 p R d) = streamAt X Hy Yf Yb U D Gw Gb Wo G1 p R d := by
  pointwise [streamArr]
  unfold streamAt mixedAt
  refine congrArg (fun z : EReal => X (ix3 p R d) + G1 (ix3 p 0 d) * z) ?_
  refine (Fin.sum_univ_add (a := 512) (b := 512) fun x : Fin 1024 => @HMul.hMul EReal EReal EReal _ (branches Hy Yf Yb U D Gw Gb (ix3 p R x)) (Wo (ix2 x d))).trans ?_
  refine congrArg₂ (· + ·) (Finset.sum_congr rfl fun x _ => ?_) (Finset.sum_congr rfl fun x _ => ?_)
  · exact congrArg (fun a : EReal => @HMul.hMul EReal EReal EReal _ a _) (branches_upper Hy Yf Yb U D Gw Gb p R x)
  · exact congrArg (fun a : EReal => @HMul.hMul EReal EReal EReal _ a _) (branches_lower Hy Yf Yb U D Gw Gb p R x)

/-- The second result at an index. -/
theorem tail_ref (p : Fin 8) (R : Fin 4096) (d : Fin 1024) :
    tailArr X Hy Yf Yb U D Gw Gb Wo G1 N Sh Sc (ix3 p R d)
      = tailAt X Hy Yf Yb U D Gw Gb Wo G1 N Sh Sc p R d := by
  pointwise [tailArr]
  simp only [stream_ref]
  rfl

/-- The run's two results are these arrays of its arguments. -/
theorem res_stream (m : (ℓ : Loc nD τ sig) → Buf (Elt Ideal) ℓ) (c : Dev nD) :
    Value.res_main_v36 m c = streamArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

theorem res_tail (m : (ℓ : Loc nD τ sig) → Buf (Elt Ideal) ℓ) (c : Dev nD) :
    Value.res_main_v56 m c = tailArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

end Cert.MixRefIdeal.Hand

end
-- ==== Proof.lean ====
/-
  The proof of the claims stated in the statement. The two frame claims of the feed-forward kernel are the generated frame theorems, the
  reference's is its run weakened; the ideal program is the printed one with no operation rewritten; and the algebraic claim puts the
  kernel's result array (Proof/FfnArray.lean) beside the reference's term (Proof/FfnRef.lean), index by index. The combine kernel's
  frames are hand-written, since its windows' places and its loop's length are read from tables the host computes
  (Proof/CombineRun.lean, Proof/CombineHost.lean and their ideal twins), under the ranges the preconditions give
  (Proof/CombinePre.lean); its algebraic claim puts Proof/CombineArray.lean beside Proof/CombineRef.lean. The input
  projection's frames are the generated ones, and its algebraic claim puts Proof/ProjectArray.lean beside Proof/ProjectRef.lean; so
  with the mixer's tail, Proof/MixArray.lean and Proof/MixRef.lean.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnRef
public import proofs.«01_k».proof.Proof.CombineHost
public import proofs.«01_k».proof.Proof.CombineIdealHost
public import proofs.«01_k».proof.Proof.CombinePre
public import proofs.«01_k».proof.Proof.CombineArray
public import proofs.«01_k».proof.Proof.CombineRef
public import proofs.«01_k».proof.Proof.Gen.CombineRefIdeal.Run
public import proofs.«01_k».proof.Proof.Gen.Project.Frame
public import proofs.«01_k».proof.Proof.Gen.ProjectIdeal.Value
public import proofs.«01_k».proof.Proof.Gen.ProjectRefIdeal.Run
public import proofs.«01_k».proof.Proof.ProjectArray
public import proofs.«01_k».proof.Proof.ProjectRef
public import proofs.«01_k».proof.Proof.Gen.Mix.Frame
public import proofs.«01_k».proof.Proof.Gen.MixIdeal.Frame
public import proofs.«01_k».proof.Proof.Gen.MixRefIdeal.Run
public import proofs.«01_k».proof.Proof.MixArray
public import proofs.«01_k».proof.Proof.MixRef
public import proofs.«01_k».proof.Proof.Gen.Pre_counts_in_range
public import proofs.«01_k».proof.Proof.Gen.Pre_slots_in_chunk
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference's run leaves the arguments and every counter as they were. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel and the reference leave the same array, at every index, over the extended reals. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  funext i
  obtain ⟨e, R, q, rfl⟩ : ∃ (e : Fin 16) (R : Fin 4096) (q : Fin 1024), i = ix3 e R q := ⟨i 0, i 1, i 2, by
    funext a; match a with | ⟨0, _⟩ => rfl | ⟨1, _⟩ => rfl | ⟨2, _⟩ => rfl⟩
  exact (Cert.FfnRefIdeal.Hand.ref_apply _ _ _ _ e R q).trans (Cert.FfnIdeal.Hand.array_apply m c e R q).symm

/-- The combine's frame, from the counts' range. -/
theorem quiescent_Combine : quiescent_Combine := fun m ρ hpre =>
  Cert.Combine.Hand.frame m ρ (Cert.Combine.Hand.wordsOK m fun c => Cert.CombineIdeal.Hand.strided_of_counts (F := Bits) _ _ _ _ _ _ _ (hpre c))

/-- The ideal combine's frame, from the counts' range. -/
theorem quiescent_CombineIdeal : quiescent_CombineIdeal := fun m ρ hpre =>
  Cert.CombineIdeal.Hand.frame m ρ (Cert.CombineIdeal.Hand.wordsOK m fun c => Cert.CombineIdeal.Hand.strided_of_counts (F := Ideal) _ _ _ _ _ _ _ (hpre c))

/-- The ideal combine's frame, from the slots lying in their chunks. -/
theorem quiescent_CombineIdeal_slots : quiescent_CombineIdeal_pre_slots_in_chunk := fun m ρ hpre =>
  Cert.CombineIdeal.Hand.frame m ρ (Cert.CombineIdeal.Hand.wordsOK m fun c => Cert.CombineIdeal.Hand.strided_of_slots (F := Ideal) _ _ _ _ _ _ _ (hpre c))

/-- The combine's reference leaves the arguments and every counter as they were. -/
theorem quiescent_CombineRefIdeal : quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- The combine kernel and its reference leave the same array, at every index, over the extended reals, when every slot lies in its
    chunk's stretch of the slots. -/
theorem algebraic_CombineIdeal_CombineRefIdeal : algebraic_CombineIdeal_CombineRefIdeal_pre_slots_in_chunk := by
  intro m ρ m' ρ' hpre hagree
  refine ⟨_, Cert.CombineIdeal.Hand.run_value m ρ
    (fun c => Cert.CombineIdeal.Hand.strided_of_slots (F := Ideal) _ _ _ _ _ _ _ (hpre c))
    (fun c => Cert.CombineIdeal.Hand.slotIn (F := Ideal) _ _ _ _ _ _ _ (hpre c)), ?_⟩
  refine (θ_run Cert.CombineRefIdeal.defs _ _).mono (fun _ h c => ⟨?_, (h c).2⟩) (Cert.CombineRefIdeal.Value.run (F := Ideal) m' ρ')
  rw [(h c).1]
  simp only [hagree c]
  funext i
  obtain ⟨p, R, d, rfl⟩ : ∃ (p : Fin 8) (R : Fin 4096) (d : Fin 1024), i = ix3 p R d := ⟨i 0, i 1, i 2, by
    funext a; match a with | ⟨0, _⟩ => rfl | ⟨1, _⟩ => rfl | ⟨2, _⟩ => rfl⟩
  exact Cert.CombineRefIdeal.Hand.ref_apply _ _ _ _ _ _ p R d

/-- The projection's reference leaves the arguments and every counter as they were. -/
theorem quiescent_ProjectRefIdeal : quiescent_ProjectRefIdeal := fun m ρ _ =>
  (θ_run Cert.ProjectRefIdeal.defs _ _).mono (fun r h => ⟨fun c => (h c).2.2, sem_eq_zero_of_no_sems (by decide) r.2⟩)
    (Cert.ProjectRefIdeal.Value.run (F := Ideal) m ρ)

/-- The projection kernel and its reference leave the same two arrays, at every index, over the extended reals. -/
theorem algebraic_ProjectIdeal_ProjectRefIdeal : algebraic_ProjectIdeal_ProjectRefIdeal := by
  intro m ρ m' ρ' _ hagree
  refine ⟨_, _, Cert.ProjectIdeal.Value.run_blocks (F := Ideal) m ρ, ?_⟩
  refine (θ_run Cert.ProjectRefIdeal.defs _ _).mono (fun _ h c => ⟨?_, ?_, (h c).2.2⟩) (Cert.ProjectRefIdeal.Value.run (F := Ideal) m' ρ')
  · rw [(h c).1, Cert.ProjectIdeal.Hand.tok_array]
    unfold Cert.ProjectRefIdeal.Value.res_main_v49
    simp only [hagree c]
    funext i
    obtain ⟨p, R, q, rfl⟩ : ∃ (p : Fin 8) (R : Fin 4096) (q : Fin 1536), i = ix3 p R q := ⟨i 0, i 1, i 2, by
      funext a; match a with | ⟨0, _⟩ => rfl | ⟨1, _⟩ => rfl | ⟨2, _⟩ => rfl⟩
    exact Cert.ProjectRefIdeal.Hand.tok_ref _ _ _ _ _ _ _ p R q
  · rw [(h c).2.1, Cert.ProjectIdeal.Hand.tm_array]
    simp only [hagree c]
    funext i
    obtain ⟨r, n, rfl⟩ : ∃ (r : Fin 32768) (n : Fin 512), i = ix2 r n := ⟨i 0, i 1, by
      funext a; match a with | ⟨0, _⟩ => rfl | ⟨1, _⟩ => rfl⟩
    exact Cert.ProjectRefIdeal.Hand.tm_ref _ _ _ _ _ r n

/-- The mixer tail's reference leaves the arguments and every counter as they were. -/
theorem quiescent_MixRefIdeal : quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The mixer tail and its reference leave the same two arrays, at every index, over the extended reals. -/
theorem algebraic_MixIdeal_MixRefIdeal : algebraic_MixIdeal_MixRefIdeal := by
  intro m ρ m' ρ' _ hagree
  refine ⟨_, _, Cert.MixIdeal.Hand.run_arrays m ρ, ?_⟩
  refine (θ_run Cert.MixRefIdeal.defs _ _).mono (fun _ h c => ⟨?_, ?_, (h c).2.2⟩) (Cert.MixRefIdeal.Value.run (F := Ideal) m' ρ')
  · rw [(h c).1, Cert.MixIdeal.Hand.stream_array, Cert.MixRefIdeal.Hand.res_stream]
    simp only [hagree c]
    funext i
    obtain ⟨p, R, d, rfl⟩ : ∃ (p : Fin 8) (R : Fin 4096) (d : Fin 1024), i = ix3 p R d := ⟨i 0, i 1, i 2, by
      funext a; match a with | ⟨0, _⟩ => rfl | ⟨1, _⟩ => rfl | ⟨2, _⟩ => rfl⟩
    exact Cert.MixRefIdeal.Hand.stream_ref _ _ _ _ _ _ _ _ _ _ p R d
  · rw [(h c).2.1, Cert.MixIdeal.Hand.tail_array, Cert.MixRefIdeal.Hand.res_tail]
    simp only [hagree c]
    funext i
    obtain ⟨p, R, d, rfl⟩ : ∃ (p : Fin 8) (R : Fin 4096) (d : Fin 1024), i = ix3 p R d := ⟨i 0, i 1, i 2, by
      funext a; match a with | ⟨0, _⟩ => rfl | ⟨1, _⟩ => rfl | ⟨2, _⟩ => rfl⟩
    exact Cert.MixRefIdeal.Hand.tail_ref _ _ _ _ _ _ _ _ _ _ _ _ _ p R d

/-- All the claims. -/
theorem claim : Cert.Claim := ⟨Cert.Ffn.Gen.facts, Cert.FfnIdeal.Gen.facts, Cert.FfnRefIdeal.Gen.facts,
  Cert.Combine.Gen.facts, Cert.CombineIdeal.Gen.facts, Cert.CombineRefIdeal.Gen.facts,
  Cert.Project.Gen.facts, Cert.ProjectIdeal.Gen.facts, Cert.ProjectRefIdeal.Gen.facts,
  Cert.Mix.Gen.facts, Cert.MixIdeal.Gen.facts, Cert.MixRefIdeal.Gen.facts, Cert.Pre_counts_in_range.Gen.facts, Cert.Pre_slots_in_chunk.Gen.facts,
  fun m ρ _ => Cert.Ffn.Gen.frame m ρ, fun m ρ _ => Cert.FfnIdeal.Gen.frame m ρ, quiescent_FfnRefIdeal,
  quiescent_Combine, quiescent_CombineIdeal, quiescent_CombineIdeal_slots, quiescent_CombineRefIdeal, fun m ρ _ => quiescent_CombineRefIdeal m ρ trivial,
  fun m ρ _ => Cert.Project.Gen.frame m ρ, fun m ρ _ => Cert.ProjectIdeal.Gen.frame m ρ, quiescent_ProjectRefIdeal,
  fun m ρ _ => Cert.Mix.Gen.frame m ρ, fun m ρ _ => Cert.MixIdeal.Gen.frame m ρ, quiescent_MixRefIdeal,
  (trivial : preserves_Ffn_FfnIdeal), algebraic_FfnIdeal_FfnRefIdeal, (trivial : preserves_Combine_CombineIdeal), algebraic_CombineIdeal_CombineRefIdeal,
  (trivial : preserves_Project_ProjectIdeal), algebraic_ProjectIdeal_ProjectRefIdeal,
  (trivial : preserves_Mix_MixIdeal), algebraic_MixIdeal_MixRefIdeal⟩

end Cert.Proof

end
